-- ==== Defs.lean ====
def Pre_Kernel [hPre_slots_partitioned : Cert.Pre_slots_partitioned.Facts] (m : (ℓ : Loc Cert.Kernel.nD Cert.Kernel.τ Cert.Kernel.sig) → Buf (Elt Bits) ℓ) : Prop :=
  ∀ c : Dev Cert.Kernel.nD,
    (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.1 = (fun _ => 1#1)
    ∧ (Cert.Pre_slots_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2 = (fun _ => 1#1)

def Pre_KernelIdeal [hPre_slots_partitioned : Cert.Pre_slots_partitioned.Facts] (m : (ℓ : Loc Cert.KernelIdeal.nD Cert.KernelIdeal.τ Cert.KernelIdeal.sig) → Buf (Elt Ideal) ℓ) : Prop :=
  ∀ c : Dev Cert.KernelIdeal.nD,
    (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_slots_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_partitioned [hPre_slots_partitioned : Cert.Pre_slots_partitioned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_slots_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2 = (fun _ => 1#1)

def Pre_Reference [hPre_slots_partitioned : Cert.Pre_slots_partitioned.Facts] (m : (ℓ : Loc Cert.Reference.nD Cert.Reference.τ Cert.Reference.sig) → Buf (Elt Bits) ℓ) : Prop :=
  ∀ c : Dev Cert.Reference.nD,
    (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.2.2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.2.2.2.2.1 = (fun _ => 1#1)
    ∧ (Cert.Pre_slots_partitioned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 [hPre_blocks_in_range : Cert.Pre_blocks_in_range.Facts] (m : (ℓ : Loc Cert.Kernel4.nD Cert.Kernel4.τ Cert.Kernel4.sig) → Buf (Elt Bits) ℓ) : Prop :=
  ∀ c : Dev Cert.Kernel4.nD,
    (Cert.Pre_blocks_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).1 = (fun _ => 1#1)
    ∧ (Cert.Pre_blocks_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).2 = (fun _ => 1#1)

def Pre_Kernel4Ideal [hPre_blocks_in_range : Cert.Pre_blocks_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_blocks_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_blocks_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_blocks_in_range [hPre_blocks_in_range : Cert.Pre_blocks_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_blocks_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_blocks_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_slots_partitioned : Cert.Pre_slots_partitioned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_slots_partitioned : Cert.Pre_slots_partitioned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_partitioned [hReferenceIdeal : Cert.ReferenceIdeal.Facts] [hPre_slots_partitioned : Cert.Pre_slots_partitioned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_partitioned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_slots_partitioned : Cert.Pre_slots_partitioned.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_blocks_in_range : Cert.Pre_blocks_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_blocks_in_range : Cert.Pre_blocks_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_blocks_in_range [hReference4Ideal : Cert.Reference4Ideal.Facts] [hPre_blocks_in_range : Cert.Pre_blocks_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_blocks_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_partitioned : Cert.Pre_slots_partitioned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_slots_partitioned : Cert.Pre_slots_partitioned.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v24) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_blocks_in_range : Cert.Pre_blocks_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_slots_partitioned : Cert.Pre_slots_partitioned.Facts) (hPre_experts_in_range : Cert.Pre_experts_in_range.Facts) (hPre_blocks_in_range : Cert.Pre_blocks_in_range.Facts),
    quiescent_Kernel (hKernel := hKernel) (hPre_slots_partitioned := hPre_slots_partitioned)
    ∧ quiescent_KernelIdeal (hKernelIdeal := hKernelIdeal) (hPre_slots_partitioned := hPre_slots_partitioned)
    ∧ quiescent_ReferenceIdeal (hReferenceIdeal := hReferenceIdeal)
    ∧ quiescent_ReferenceIdeal_pre_slots_partitioned (hReferenceIdeal := hReferenceIdeal) (hPre_slots_partitioned := hPre_slots_partitioned)
    ∧ quiescent_Reference (hReference := hReference) (hPre_slots_partitioned := hPre_slots_partitioned)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4) (hPre_blocks_in_range := hPre_blocks_in_range)
    ∧ quiescent_Kernel4Ideal (hKernel4Ideal := hKernel4Ideal) (hPre_blocks_in_range := hPre_blocks_in_range)
    ∧ quiescent_Reference4Ideal (hReference4Ideal := hReference4Ideal)
    ∧ quiescent_Reference4Ideal_pre_blocks_in_range (hReference4Ideal := hReference4Ideal) (hPre_blocks_in_range := hPre_blocks_in_range)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_slots_partitioned := hPre_slots_partitioned)
    ∧ bitexact_Kernel_Reference (hKernel := hKernel) (hReference := hReference) (hPre_slots_partitioned := hPre_slots_partitioned)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal) (hPre_blocks_in_range := hPre_blocks_in_range)
    ∧ preserves_Kernel5_Kernel5Ideal
    ∧ algebraic_Kernel5Ideal_Reference5Ideal (hKernel5Ideal := hKernel5Ideal) (hReference5Ideal := hReference5Ideal)
-- ==== Pre_blocks_in_range.lean ====
abbrev S57344x1024 : Shape := ⟨2, ![57344, 1024]⟩
abbrev S224 : Shape := ⟨1, ![224]⟩
abbrev S1 : Shape := ⟨1, ![1]⟩
abbrev S32x1024x2048 : Shape := ⟨3, ![32, 1024, 2048]⟩
abbrev S_ : Shape := ⟨0, ![]⟩

class Facts : Prop where
  bcast_S_S224 : S_.BroadcastsInDim S224 (![] : Fin 0 → Fin S224.rank)
  bcast_S_S1 : S_.BroadcastsInDim S1 (![] : Fin 0 → Fin S1.rank)

variable [Facts]

def fn {F : FTy → Type} [FloatOps F] (main_arg0 : FVec F S57344x1024 .bf16) (main_arg1 : IVec S224 32) (main_arg2 : IVec S1 32) (main_arg3 : FVec F S32x1024x2048 .f32) : IVec S224 1 × IVec S1 1 :=
  let main_c : IVec S_ 32 := constantI S_ 32 0#32
  let main_v0 : IVec S224 32 := broadcastInDim S224 ![] bcast_S_S224 main_c
  let main_v1 : IVec S224 1 := cmpi .sge main_arg1 main_v0
  let main_c_0 : IVec S_ 32 := constantI S_ 32 32#32
  let main_v2 : IVec S224 32 := broadcastInDim S224 ![] bcast_S_S224 main_c_0
  let main_v3 : IVec S224 1 := cmpi .slt main_arg1 main_v2
  let main_v4 : IVec S224 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Pre_experts_in_range.lean ====
abbrev S57344x2048 : Shape := ⟨2, ![57344, 2048]⟩
abbrev S224 : Shape := ⟨1, ![224]⟩
abbrev S1 : Shape := ⟨1, ![1]⟩
abbrev S32x2048x1024 : Shape := ⟨3, ![32, 2048, 1024]⟩
abbrev S_ : Shape := ⟨0, ![]⟩

class Facts : Prop where
  bcast_S_S224 : S_.BroadcastsInDim S224 (![] : Fin 0 → Fin S224.rank)
  bcast_S_S1 : S_.BroadcastsInDim S1 (![] : Fin 0 → Fin S1.rank)

variable [Facts]

def fn {F : FTy → Type} [FloatOps F] (main_arg0 : FVec F S57344x2048 .f32) (main_arg1 : IVec S224 32) (main_arg2 : IVec S1 32) (main_arg3 : FVec F S32x2048x1024 .f32) (main_arg4 : FVec F S32x2048x1024 .f32) : IVec S224 1 × IVec S1 1 :=
  let main_c : IVec S_ 32 := constantI S_ 32 0#32
  let main_v0 : IVec S224 32 := broadcastInDim S224 ![] bcast_S_S224 main_c
  let main_v1 : IVec S224 1 := cmpi .sge main_arg1 main_v0
  let main_c_0 : IVec S_ 32 := constantI S_ 32 32#32
  let main_v2 : IVec S224 32 := broadcastInDim S224 ![] bcast_S_S224 main_c_0
  let main_v3 : IVec S224 1 := cmpi .slt main_arg1 main_v2
  let main_v4 : IVec S224 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Pre_slots_partitioned.lean ====
abbrev S24576x2048 : Shape := ⟨2, ![24576, 2048]⟩
abbrev S24576 : Shape := ⟨1, ![24576]⟩
abbrev S32 : Shape := ⟨1, ![32]⟩
abbrev S57344 : Shape := ⟨1, ![57344]⟩
abbrev S24576x1 : Shape := ⟨2, ![24576, 1]⟩
abbrev S1x24576 : Shape := ⟨2, ![1, 24576]⟩
abbrev S24576x24576 : Shape := ⟨2, ![24576, 24576]⟩
abbrev S_ : Shape := ⟨0, ![]⟩
abbrev S1x32 : Shape := ⟨2, ![1, 32]⟩
abbrev S24576x32 : Shape := ⟨2, ![24576, 32]⟩
abbrev S57344x1 : Shape := ⟨2, ![57344, 1]⟩
abbrev S57344x32 : Shape := ⟨2, ![57344, 32]⟩
abbrev S57344x24576 : Shape := ⟨2, ![57344, 24576]⟩

class Facts : Prop where
  bcast_S24576_S24576x1_0 : S24576.BroadcastsInDim S24576x1 (![0] : Fin 1 → Fin S24576x1.rank)
  bcast_S24576_S1x24576_1 : S24576.BroadcastsInDim S1x24576 (![1] : Fin 1 → Fin S1x24576.rank)
  bcast_S24576x1_S24576x24576_0_1 : S24576x1.BroadcastsInDim S24576x24576 (![0, 1] : Fin 2 → Fin S24576x24576.rank)
  bcast_S1x24576_S24576x24576_0_1 : S1x24576.BroadcastsInDim S24576x24576 (![0, 1] : Fin 2 → Fin S24576x24576.rank)
  bcast_S_S24576 : S_.BroadcastsInDim S24576 (![] : Fin 0 → Fin S24576.rank)
  bcast_S_S32 : S_.BroadcastsInDim S32 (![] : Fin 0 → Fin S32.rank)
  bcast_S32_S1x32_1 : S32.BroadcastsInDim S1x32 (![1] : Fin 1 → Fin S1x32.rank)
  bcast_S24576x1_S24576x32_0_1 : S24576x1.BroadcastsInDim S24576x32 (![0, 1] : Fin 2 → Fin S24576x32.rank)
  bcast_S1x32_S24576x32_0_1 : S1x32.BroadcastsInDim S24576x32 (![0, 1] : Fin 2 → Fin S24576x32.rank)
  bcast_S57344_S57344x1_0 : S57344.BroadcastsInDim S57344x1 (![0] : Fin 1 → Fin S57344x1.rank)
  bcast_S57344x1_S57344x32_0_1 : S57344x1.BroadcastsInDim S57344x32 (![0, 1] : Fin 2 → Fin S57344x32.rank)
  bcast_S1x32_S57344x32_0_1 : S1x32.BroadcastsInDim S57344x32 (![0, 1] : Fin 2 → Fin S57344x32.rank)
  bcast_S1x24576_S57344x24576_0_1 : S1x24576.BroadcastsInDim S57344x24576 (![0, 1] : Fin 2 → Fin S57344x24576.rank)
  bcast_S57344x1_S57344x24576_0_1 : S57344x1.BroadcastsInDim S57344x24576 (![0, 1] : Fin 2 → Fin S57344x24576.rank)
  reducesTo_S57344x24576_S57344_d1 : S57344x24576.ReducesTo [1] S57344
  h_S_ : 0 < S_.numel
  reducesTo_S57344x32_S57344_d1 : S57344x32.ReducesTo [1] S57344

variable [Facts]

def fn_part4 {F : FTy → Type} [FloatOps F] (main_v11 : IVec S24576 1) (main_v16 : IVec S24576 1) (main_v23 : IVec S32 1) (main_v29 : IVec S24576x24576 1) (main_v35 : IVec S24576x24576 1) (main_v40 : IVec S24576x24576 1) (main_v51 : IVec S24576x32 1) (main_v62 : IVec S24576x32 1) (main_v73 : IVec S57344x32 1) (main_v86 : IVec S57344 1) (main_c_7 : IVec S_ 1) : IVec S24576 1 × IVec S24576 1 × IVec S32 1 × IVec S24576x24576 1 × IVec S24576x24576 1 × IVec S24576x24576 1 × IVec S24576x32 1 × IVec S24576x32 1 × IVec S57344 1 :=
  let main_v87 : IVec S57344 1 := (fun x v => Host.reduce IntOp.ori x v reducesTo_S57344x32_S57344_d1 h_S_) main_v73 main_c_7
  let main_v88 : IVec S57344 1 := ori main_v86 main_v87
  (main_v11, main_v16, main_v23, main_v29, main_v35, main_v40, main_v51, main_v62, main_v88)

def fn_part3 {F : FTy → Type} [FloatOps F] (main_arg1 : IVec S24576 32) (main_arg2 : IVec S24576 32) (main_arg4 : IVec S32 32) (main_v0 : IVec S57344 32) (main_v11 : IVec S24576 1) (main_v16 : IVec S24576 1) (main_v23 : IVec S32 1) (main_v29 : IVec S24576x24576 1) (main_v35 : IVec S24576x24576 1) (main_v40 : IVec S24576x24576 1) (main_v51 : IVec S24576x32 1) (main_v62 : IVec S24576x32 1) (main_v64 : IVec S1x32 32) (main_v65 : IVec S57344x32 32) : IVec S24576 1 × IVec S24576 1 × IVec S32 1 × IVec S24576x24576 1 × IVec S24576x24576 1 × IVec S24576x24576 1 × IVec S24576x32 1 × IVec S24576x32 1 × IVec S57344 1 :=
  let main_v66 : IVec S57344x32 32 := broadcastInDim S57344x32 ![0, 1] bcast_S1x32_S57344x32_0_1 main_v64
  let main_v67 : IVec S57344x32 1 := cmpi .sge main_v65 main_v66
  let main_v68 : IVec S57344x1 32 := broadcastInDim S57344x1 ![0] bcast_S57344_S57344x1_0 main_v0
  let main_v69 : IVec S1x32 32 := broadcastInDim S1x32 ![1] bcast_S32_S1x32_1 main_arg4
  let main_v70 : IVec S57344x32 32 := broadcastInDim S57344x32 ![0, 1] bcast_S57344x1_S57344x32_0_1 main_v68
  let main_v71 : IVec S57344x32 32 := broadcastInDim S57344x32 ![0, 1] bcast_S1x32_S57344x32_0_1 main_v69
  let main_v72 : IVec S57344x32 1 := cmpi .slt main_v70 main_v71
  let main_v73 : IVec S57344x32 1 := andi main_v67 main_v72
  let main_v74 : IVec S1x24576 32 := broadcastInDim S1x24576 ![1] bcast_S24576_S1x24576_1 main_arg1
  let main_v75 : IVec S57344x1 32 := broadcastInDim S57344x1 ![0] bcast_S57344_S57344x1_0 main_v0
  let main_v76 : IVec S57344x24576 32 := broadcastInDim S57344x24576 ![0, 1] bcast_S1x24576_S57344x24576_0_1 main_v74
  let main_v77 : IVec S57344x24576 32 := broadcastInDim S57344x24576 ![0, 1] bcast_S57344x1_S57344x24576_0_1 main_v75
  let main_v78 : IVec S57344x24576 1 := cmpi .eq main_v76 main_v77
  let main_c_5 : IVec S_ 1 := constantI S_ 1 0#1
  let main_v79 : IVec S57344 1 := (fun x v => Host.reduce IntOp.ori x v reducesTo_S57344x24576_S57344_d1 h_S_) main_v78 main_c_5
  let main_v80 : IVec S1x24576 32 := broadcastInDim S1x24576 ![1] bcast_S24576_S1x24576_1 main_arg2
  let main_v81 : IVec S57344x1 32 := broadcastInDim S57344x1 ![0] bcast_S57344_S57344x1_0 main_v0
  let main_v82 : IVec S57344x24576 32 := broadcastInDim S57344x24576 ![0, 1] bcast_S1x24576_S57344x24576_0_1 main_v80
  let main_v83 : IVec S57344x24576 32 := broadcastInDim S57344x24576 ![0, 1] bcast_S57344x1_S57344x24576_0_1 main_v81
  let main_v84 : IVec S57344x24576 1 := cmpi .eq main_v82 main_v83
  let main_c_6 : IVec S_ 1 := constantI S_ 1 0#1
  let main_v85 : IVec S57344 1 := (fun x v => Host.reduce IntOp.ori x v reducesTo_S57344x24576_S57344_d1 h_S_) main_v84 main_c_6
  let main_v86 : IVec S57344 1 := ori main_v79 main_v85
  let main_c_7 : IVec S_ 1 := constantI S_ 1 0#1
  fn_part4 (F := F) main_v11 main_v16 main_v23 main_v29 main_v35 main_v40 main_v51 main_v62 main_v73 main_v86 main_c_7

def fn_part2 {F : FTy → Type} [FloatOps F] (main_arg1 : IVec S24576 32) (main_arg2 : IVec S24576 32) (main_arg3 : IVec S32 32) (main_arg4 : IVec S32 32) (main_v0 : IVec S57344 32) (main_v11 : IVec S24576 1) (main_v16 : IVec S24576 1) (main_v23 : IVec S32 1) (main_v29 : IVec S24576x24576 1) (main_v35 : IVec S24576x24576 1) (main_v40 : IVec S24576x24576 1) (main_v41 : IVec S24576x1 32) : IVec S24576 1 × IVec S24576 1 × IVec S32 1 × IVec S24576x24576 1 × IVec S24576x24576 1 × IVec S24576x24576 1 × IVec S24576x32 1 × IVec S24576x32 1 × IVec S57344 1 :=
  let main_v42 : IVec S1x32 32 := broadcastInDim S1x32 ![1] bcast_S32_S1x32_1 main_arg3
  let main_v43 : IVec S24576x32 32 := broadcastInDim S24576x32 ![0, 1] bcast_S24576x1_S24576x32_0_1 main_v41
  let main_v44 : IVec S24576x32 32 := broadcastInDim S24576x32 ![0, 1] bcast_S1x32_S24576x32_0_1 main_v42
  let main_v45 : IVec S24576x32 1 := cmpi .slt main_v43 main_v44
  let main_v46 : IVec S24576x1 32 := broadcastInDim S24576x1 ![0] bcast_S24576_S24576x1_0 main_arg1
  let main_v47 : IVec S1x32 32 := broadcastInDim S1x32 ![1] bcast_S32_S1x32_1 main_arg4
  let main_v48 : IVec S24576x32 32 := broadcastInDim S24576x32 ![0, 1] bcast_S24576x1_S24576x32_0_1 main_v46
  let main_v49 : IVec S24576x32 32 := broadcastInDim S24576x32 ![0, 1] bcast_S1x32_S24576x32_0_1 main_v47
  let main_v50 : IVec S24576x32 1 := cmpi .sge main_v48 main_v49
  let main_v51 : IVec S24576x32 1 := ori main_v45 main_v50
  let main_v52 : IVec S24576x1 32 := broadcastInDim S24576x1 ![0] bcast_S24576_S24576x1_0 main_arg2
  let main_v53 : IVec S1x32 32 := broadcastInDim S1x32 ![1] bcast_S32_S1x32_1 main_arg3
  let main_v54 : IVec S24576x32 32 := broadcastInDim S24576x32 ![0, 1] bcast_S24576x1_S24576x32_0_1 main_v52
  let main_v55 : IVec S24576x32 32 := broadcastInDim S24576x32 ![0, 1] bcast_S1x32_S24576x32_0_1 main_v53
  let main_v56 : IVec S24576x32 1 := cmpi .slt main_v54 main_v55
  let main_v57 : IVec S24576x1 32 := broadcastInDim S24576x1 ![0] bcast_S24576_S24576x1_0 main_arg2
  let main_v58 : IVec S1x32 32 := broadcastInDim S1x32 ![1] bcast_S32_S1x32_1 main_arg4
  let main_v59 : IVec S24576x32 32 := broadcastInDim S24576x32 ![0, 1] bcast_S24576x1_S24576x32_0_1 main_v57
  let main_v60 : IVec S24576x32 32 := broadcastInDim S24576x32 ![0, 1] bcast_S1x32_S24576x32_0_1 main_v58
  let main_v61 : IVec S24576x32 1 := cmpi .sge main_v59 main_v60
  let main_v62 : IVec S24576x32 1 := ori main_v56 main_v61
  let main_v63 : IVec S57344x1 32 := broadcastInDim S57344x1 ![0] bcast_S57344_S57344x1_0 main_v0
  let main_v64 : IVec S1x32 32 := broadcastInDim S1x32 ![1] bcast_S32_S1x32_1 main_arg3
  let main_v65 : IVec S57344x32 32 := broadcastInDim S57344x32 ![0, 1] bcast_S57344x1_S57344x32_0_1 main_v63
  fn_part3 (F := F) main_arg1 main_arg2 main_arg4 main_v0 main_v11 main_v16 main_v23 main_v29 main_v35 main_v40 main_v51 main_v62 main_v64 main_v65

def fn_part1 {F : FTy → Type} [FloatOps F] (main_arg1 : IVec S24576 32) (main_arg2 : IVec S24576 32) (main_arg3 : IVec S32 32) (main_arg4 : IVec S32 32) (main_v0 : IVec S57344 32) (main_v6 : IVec S24576x24576 1) (main_v11 : IVec S24576 1) (main_v16 : IVec S24576 1) (main_v18 : IVec S32 1) : IVec S24576 1 × IVec S24576 1 × IVec S32 1 × IVec S24576x24576 1 × IVec S24576x24576 1 × IVec S24576x24576 1 × IVec S24576x32 1 × IVec S24576x32 1 × IVec S57344 1 :=
  let main_v19 : IVec S32 1 := cmpi .sle main_arg3 main_arg4
  let main_v20 : IVec S32 1 := andi main_v18 main_v19
  let main_c_4 : IVec S_ 32 := constantI S_ 32 57344#32
  let main_v21 : IVec S32 32 := broadcastInDim S32 ![] bcast_S_S32 main_c_4
  let main_v22 : IVec S32 1 := cmpi .sle main_arg4 main_v21
  let main_v23 : IVec S32 1 := andi main_v20 main_v22
  let main_v24 : IVec S24576x1 32 := broadcastInDim S24576x1 ![0] bcast_S24576_S24576x1_0 main_arg1
  let main_v25 : IVec S1x24576 32 := broadcastInDim S1x24576 ![1] bcast_S24576_S1x24576_1 main_arg1
  let main_v26 : IVec S24576x24576 32 := broadcastInDim S24576x24576 ![0, 1] bcast_S24576x1_S24576x24576_0_1 main_v24
  let main_v27 : IVec S24576x24576 32 := broadcastInDim S24576x24576 ![0, 1] bcast_S1x24576_S24576x24576_0_1 main_v25
  let main_v28 : IVec S24576x24576 1 := cmpi .ne main_v26 main_v27
  let main_v29 : IVec S24576x24576 1 := ori main_v6 main_v28
  let main_v30 : IVec S24576x1 32 := broadcastInDim S24576x1 ![0] bcast_S24576_S24576x1_0 main_arg2
  let main_v31 : IVec S1x24576 32 := broadcastInDim S1x24576 ![1] bcast_S24576_S1x24576_1 main_arg2
  let main_v32 : IVec S24576x24576 32 := broadcastInDim S24576x24576 ![0, 1] bcast_S24576x1_S24576x24576_0_1 main_v30
  let main_v33 : IVec S24576x24576 32 := broadcastInDim S24576x24576 ![0, 1] bcast_S1x24576_S24576x24576_0_1 main_v31
  let main_v34 : IVec S24576x24576 1 := cmpi .ne main_v32 main_v33
  let main_v35 : IVec S24576x24576 1 := ori main_v6 main_v34
  let main_v36 : IVec S24576x1 32 := broadcastInDim S24576x1 ![0] bcast_S24576_S24576x1_0 main_arg1
  let main_v37 : IVec S1x24576 32 := broadcastInDim S1x24576 ![1] bcast_S24576_S1x24576_1 main_arg2
  let main_v38 : IVec S24576x24576 32 := broadcastInDim S24576x24576 ![0, 1] bcast_S24576x1_S24576x24576_0_1 main_v36
  let main_v39 : IVec S24576x24576 32 := broadcastInDim S24576x24576 ![0, 1] bcast_S1x24576_S24576x24576_0_1 main_v37
  let main_v40 : IVec S24576x24576 1 := cmpi .ne main_v38 main_v39
  let main_v41 : IVec S24576x1 32 := broadcastInDim S24576x1 ![0] bcast_S24576_S24576x1_0 main_arg1
  fn_part2 (F := F) main_arg1 main_arg2 main_arg3 main_arg4 main_v0 main_v11 main_v16 main_v23 main_v29 main_v35 main_v40 main_v41

def fn {F : FTy → Type} [FloatOps F] (main_arg0 : FVec F S24576x2048 .f32) (main_arg1 : IVec S24576 32) (main_arg2 : IVec S24576 32) (main_arg3 : IVec S32 32) (main_arg4 : IVec S32 32) : IVec S24576 1 × IVec S24576 1 × IVec S32 1 × IVec S24576x24576 1 × IVec S24576x24576 1 × IVec S24576x24576 1 × IVec S24576x32 1 × IVec S24576x32 1 × IVec S57344 1 :=
  let main_v0 : IVec S57344 32 := iotaInDim S57344 32 0
  let main_v1 : IVec S24576 32 := iotaInDim S24576 32 0
  let main_v2 : IVec S24576x1 32 := broadcastInDim S24576x1 ![0] bcast_S24576_S24576x1_0 main_v1
  let main_v3 : IVec S1x24576 32 := broadcastInDim S1x24576 ![1] bcast_S24576_S1x24576_1 main_v1
  let main_v4 : IVec S24576x24576 32 := broadcastInDim S24576x24576 ![0, 1] bcast_S24576x1_S24576x24576_0_1 main_v2
  let main_v5 : IVec S24576x24576 32 := broadcastInDim S24576x24576 ![0, 1] bcast_S1x24576_S24576x24576_0_1 main_v3
  let main_v6 : IVec S24576x24576 1 := cmpi .eq main_v4 main_v5
  let main_c : IVec S_ 32 := constantI S_ 32 0#32
  let main_v7 : IVec S24576 32 := broadcastInDim S24576 ![] bcast_S_S24576 main_c
  let main_v8 : IVec S24576 1 := cmpi .sge main_arg1 main_v7
  let main_c_0 : IVec S_ 32 := constantI S_ 32 57344#32
  let main_v9 : IVec S24576 32 := broadcastInDim S24576 ![] bcast_S_S24576 main_c_0
  let main_v10 : IVec S24576 1 := cmpi .slt main_arg1 main_v9
  let main_v11 : IVec S24576 1 := andi main_v8 main_v10
  let main_c_1 : IVec S_ 32 := constantI S_ 32 0#32
  let main_v12 : IVec S24576 32 := broadcastInDim S24576 ![] bcast_S_S24576 main_c_1
  let main_v13 : IVec S24576 1 := cmpi .sge main_arg2 main_v12
  let main_c_2 : IVec S_ 32 := constantI S_ 32 57344#32
  let main_v14 : IVec S24576 32 := broadcastInDim S24576 ![] bcast_S_S24576 main_c_2
  let main_v15 : IVec S24576 1 := cmpi .slt main_arg2 main_v14
  let main_v16 : IVec S24576 1 := andi main_v13 main_v15
  let main_c_3 : IVec S_ 32 := constantI S_ 32 0#32
  let main_v17 : IVec S32 32 := broadcastInDim S32 ![] bcast_S_S32 main_c_3
  let main_v18 : IVec S32 1 := cmpi .sge main_arg3 main_v17
  fn_part1 (F := F) main_arg1 main_arg2 main_arg3 main_arg4 main_v0 main_v6 main_v11 main_v16 main_v18
-- ==== Kernel.lean ====
abbrev S24576x2048 : Shape := ⟨2, ![24576, 2048]⟩
abbrev S24576 : Shape := ⟨1, ![24576]⟩
abbrev S32 : Shape := ⟨1, ![32]⟩
abbrev S57344x2048 : Shape := ⟨2, ![57344, 2048]⟩
abbrev S512x2048 : Shape := ⟨2, ![512, 2048]⟩
abbrev S8x2048 : Shape := ⟨2, ![8, 2048]⟩
abbrev S_ : Shape := ⟨0, ![]⟩
abbrev S1 : Shape := ⟨1, ![1]⟩
abbrev S1x2048 : Shape := ⟨2, ![1, 2048]⟩

abbrev nBuf : Space → Nat
  | .hbm => 2
  | .vmem => 3
  | .smem => 4
  | _ => 0

abbrev bufTy : (tb : Table) → Fin (tcTables nBuf tb) → BufTy
  | .hbm, ⟨0, _⟩ => ⟨S24576x2048, .f32⟩
  | .hbm, ⟨1, _⟩ => ⟨S57344x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .smem, ⟨0, _⟩ => ⟨S24576, .i32⟩
  | .local _ .smem, ⟨1, _⟩ => ⟨S24576, .i32⟩
  | .local _ .smem, ⟨2, _⟩ => ⟨S32, .i32⟩
  | .local _ .smem, ⟨3, _⟩ => ⟨S32, .i32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![48], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg10 : BitVec 32 := Scf.iv c0_i32 c1_i32 k0_t1
  let v6 : BitVec 32 := Scalar.addi v0 arg10
  let v7 : Index := Scalar.indexCast v6
  ![v7.toNat]
def k0_off2 (v8 : BitVec 32) : Fin 2 → Nat :=
  let c0_i32_8 : BitVec 32 := 0#32
  ![v8.toNat, 0]

def k0_chk1 (v8 : BitVec 32) : Prop :=
  (∀ a, (k0_off2 v8) a + S1x2048.size a ≤ S57344x2048.size a)
theorem k0_off2_inb : ∀ (v8 : BitVec 32) (k0_hw1 : k0_chk1 v8), ∀ a, (k0_off2 v8) a + S1x2048.size a ≤ S57344x2048.size a := fun v8 k0_hw1 => k0_hw1

def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_9 : BitVec 32 := 0#32
  ![arg10.toNat, 0]
def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg10 : BitVec 32 := Scf.iv c0_i32 c1_i32 k0_t1
  let v11 : BitVec 32 := Scalar.addi v0 arg10
  let v12 : Index := Scalar.indexCast v11
  ![v12.toNat]
def k0_off5 (v13 : BitVec 32) : Fin 2 → Nat :=
  let c0_i32_10 : BitVec 32 := 0#32
  ![v13.toNat, 0]

def k0_chk2 (v13 : BitVec 32) : Prop :=
  (∀ a, (k0_off5 v13) a + S1x2048.size a ≤ S57344x2048.size a)
theorem k0_off5_inb : ∀ (v13 : BitVec 32) (k0_hw2 : k0_chk2 v13), ∀ a, (k0_off5 v13) a + S1x2048.size a ≤ S57344x2048.size a := fun v13 k0_hw2 => k0_hw2

def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_11 : BitVec 32 := 0#32
  ![arg10.toNat, 0]
def k0_cond1 (i : grid0.Coords) : BitVec 1 :=
  let arg0 : BitVec 32 := BitVec.ofNat 32 (i 0).val
  let c0_i32_2 : BitVec 32 := 0#32
  let v2 : BitVec 1 := Scalar.cmpi .eq arg0 c0_i32_2
  let v3 : BitVec 32 := Scalar.extui v2
  let c0_i32_3 : BitVec 32 := 0#32
  let v4 : BitVec 1 := Scalar.cmpi .ne v3 c0_i32_3
  v4

@[reducible] def k0_t2_loop : Scf.Loop 32 :=
  let c0_i32_9 : BitVec 32 := 0#32
  let c32_i32 : BitVec 32 := 32#32
  let v10 : BitVec 32 := Scalar.addi c0_i32_9 c32_i32
  let c1_i32_10 : BitVec 32 := 1#32
  ⟨c0_i32_9, v10, c1_i32_10⟩
def k0_off7 (k0_t2 : Fin k0_t2_loop.trips) : Fin 1 → Nat :=
  let c0_i32_9 : BitVec 32 := 0#32
  let c1_i32_10 : BitVec 32 := 1#32
  let arg10 : BitVec 32 := Scf.iv c0_i32_9 c1_i32_10 k0_t2
  let v11 : Index := Scalar.indexCast arg10
  ![v11.toNat]
@[reducible] def k0_t3_loop (v12 : BitVec 32) (v14 : BitVec 32) : Scf.Loop 32 :=
  let v15 : BitVec 32 := Scalar.subi v14 v12
  let c1_i32_13 : BitVec 32 := 1#32
  let v17 : BitVec 32 := Scalar.divsi v15 c1_i32_13
  let v18 : BitVec 32 := Scalar.muli v17 c1_i32_13
  let v19 : BitVec 32 := Scalar.addi v12 v18
  let c1_i32_14 : BitVec 32 := 1#32
  ⟨v12, v19, c1_i32_14⟩

def k0_off8 (v12 : BitVec 32) (v14 : BitVec 32) (k0_t3 : Fin (k0_t3_loop v12 v14).trips) : Fin 2 → Nat :=
  let c1_i32_14 : BitVec 32 := 1#32
  let arg11 : BitVec 32 := Scf.iv v12 c1_i32_14 k0_t3
  let c0_i32_20 : BitVec 32 := 0#32
  ![arg11.toNat, 0]
@[reducible] def k0_t4_loop (v12 : BitVec 32) (v14 : BitVec 32) : Scf.Loop 32 :=
  let v15 : BitVec 32 := Scalar.subi v14 v12
  let c1_i32_13 : BitVec 32 := 1#32
  let v17 : BitVec 32 := Scalar.divsi v15 c1_i32_13
  let v18 : BitVec 32 := Scalar.muli v17 c1_i32_13
  let v19 : BitVec 32 := Scalar.addi v12 v18
  let v16 : BitVec 32 := Scalar.addi v12 v15
  let c1_i32_15 : BitVec 32 := 1#32
  ⟨v19, v16, c1_i32_15⟩
def k0_off9 (v12 : BitVec 32) (v14 : BitVec 32) (k0_t4 : Fin (k0_t4_loop v12 v14).trips) : Fin 2 → Nat :=
  let v15 : BitVec 32 := Scalar.subi v14 v12
  let c1_i32_13 : BitVec 32 := 1#32
  let v17 : BitVec 32 := Scalar.divsi v15 c1_i32_13
  let v18 : BitVec 32 := Scalar.muli v17 c1_i32_13
  let v19 : BitVec 32 := Scalar.addi v12 v18
  let c1_i32_15 : BitVec 32 := 1#32
  let arg11 : BitVec 32 := Scf.iv v19 c1_i32_15 k0_t4
  let c0_i32_20 : BitVec 32 := 0#32
  ![arg11.toNat, 0]

def k0_chk3 (i : grid0.Coords) (v12 : BitVec 32) (v14 : BitVec 32) : Prop :=
  (∀ (k0_h1 : k0_cond1 i = 1#1), (k0_t3_loop v12 v14).OK) ∧
  (∀ k0_t3 : Fin (k0_t3_loop v12 v14).trips, ∀ (k0_h1 : k0_cond1 i = 1#1), ∀ a, (k0_off8 v12 v14 k0_t3) a + S1x2048.size a ≤ S57344x2048.size a) ∧
  (∀ (k0_h1 : k0_cond1 i = 1#1), (k0_t4_loop v12 v14).OK) ∧
  (∀ k0_t4 : Fin (k0_t4_loop v12 v14).trips, ∀ (k0_h1 : k0_cond1 i = 1#1), ∀ a, (k0_off9 v12 v14 k0_t4) a + S1x2048.size a ≤ S57344x2048.size a)
theorem k0_t3_ok : ∀ (i : grid0.Coords) (v12 : BitVec 32) (v14 : BitVec 32) (k0_hw3 : k0_chk3 i v12 v14), ∀ (k0_h1 : k0_cond1 i = 1#1), (k0_t3_loop v12 v14).OK := fun i v12 v14 k0_hw3 k0_h1 => k0_hw3.1 k0_h1
theorem k0_off8_inb : ∀ (i : grid0.Coords) (v12 : BitVec 32) (v14 : BitVec 32) (k0_hw3 : k0_chk3 i v12 v14) (k0_t3 : Fin (k0_t3_loop v12 v14).trips), ∀ (k0_h1 : k0_cond1 i = 1#1), ∀ a, (k0_off8 v12 v14 k0_t3) a + S1x2048.size a ≤ S57344x2048.size a := fun i v12 v14 k0_hw3 k0_t3 k0_h1 => k0_hw3.2.1 k0_t3 k0_h1
theorem k0_t4_ok : ∀ (i : grid0.Coords) (v12 : BitVec 32) (v14 : BitVec 32) (k0_hw3 : k0_chk3 i v12 v14), ∀ (k0_h1 : k0_cond1 i = 1#1), (k0_t4_loop v12 v14).OK := fun i v12 v14 k0_hw3 k0_h1 => k0_hw3.2.2.1 k0_h1
theorem k0_off9_inb : ∀ (i : grid0.Coords) (v12 : BitVec 32) (v14 : BitVec 32) (k0_hw3 : k0_chk3 i v12 v14) (k0_t4 : Fin (k0_t4_loop v12 v14).trips), ∀ (k0_h1 : k0_cond1 i = 1#1), ∀ a, (k0_off9 v12 v14 k0_t4) a + S1x2048.size a ≤ S57344x2048.size a := fun i v12 v14 k0_hw3 k0_t4 k0_h1 => k0_hw3.2.2.2 k0_t4 k0_h1

def k0_off10 (k0_t2 : Fin k0_t2_loop.trips) : Fin 1 → Nat :=
  let c0_i32_9 : BitVec 32 := 0#32
  let c1_i32_10 : BitVec 32 := 1#32
  let arg10 : BitVec 32 := Scf.iv c0_i32_9 c1_i32_10 k0_t2
  let v20 : Index := Scalar.indexCast arg10
  ![v20.toNat]
@[reducible] def k0_t5_loop (v21 : BitVec 32) (v23 : BitVec 32) : Scf.Loop 32 :=
  let v24 : BitVec 32 := Scalar.subi v23 v21
  let c1_i32_17 : BitVec 32 := 1#32
  let v26 : BitVec 32 := Scalar.divsi v24 c1_i32_17
  let v27 : BitVec 32 := Scalar.muli v26 c1_i32_17
  let v28 : BitVec 32 := Scalar.addi v21 v27
  let c1_i32_18 : BitVec 32 := 1#32
  ⟨v21, v28, c1_i32_18⟩

def k0_off11 (v21 : BitVec 32) (v23 : BitVec 32) (k0_t5 : Fin (k0_t5_loop v21 v23).trips) : Fin 2 → Nat :=
  let c1_i32_18 : BitVec 32 := 1#32
  let arg11 : BitVec 32 := Scf.iv v21 c1_i32_18 k0_t5
  let c0_i32_20 : BitVec 32 := 0#32
  ![arg11.toNat, 0]
@[reducible] def k0_t6_loop (v21 : BitVec 32) (v23 : BitVec 32) : Scf.Loop 32 :=
  let v24 : BitVec 32 := Scalar.subi v23 v21
  let c1_i32_17 : BitVec 32 := 1#32
  let v26 : BitVec 32 := Scalar.divsi v24 c1_i32_17
  let v27 : BitVec 32 := Scalar.muli v26 c1_i32_17
  let v28 : BitVec 32 := Scalar.addi v21 v27
  let v25 : BitVec 32 := Scalar.addi v21 v24
  let c1_i32_19 : BitVec 32 := 1#32
  ⟨v28, v25, c1_i32_19⟩
def k0_off12 (v21 : BitVec 32) (v23 : BitVec 32) (k0_t6 : Fin (k0_t6_loop v21 v23).trips) : Fin 2 → Nat :=
  let v24 : BitVec 32 := Scalar.subi v23 v21
  let c1_i32_17 : BitVec 32 := 1#32
  let v26 : BitVec 32 := Scalar.divsi v24 c1_i32_17
  let v27 : BitVec 32 := Scalar.muli v26 c1_i32_17
  let v28 : BitVec 32 := Scalar.addi v21 v27
  let c1_i32_19 : BitVec 32 := 1#32
  let arg11 : BitVec 32 := Scf.iv v28 c1_i32_19 k0_t6
  let c0_i32_20 : BitVec 32 := 0#32
  ![arg11.toNat, 0]

def k0_chk4 (i : grid0.Coords) (v21 : BitVec 32) (v23 : BitVec 32) : Prop :=
  (∀ (k0_h1 : k0_cond1 i = 1#1), (k0_t5_loop v21 v23).OK) ∧
  (∀ k0_t5 : Fin (k0_t5_loop v21 v23).trips, ∀ (k0_h1 : k0_cond1 i = 1#1), ∀ a, (k0_off11 v21 v23 k0_t5) a + S1x2048.size a ≤ S57344x2048.size a) ∧
  (∀ (k0_h1 : k0_cond1 i = 1#1), (k0_t6_loop v21 v23).OK) ∧
  (∀ k0_t6 : Fin (k0_t6_loop v21 v23).trips, ∀ (k0_h1 : k0_cond1 i = 1#1), ∀ a, (k0_off12 v21 v23 k0_t6) a + S1x2048.size a ≤ S57344x2048.size a)
theorem k0_t5_ok : ∀ (i : grid0.Coords) (v21 : BitVec 32) (v23 : BitVec 32) (k0_hw4 : k0_chk4 i v21 v23), ∀ (k0_h1 : k0_cond1 i = 1#1), (k0_t5_loop v21 v23).OK := fun i v21 v23 k0_hw4 k0_h1 => k0_hw4.1 k0_h1
theorem k0_off11_inb : ∀ (i : grid0.Coords) (v21 : BitVec 32) (v23 : BitVec 32) (k0_hw4 : k0_chk4 i v21 v23) (k0_t5 : Fin (k0_t5_loop v21 v23).trips), ∀ (k0_h1 : k0_cond1 i = 1#1), ∀ a, (k0_off11 v21 v23 k0_t5) a + S1x2048.size a ≤ S57344x2048.size a := fun i v21 v23 k0_hw4 k0_t5 k0_h1 => k0_hw4.2.1 k0_t5 k0_h1
theorem k0_t6_ok : ∀ (i : grid0.Coords) (v21 : BitVec 32) (v23 : BitVec 32) (k0_hw4 : k0_chk4 i v21 v23), ∀ (k0_h1 : k0_cond1 i = 1#1), (k0_t6_loop v21 v23).OK := fun i v21 v23 k0_hw4 k0_h1 => k0_hw4.2.2.1 k0_h1
theorem k0_off12_inb : ∀ (i : grid0.Coords) (v21 : BitVec 32) (v23 : BitVec 32) (k0_hw4 : k0_chk4 i v21 v23) (k0_t6 : Fin (k0_t6_loop v21 v23).trips), ∀ (k0_h1 : k0_cond1 i = 1#1), ∀ a, (k0_off12 v21 v23 k0_t6) a + S1x2048.size a ≤ S57344x2048.size a := fun i v21 v23 k0_hw4 k0_t6 k0_h1 => k0_hw4.2.2.2 k0_t6 k0_h1

@[reducible] def k0_t7_loop : Scf.Loop 32 :=
  let c0_i32_4 : BitVec 32 := 0#32
  let c512_i32_5 : BitVec 32 := 512#32
  let v5 : BitVec 32 := Scalar.addi c0_i32_4 c512_i32_5
  let c1_i32_6 : BitVec 32 := 1#32
  ⟨c0_i32_4, v5, c1_i32_6⟩
def k0_off13 (i : grid0.Coords) (k0_t7 : Fin k0_t7_loop.trips) : Fin 1 → Nat :=
  let arg0 : BitVec 32 := BitVec.ofNat 32 (i 0).val
  let c512_i32 : BitVec 32 := 512#32
  let v0 : BitVec 32 := Scalar.muli arg0 c512_i32
  let c0_i32_4 : BitVec 32 := 0#32
  let c1_i32_6 : BitVec 32 := 1#32
  let arg10 : BitVec 32 := Scf.iv c0_i32_4 c1_i32_6 k0_t7
  let v6 : BitVec 32 := Scalar.addi v0 arg10
  let v7 : Index := Scalar.indexCast v6
  ![v7.toNat]
def k0_off14 (v8 : BitVec 32) : Fin 2 → Nat :=
  let c0_i32_8 : BitVec 32 := 0#32
  ![v8.toNat, 0]

def k0_chk5 (v8 : BitVec 32) : Prop :=
  (∀ a, (k0_off14 v8) a + S1x2048.size a ≤ S57344x2048.size a)
theorem k0_off14_inb : ∀ (v8 : BitVec 32) (k0_hw5 : k0_chk5 v8), ∀ a, (k0_off14 v8) a + S1x2048.size a ≤ S57344x2048.size a := fun v8 k0_hw5 => k0_hw5

def k0_off15 (k0_t7 : Fin k0_t7_loop.trips) : Fin 2 → Nat :=
  let c0_i32_4 : BitVec 32 := 0#32
  let c1_i32_6 : BitVec 32 := 1#32
  let arg10 : BitVec 32 := Scf.iv c0_i32_4 c1_i32_6 k0_t7
  let c0_i32_9 : BitVec 32 := 0#32
  ![arg10.toNat, 0]
def k0_off16 (i : grid0.Coords) (k0_t7 : Fin k0_t7_loop.trips) : Fin 1 → Nat :=
  let arg0 : BitVec 32 := BitVec.ofNat 32 (i 0).val
  let c512_i32 : BitVec 32 := 512#32
  let v0 : BitVec 32 := Scalar.muli arg0 c512_i32
  let c0_i32_4 : BitVec 32 := 0#32
  let c1_i32_6 : BitVec 32 := 1#32
  let arg10 : BitVec 32 := Scf.iv c0_i32_4 c1_i32_6 k0_t7
  let v11 : BitVec 32 := Scalar.addi v0 arg10
  let v12 : Index := Scalar.indexCast v11
  ![v12.toNat]
def k0_off17 (v13 : BitVec 32) : Fin 2 → Nat :=
  let c0_i32_10 : BitVec 32 := 0#32
  ![v13.toNat, 0]

def k0_chk6 (v13 : BitVec 32) : Prop :=
  (∀ a, (k0_off17 v13) a + S1x2048.size a ≤ S57344x2048.size a)
theorem k0_off17_inb : ∀ (v13 : BitVec 32) (k0_hw6 : k0_chk6 v13), ∀ a, (k0_off17 v13) a + S1x2048.size a ≤ S57344x2048.size a := fun v13 k0_hw6 => k0_hw6

def k0_off18 (k0_t7 : Fin k0_t7_loop.trips) : Fin 2 → Nat :=
  let c0_i32_4 : BitVec 32 := 0#32
  let c1_i32_6 : BitVec 32 := 1#32
  let arg10 : BitVec 32 := Scf.iv c0_i32_4 c1_i32_6 k0_t7
  let c0_i32_11 : BitVec 32 := 0#32
  ![arg10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S24576x2048 : Shape := ⟨2, ![24576, 2048]⟩
abbrev S24576 : Shape := ⟨1, ![24576]⟩
abbrev S32 : Shape := ⟨1, ![32]⟩
abbrev S_ : Shape := ⟨0, ![]⟩
abbrev S57344 : Shape := ⟨1, ![57344]⟩
abbrev S24576x1 : Shape := ⟨2, ![24576, 1]⟩
abbrev S1x2048 : Shape := ⟨2, ![1, 2048]⟩
abbrev S24577x2048 : Shape := ⟨2, ![24577, 2048]⟩
abbrev S57344x1 : Shape := ⟨2, ![57344, 1]⟩
abbrev S57344x2048 : Shape := ⟨2, ![57344, 2048]⟩

abbrev nBuf : Space → Nat
  | .hbm => 38
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576, .i32⟩
  | .hbm, ⟨2, _⟩ => ⟨S24576, .i32⟩
  | .hbm, ⟨3, _⟩ => ⟨S32, .i32⟩
  | .hbm, ⟨4, _⟩ => ⟨S32, .i32⟩
  | .hbm, ⟨5, _⟩ => ⟨S24576, .i32⟩
  | .hbm, ⟨6, _⟩ => ⟨S_, .i32⟩
  | .hbm, ⟨7, _⟩ => ⟨S57344, .i32⟩
  | .hbm, ⟨8, _⟩ => ⟨S_, .i32⟩
  | .hbm, ⟨9, _⟩ => ⟨S24576, .i32⟩
  | .hbm, ⟨10, _⟩ => ⟨S24576, .i1⟩
  | .hbm, ⟨11, _⟩ => ⟨S_, .i32⟩
  | .hbm, ⟨12, _⟩ => ⟨S24576, .i32⟩
  | .hbm, ⟨13, _⟩ => ⟨S24576, .i32⟩
  | .hbm, ⟨14, _⟩ => ⟨S24576, .i32⟩
  | .hbm, ⟨15, _⟩ => ⟨S24576x1, .i32⟩
  | .hbm, ⟨16, _⟩ => ⟨S57344, .i32⟩
  | .hbm, ⟨17, _⟩ => ⟨S_, .i32⟩
  | .hbm, ⟨18, _⟩ => ⟨S24576, .i32⟩
  | .hbm, ⟨19, _⟩ => ⟨S24576, .i1⟩
  | .hbm, ⟨20, _⟩ => ⟨S_, .i32⟩
  | .hbm, ⟨21, _⟩ => ⟨S24576, .i32⟩
  | .hbm, ⟨22, _⟩ => ⟨S24576, .i32⟩
  | .hbm, ⟨23, _⟩ => ⟨S24576, .i32⟩
  | .hbm, ⟨24, _⟩ => ⟨S24576x1, .i32⟩
  | .hbm, ⟨25, _⟩ => ⟨S57344, .i32⟩
  | .hbm, ⟨26, _⟩ => ⟨S_, .f32⟩
  | .hbm, ⟨27, _⟩ => ⟨S1x2048, .f32⟩
  | .hbm, ⟨28, _⟩ => ⟨S24577x2048, .f32⟩
  | .hbm, ⟨29, _⟩ => ⟨S_, .i32⟩
  | .hbm, ⟨30, _⟩ => ⟨S57344, .i32⟩
  | .hbm, ⟨31, _⟩ => ⟨S57344, .i1⟩
  | .hbm, ⟨32, _⟩ => ⟨S_, .i32⟩
  | .hbm, ⟨33, _⟩ => ⟨S57344, .i32⟩
  | .hbm, ⟨34, _⟩ => ⟨S57344, .i32⟩
  | .hbm, ⟨35, _⟩ => ⟨S57344, .i32⟩
  | .hbm, ⟨36, _⟩ => ⟨S57344x1, .i32⟩
  | .hbm, ⟨37, _⟩ => ⟨S57344x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel2.lean ====
abbrev S16384x2048 : Shape := ⟨2, ![16384, 2048]⟩
abbrev S8192x2048 : Shape := ⟨2, ![8192, 2048]⟩
abbrev S2048 : Shape := ⟨1, ![2048]⟩
abbrev S2048x4608 : Shape := ⟨2, ![2048, 4608]⟩
abbrev S2048x1024 : Shape := ⟨2, ![2048, 1024]⟩
abbrev S2048x256 : Shape := ⟨2, ![2048, 256]⟩
abbrev S1x2048 : Shape := ⟨2, ![1, 2048]⟩
abbrev S24576x4608 : Shape := ⟨2, ![24576, 4608]⟩
abbrev S512x2048 : Shape := ⟨2, ![512, 2048]⟩
abbrev S512x4608 : Shape := ⟨2, ![512, 4608]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 14
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S2048, .f32⟩
  | .hbm, ⟨3, _⟩ => ⟨S2048x4608, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x4608, .f32⟩
  | .hbm, ⟨11, _⟩ => ⟨S2048x4608, .bf16⟩
  | .hbm, ⟨12, _⟩ => ⟨S1x2048, .f32⟩
  | .hbm, ⟨13, _⟩ => ⟨S24576x4608, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x4608, .bf16⟩
  | .local _ .vmem, ⟨6, _⟩ => ⟨S512x4608, .bf16⟩
  | .local _ .vmem, ⟨7, _⟩ => ⟨S512x4608, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x2048 : Shape := ⟨2, ![16384, 2048]⟩
abbrev S8192x2048 : Shape := ⟨2, ![8192, 2048]⟩
abbrev S2048 : Shape := ⟨1, ![2048]⟩
abbrev S2048x4608 : Shape := ⟨2, ![2048, 4608]⟩
abbrev S24576x2048 : Shape := ⟨2, ![24576, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S24576x4608 : Shape := ⟨2, ![24576, 4608]⟩
abbrev S24576x1024 : Shape := ⟨2, ![24576, 1024]⟩
abbrev S24576x256 : Shape := ⟨2, ![24576, 256]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S2048, .f32⟩
  | .hbm, ⟨3, _⟩ => ⟨S2048x4608, .f32⟩
  | .hbm, ⟨4, _⟩ => ⟨S24576x2048, .f32⟩
  | .hbm, ⟨5, _⟩ => ⟨S24576x2048, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x2048, .f32⟩
  | .hbm, ⟨17, _⟩ => ⟨S24576x2048, .f32⟩
  | .hbm, ⟨18, _⟩ => ⟨S1x2048, .f32⟩
  | .hbm, ⟨19, _⟩ => ⟨S24576x2048, .f32⟩
  | .hbm, ⟨20, _⟩ => ⟨S24576x2048, .f32⟩
  | .hbm, ⟨21, _⟩ => ⟨S24576x4608, .f32⟩
  | .hbm, ⟨22, _⟩ => ⟨S24576x1024, .f32⟩
  | .hbm, ⟨23, _⟩ => ⟨S24576x256, .f32⟩
  | .hbm, ⟨24, _⟩ => ⟨S24576x256, .f32⟩
  | .hbm, ⟨25, _⟩ => ⟨S24576x1024, .f32⟩
  | .hbm, ⟨26, _⟩ => ⟨S24576x1024, .f32⟩
  | .hbm, ⟨27, _⟩ => ⟨S24576x1024, .f32⟩
  | .hbm, ⟨28, _⟩ => ⟨S24576x4608, .f32⟩
  | .hbm, ⟨29, _⟩ => ⟨S24576x4608, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel3.lean ====
abbrev S57344x2048 : Shape := ⟨2, ![57344, 2048]⟩
abbrev S224 : Shape := ⟨1, ![224]⟩
abbrev S1 : Shape := ⟨1, ![1]⟩
abbrev S32x2048x1024 : Shape := ⟨3, ![32, 2048, 1024]⟩
abbrev S57344x1024 : Shape := ⟨2, ![57344, 1024]⟩
abbrev S256x2048 : Shape := ⟨2, ![256, 2048]⟩
abbrev S1x2048x1024 : Shape := ⟨3, ![1, 2048, 1024]⟩
abbrev S256x1024 : Shape := ⟨2, ![256, 1024]⟩
abbrev S2048x1024 : Shape := ⟨2, ![2048, 1024]⟩
abbrev S2048x512 : Shape := ⟨2, ![2048, 512]⟩
abbrev S256x512 : Shape := ⟨2, ![256, 512]⟩

abbrev nBuf : Space → Nat
  | .hbm => 4
  | .vmem => 10
  | .smem => 2
  | _ => 0

abbrev bufTy : (tb : Table) → Fin (tcTables nBuf tb) → BufTy
  | .hbm, ⟨0, _⟩ => ⟨S57344x2048, .f32⟩
  | .hbm, ⟨1, _⟩ => ⟨S32x2048x1024, .f32⟩
  | .hbm, ⟨2, _⟩ => ⟨S32x2048x1024, .f32⟩
  | .hbm, ⟨3, _⟩ => ⟨S57344x1024, .bf16⟩
  | .local _ .vmem, ⟨0, _⟩ => ⟨S256x2048, .f32⟩
  | .local _ .vmem, ⟨1, _⟩ => ⟨S256x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S2048x1024, .bf16⟩
  | .local _ .smem, ⟨0, _⟩ => ⟨S224, .i32⟩
  | .local _ .smem, ⟨1, _⟩ => ⟨S1, .i32⟩
  | _, _ => ⟨S57344x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S57344x2048 : Shape := ⟨2, ![57344, 2048]⟩
abbrev S224 : Shape := ⟨1, ![224]⟩
abbrev S1 : Shape := ⟨1, ![1]⟩
abbrev S32x2048x1024 : Shape := ⟨3, ![32, 2048, 1024]⟩
abbrev S224x256x2048 : Shape := ⟨3, ![224, 256, 2048]⟩
abbrev S_ : Shape := ⟨0, ![]⟩
abbrev S224x1 : Shape := ⟨2, ![224, 1]⟩
abbrev S224x2048x1024 : Shape := ⟨3, ![224, 2048, 1024]⟩
abbrev S224x256x1024 : Shape := ⟨3, ![224, 256, 1024]⟩
abbrev S224x1x1 : Shape := ⟨3, ![224, 1, 1]⟩
abbrev S57344x1024 : Shape := ⟨2, ![57344, 1024]⟩

abbrev nBuf : Space → Nat
  | .hbm => 47
  | .vmem => 0
  | .smem => 0
  | _ => 0

abbrev bufTy : (tb : Table) → Fin (tcTables nBuf tb) → BufTy
  | .hbm, ⟨0, _⟩ => ⟨S57344x2048, .f32⟩
  | .hbm, ⟨1, _⟩ => ⟨S224, .i32⟩
  | .hbm, ⟨2, _⟩ => ⟨S1, .i32⟩
  | .hbm, ⟨3, _⟩ => ⟨S32x2048x1024, .f32⟩
  | .hbm, ⟨4, _⟩ => ⟨S32x2048x1024, .f32⟩
  | .hbm, ⟨5, _⟩ => ⟨S224x256x2048, .f32⟩
  | .hbm, ⟨6, _⟩ => ⟨S_, .i32⟩
  | .hbm, ⟨7, _⟩ => ⟨S224, .i32⟩
  | .hbm, ⟨8, _⟩ => ⟨S224, .i1⟩
  | .hbm, ⟨9, _⟩ => ⟨S_, .i32⟩
  | .hbm, ⟨10, _⟩ => ⟨S224, .i32⟩
  | .hbm, ⟨11, _⟩ => ⟨S224, .i32⟩
  | .hbm, ⟨12, _⟩ => ⟨S224, .i32⟩
  | .hbm, ⟨13, _⟩ => ⟨S224x1, .i32⟩
  | .hbm, ⟨14, _⟩ => ⟨S224x2048x1024, .f32⟩
  | .hbm, ⟨15, _⟩ => ⟨S224x256x1024, .f32⟩
  | .hbm, ⟨16, _⟩ => ⟨S224x256x1024, .f32⟩
  | .hbm, ⟨17, _⟩ => ⟨S224x256x1024, .f32⟩
  | .hbm, ⟨18, _⟩ => ⟨S_, .f32⟩
  | .hbm, ⟨19, _⟩ => ⟨S224x256x1024, .f32⟩
  | .hbm, ⟨20, _⟩ => ⟨S224x256x1024, .f32⟩
  | .hbm, ⟨21, _⟩ => ⟨S_, .f32⟩
  | .hbm, ⟨22, _⟩ => ⟨S224x256x1024, .f32⟩
  | .hbm, ⟨23, _⟩ => ⟨S224x256x1024, .f32⟩
  | .hbm, ⟨24, _⟩ => ⟨S224x256x1024, .f32⟩
  | .hbm, ⟨25, _⟩ => ⟨S_, .i32⟩
  | .hbm, ⟨26, _⟩ => ⟨S224, .i32⟩
  | .hbm, ⟨27, _⟩ => ⟨S224, .i1⟩
  | .hbm, ⟨28, _⟩ => ⟨S_, .i32⟩
  | .hbm, ⟨29, _⟩ => ⟨S224, .i32⟩
  | .hbm, ⟨30, _⟩ => ⟨S224, .i32⟩
  | .hbm, ⟨31, _⟩ => ⟨S224, .i32⟩
  | .hbm, ⟨32, _⟩ => ⟨S224x1, .i32⟩
  | .hbm, ⟨33, _⟩ => ⟨S224x2048x1024, .f32⟩
  | .hbm, ⟨34, _⟩ => ⟨S224x256x1024, .f32⟩
  | .hbm, ⟨35, _⟩ => ⟨S224x256x1024, .f32⟩
  | .hbm, ⟨36, _⟩ => ⟨S224, .i32⟩
  | .hbm, ⟨37, _⟩ => ⟨S224, .i32⟩
  | .hbm, ⟨38, _⟩ => ⟨S224, .i1⟩
  | .hbm, ⟨39, _⟩ => ⟨S224x1x1, .i1⟩
  | .hbm, ⟨40, _⟩ => ⟨S_, .f32⟩
  | .hbm, ⟨41, _⟩ => ⟨S_, .f32⟩
  | .hbm, ⟨42, _⟩ => ⟨S224x256x1024, .i1⟩
  | .hbm, ⟨43, _⟩ => ⟨S224x256x1024, .f32⟩
  | .hbm, ⟨44, _⟩ => ⟨S224x256x1024, .f32⟩
  | .hbm, ⟨45, _⟩ => ⟨S57344x1024, .f32⟩
  | .hbm, ⟨46, _⟩ => ⟨S57344x1024, .bf16⟩
  | _, _ => ⟨S57344x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel4.lean ====
abbrev S57344x1024 : Shape := ⟨2, ![57344, 1024]⟩
abbrev S224 : Shape := ⟨1, ![224]⟩
abbrev S1 : Shape := ⟨1, ![1]⟩
abbrev S32x1024x2048 : Shape := ⟨3, ![32, 1024, 2048]⟩
abbrev S57344x2048 : Shape := ⟨2, ![57344, 2048]⟩
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩

abbrev nBuf : Space → Nat
  | .hbm => 3
  | .vmem => 7
  | .smem => 2
  | _ => 0

abbrev bufTy : (tb : Table) → Fin (tcTables nBuf tb) → BufTy
  | .hbm, ⟨0, _⟩ => ⟨S57344x1024, .bf16⟩
  | .hbm, ⟨1, _⟩ => ⟨S32x1024x2048, .f32⟩
  | .hbm, ⟨2, _⟩ => ⟨S57344x2048, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .smem, ⟨0, _⟩ => ⟨S224, .i32⟩
  | .local _ .smem, ⟨1, _⟩ => ⟨S1, .i32⟩
  | _, _ => ⟨S57344x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S57344x1024 : Shape := ⟨2, ![57344, 1024]⟩
abbrev S224 : Shape := ⟨1, ![224]⟩
abbrev S1 : Shape := ⟨1, ![1]⟩
abbrev S32x1024x2048 : Shape := ⟨3, ![32, 1024, 2048]⟩
abbrev S224x256x1024 : Shape := ⟨3, ![224, 256, 1024]⟩
abbrev S_ : Shape := ⟨0, ![]⟩
abbrev S224x1 : Shape := ⟨2, ![224, 1]⟩
abbrev S224x1024x2048 : Shape := ⟨3, ![224, 1024, 2048]⟩
abbrev S224x256x2048 : Shape := ⟨3, ![224, 256, 2048]⟩
abbrev S224x1x1 : Shape := ⟨3, ![224, 1, 1]⟩
abbrev S57344x2048 : Shape := ⟨2, ![57344, 2048]⟩

abbrev nBuf : Space → Nat
  | .hbm => 26
  | .vmem => 0
  | .smem => 0
  | _ => 0

abbrev bufTy : (tb : Table) → Fin (tcTables nBuf tb) → BufTy
  | .hbm, ⟨0, _⟩ => ⟨S57344x1024, .bf16⟩
  | .hbm, ⟨1, _⟩ => ⟨S224, .i32⟩
  | .hbm, ⟨2, _⟩ => ⟨S1, .i32⟩
  | .hbm, ⟨3, _⟩ => ⟨S32x1024x2048, .f32⟩
  | .hbm, ⟨4, _⟩ => ⟨S224x256x1024, .bf16⟩
  | .hbm, ⟨5, _⟩ => ⟨S224x256x1024, .f32⟩
  | .hbm, ⟨6, _⟩ => ⟨S_, .i32⟩
  | .hbm, ⟨7, _⟩ => ⟨S224, .i32⟩
  | .hbm, ⟨8, _⟩ => ⟨S224, .i1⟩
  | .hbm, ⟨9, _⟩ => ⟨S_, .i32⟩
  | .hbm, ⟨10, _⟩ => ⟨S224, .i32⟩
  | .hbm, ⟨11, _⟩ => ⟨S224, .i32⟩
  | .hbm, ⟨12, _⟩ => ⟨S224, .i32⟩
  | .hbm, ⟨13, _⟩ => ⟨S224x1, .i32⟩
  | .hbm, ⟨14, _⟩ => ⟨S224x1024x2048, .f32⟩
  | .hbm, ⟨15, _⟩ => ⟨S224x256x2048, .f32⟩
  | .hbm, ⟨16, _⟩ => ⟨S224, .i32⟩
  | .hbm, ⟨17, _⟩ => ⟨S224, .i32⟩
  | .hbm, ⟨18, _⟩ => ⟨S224, .i1⟩
  | .hbm, ⟨19, _⟩ => ⟨S224x1x1, .i1⟩
  | .hbm, ⟨20, _⟩ => ⟨S_, .f32⟩
  | .hbm, ⟨21, _⟩ => ⟨S_, .f32⟩
  | .hbm, ⟨22, _⟩ => ⟨S224x256x2048, .i1⟩
  | .hbm, ⟨23, _⟩ => ⟨S224x256x2048, .f32⟩
  | .hbm, ⟨24, _⟩ => ⟨S224x256x2048, .f32⟩
  | .hbm, ⟨25, _⟩ => ⟨S57344x2048, .f32⟩
  | _, _ => ⟨S57344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel5.lean ====
abbrev S16384x2048 : Shape := ⟨2, ![16384, 2048]⟩
abbrev S8192x2048 : Shape := ⟨2, ![8192, 2048]⟩
abbrev S24576x1024 : Shape := ⟨2, ![24576, 1024]⟩
abbrev S2048 : Shape := ⟨1, ![2048]⟩
abbrev S2048x2048 : Shape := ⟨2, ![2048, 2048]⟩
abbrev S2048x4 : Shape := ⟨2, ![2048, 4]⟩
abbrev S2048x32 : Shape := ⟨2, ![2048, 32]⟩
abbrev S32x2048 : Shape := ⟨2, ![32, 2048]⟩
abbrev S4x2048 : Shape := ⟨2, ![4, 2048]⟩
abbrev S_ : Shape := ⟨0, ![]⟩
abbrev S40x2048 : Shape := ⟨2, ![40, 2048]⟩
abbrev S1x2048 : Shape := ⟨2, ![1, 2048]⟩
abbrev S24576x2048 : Shape := ⟨2, ![24576, 2048]⟩
abbrev S40x24576 : Shape := ⟨2, ![40, 24576]⟩
abbrev S512x2048 : Shape := ⟨2, ![512, 2048]⟩
abbrev S512x1024 : Shape := ⟨2, ![512, 1024]⟩
abbrev S40x512 : Shape := ⟨2, ![40, 512]⟩
abbrev S512 : Shape := ⟨1, ![512]⟩
abbrev S512x1 : Shape := ⟨2, ![512, 1]⟩
abbrev S1x1024 : Shape := ⟨2, ![1, 1024]⟩
abbrev S1024x2048 : Shape := ⟨2, ![1024, 2048]⟩

abbrev nBuf : Space → Nat
  | .hbm => 20
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S24576x1024, .f32⟩
  | .hbm, ⟨3, _⟩ => ⟨S24576x1024, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x4, .f32⟩
  | .hbm, ⟨8, _⟩ => ⟨S2048x32, .f32⟩
  | .hbm, ⟨9, _⟩ => ⟨S32x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S40x2048, .f32⟩
  | .hbm, ⟨14, _⟩ => ⟨S2048x2048, .bf16⟩
  | .hbm, ⟨15, _⟩ => ⟨S1x2048, .f32⟩
  | .hbm, ⟨16, _⟩ => ⟨S1x2048, .f32⟩
  | .hbm, ⟨17, _⟩ => ⟨S24576x2048, .f32⟩
  | .hbm, ⟨18, _⟩ => ⟨S24576x2048, .f32⟩
  | .hbm, ⟨19, _⟩ => ⟨S40x24576, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S2048x2048, .bf16⟩
  | .local _ .vmem, ⟨10, _⟩ => ⟨S1x2048, .f32⟩
  | .local _ .vmem, ⟨11, _⟩ => ⟨S40x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S40x512, .f32⟩
  | .local _ .vmem, ⟨17, _⟩ => ⟨S40x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S40x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x2048 : Shape := ⟨2, ![16384, 2048]⟩
abbrev S8192x2048 : Shape := ⟨2, ![8192, 2048]⟩
abbrev S24576x1024 : Shape := ⟨2, ![24576, 1024]⟩
abbrev S2048 : Shape := ⟨1, ![2048]⟩
abbrev S2048x2048 : Shape := ⟨2, ![2048, 2048]⟩
abbrev S2048x4 : Shape := ⟨2, ![2048, 4]⟩
abbrev S2048x32 : Shape := ⟨2, ![2048, 32]⟩
abbrev S24576x2048 : Shape := ⟨2, ![24576, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S24576x1024, .f32⟩
  | .hbm, ⟨3, _⟩ => ⟨S24576x1024, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x4, .f32⟩
  | .hbm, ⟨8, _⟩ => ⟨S2048x32, .f32⟩
  | .hbm, ⟨9, _⟩ => ⟨S24576x2048, .f32⟩
  | .hbm, ⟨10, _⟩ => ⟨S24576x1024, .f32⟩
  | .hbm, ⟨11, _⟩ => ⟨S_, .f32⟩
  | .hbm, ⟨12, _⟩ => ⟨S24576, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S_, .f32⟩
  | .hbm, ⟨18, _⟩ => ⟨S24576x1, .f32⟩
  | .hbm, ⟨19, _⟩ => ⟨S24576x1, .f32⟩
  | .hbm, ⟨20, _⟩ => ⟨S24576x1, .f32⟩
  | .hbm, ⟨21, _⟩ => ⟨S24576x1024, .f32⟩
  | .hbm, ⟨22, _⟩ => ⟨S24576x1024, .f32⟩
  | .hbm, ⟨23, _⟩ => ⟨S24576x1024, .f32⟩
  | .hbm, ⟨24, _⟩ => ⟨S_, .f32⟩
  | .hbm, ⟨25, _⟩ => ⟨S24576, .f32⟩
  | .hbm, ⟨26, _⟩ => ⟨S24576x1, .f32⟩
  | .hbm, ⟨27, _⟩ => ⟨S_, .f32⟩
  | .hbm, ⟨28, _⟩ => ⟨S24576x1, .f32⟩
  | .hbm, ⟨29, _⟩ => ⟨S24576x1, .f32⟩
  | .hbm, ⟨30, _⟩ => ⟨S_, .f32⟩
  | .hbm, ⟨31, _⟩ => ⟨S24576x1, .f32⟩
  | .hbm, ⟨32, _⟩ => ⟨S24576x1, .f32⟩
  | .hbm, ⟨33, _⟩ => ⟨S24576x1, .f32⟩
  | .hbm, ⟨34, _⟩ => ⟨S24576x1024, .f32⟩
  | .hbm, ⟨35, _⟩ => ⟨S24576x1024, .f32⟩
  | .hbm, ⟨36, _⟩ => ⟨S24576x2048, .f32⟩
  | .hbm, ⟨37, _⟩ => ⟨S1x2048, .f32⟩
  | .hbm, ⟨38, _⟩ => ⟨S24576x2048, .f32⟩
  | .hbm, ⟨39, _⟩ => ⟨S24576x2048, .f32⟩
  | .hbm, ⟨40, _⟩ => ⟨S24576x2048, .f32⟩
  | .hbm, ⟨41, _⟩ => ⟨S24576x2048, .f32⟩
  | .hbm, ⟨42, _⟩ => ⟨S24576x2048, .f32⟩
  | .hbm, ⟨43, _⟩ => ⟨S_, .f32⟩
  | .hbm, ⟨44, _⟩ => ⟨S24576, .f32⟩
  | .hbm, ⟨45, _⟩ => ⟨S24576x1, .f32⟩
  | .hbm, ⟨46, _⟩ => ⟨S_, .f32⟩
  | .hbm, ⟨47, _⟩ => ⟨S24576x1, .f32⟩
  | .hbm, ⟨48, _⟩ => ⟨S24576x1, .f32⟩
  | .hbm, ⟨49, _⟩ => ⟨S_, .f32⟩
  | .hbm, ⟨50, _⟩ => ⟨S24576x1, .f32⟩
  | .hbm, ⟨51, _⟩ => ⟨S24576x1, .f32⟩
  | .hbm, ⟨52, _⟩ => ⟨S24576x1, .f32⟩
  | .hbm, ⟨53, _⟩ => ⟨S24576x2048, .f32⟩
  | .hbm, ⟨54, _⟩ => ⟨S24576x2048, .f32⟩
  | .hbm, ⟨55, _⟩ => ⟨S1x2048, .f32⟩
  | .hbm, ⟨56, _⟩ => ⟨S24576x2048, .f32⟩
  | .hbm, ⟨57, _⟩ => ⟨S24576x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Rows.lean ====
/-
  The dispatch kernel's names: the rows of the slotted array, the rows of the staged tile, the words the kernel
  reads from the prefetched tables, and what a row transfer leaves. Everything is over any float carrier.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Batch
public import Idealize.ShloMosaic.Lib.Ring
public import Idealize.ShloMosaic.Lib.Affine
public import Idealize.ShloMosaic.Lib.Tactic

@[expose] public section

set_option maxRecDepth 400000

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## Rows -/

abbrev v0M : Memref sig .tc .hbm S57344x2048 .f32 := Memref.whole main_v0

theorem row_inb (s : Fin 57344) : ∀ a, (![s.val, 0] : Fin 2 → Nat) a + S1x2048.size a ≤ S57344x2048.size a := by
  have := s.isLt; intro a; fin_cases a
  · show s.val + 1 ≤ 57344; omega
  · show 0 + 2048 ≤ 2048; omega
/-- Row `s` of the slotted array, as the kernel slices it. -/
def row (s : Fin 57344) : Memref sig .tc .hbm S1x2048 .f32 :=
  v0M.slice (Rect.unit (s := S57344x2048) ![s.val, 0] S1x2048.size (row_inb s)) (fun _ => rfl)

theorem srow_inb (k : Fin 512) : ∀ a, (![k.val, 0] : Fin 2 → Nat) a + S1x2048.size a ≤ S512x2048.size a := by
  have := k.isLt; intro a; fin_cases a
  · show k.val + 1 ≤ 512; omega
  · show 0 + 2048 ≤ 2048; omega
/-- Row `k` of the staged tile. -/
def srow (A : Memref sig .tc .vmem S512x2048 .f32) (k : Fin 512) : Memref sig .tc .vmem S1x2048 .f32 :=
  A.slice (Rect.unit (s := S512x2048) ![k.val, 0] S1x2048.size (srow_inb k)) (fun _ => rfl)

theorem row_congr {off : Fin 2 → Nat} {s : Fin 57344} (e : off = ![s.val, 0]) (hh hs) :
    v0M.slice (Rect.unit (s := S57344x2048) off S1x2048.size hh) hs = row s := Memref.slice_unit_congr _ e _ _ hs (fun _ => rfl)
theorem srow_congr (A : Memref sig .tc .vmem S512x2048 .f32) {off : Fin 2 → Nat} {k : Fin 512} (e : off = ![k.val, 0]) (hh hs) :
    A.slice (Rect.unit (s := S512x2048) off S1x2048.size hh) hs = srow A k := Memref.slice_unit_congr _ e _ _ hs (fun _ => rfl)

def rset (s : Fin 57344) : Finset S57344x2048.Idx := (Rect.unit (s := S57344x2048) ![s.val, 0] S1x2048.size (row_inb s)).set
theorem row_set (s : Fin 57344) : (row s).view.set = rset s := by unfold row rset; exact View.set_slice_whole _ _
theorem mem_rset (s : Fin 57344) (y : S57344x2048.Idx) : y ∈ rset s ↔ (y 0).val = s.val := by
  unfold rset; rw [Rect.mem_set_unit]
  have h1 : (y 1).val < 2048 := (y 1).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 2048; omega
theorem rset_disjoint : ∀ b b' : Fin 57344, b ≠ b' → Disjoint (rset b) (rset b') := fun b b' hne => by
  rw [Finset.disjoint_left]; intro y hy hy'; rw [mem_rset] at hy hy'; exact hne (Fin.ext (by omega))
theorem rset_cover (y : S57344x2048.Idx) : y ∈ (Finset.univ : Finset S57344x2048.Idx) ↔ ∃ b, y ∈ rset b :=
  ⟨fun _ => ⟨⟨(y 0).val, (y 0).isLt⟩, (mem_rset _ _).mpr rfl⟩, fun _ => Finset.mem_univ _⟩

abbrev kset (k : Fin 512) : Finset S512x2048.Idx := (Rect.unit (s := S512x2048) ![k.val, 0] S1x2048.size (srow_inb k)).set
theorem mem_kset (s : Fin 512) (y : S512x2048.Idx) : y ∈ kset s ↔ (y 0).val = s.val := by
  rw [Rect.mem_set_unit]
  have h1 : (y 1).val < 2048 := (y 1).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 2048; omega
abbrev sset (A : Memref sig .tc .vmem S512x2048 .f32) (k : Fin 512) : Finset A.view.ty.Idx := (kset k).map A.view.emb
theorem srow_set (A : Memref sig .tc .vmem S512x2048 .f32) (k : Fin 512) : (srow A k).view.set = sset A k := by
  unfold srow; exact View.set_slice _ _
theorem sset_disjoint (A : Memref sig .tc .vmem S512x2048 .f32) : ∀ b b' : Fin 512, b ≠ b' → Disjoint (sset A b) (sset A b') := fun b b' hne => by
  rw [Finset.disjoint_map, Finset.disjoint_left]; intro y hy hy'; rw [mem_kset] at hy hy'; exact hne (Fin.ext (by omega))
theorem sset_cover (A : Memref sig .tc .vmem S512x2048 .f32) (y : A.view.ty.Idx) : y ∈ A.view.set ↔ ∃ b, y ∈ sset A b := by
  have hA : y ∈ A.view.set ↔ ∃ x, A.view.emb x = y := by
    unfold View.set; simp only [Finset.mem_map, Finset.mem_univ, true_and]
  refine ⟨fun h => ?_, fun ⟨k, hk⟩ => ?_⟩
  · have ⟨x, e⟩ := hA.mp h
    exact ⟨⟨(x 0).val, (x 0).isLt⟩, Finset.mem_map.mpr ⟨x, (mem_kset _ _).mpr rfl, e⟩⟩
  · have ⟨x, _, e⟩ := Finset.mem_map.mp hk
    exact hA.mpr ⟨x, e⟩

section Blocks
variable {ℓ : Loc nD τ sig} {B : Type} [Fintype B] [DecidableEq B] (I : B → Finset (Idx ℓ)) (S : Finset (Idx ℓ)) {q : PosShare TreeShare}

theorem biUnion_of_mem (hc : ∀ y, y ∈ S ↔ ∃ b, y ∈ I b) : Finset.univ.biUnion I = S := by
  refine Finset.ext fun y => ⟨fun h => ?_, fun h => ?_⟩
  · have ⟨b, _, hb⟩ := Finset.mem_biUnion.mp h; exact (hc y).mpr ⟨b, hb⟩
  · have ⟨b, hb⟩ := (hc y).mp h; exact Finset.mem_biUnion.mpr ⟨b, Finset.mem_univ _, hb⟩
omit [FloatOps F] in
/-- A buffer held on a set that splits into blocks, each of which gives `Φ`, gives them all; -/
theorem blocks_out (hd : ∀ b b', b ≠ b' → Disjoint (I b) (I b')) (hc : ∀ y, y ∈ S ↔ ∃ b, y ∈ I b) (f : Buf (Elt F) ℓ) (Φ : B → sProp 𝕄)
    (h : ∀ b, (ℓ ↦[I b]{q} f : sProp 𝕄) ⊢ Φ b) : (ℓ ↦[S]{q} f : sProp 𝕄) ⊢ bigSep Finset.univ Φ := by
  rw [Ring.pointsTo_sub_blocks I hd S (biUnion_of_mem I S hc) f]; exact BI.bigSep_mono fun b _ => h b
omit [FloatOps F] in
/-- and back. -/
theorem blocks_in (hd : ∀ b b', b ≠ b' → Disjoint (I b) (I b')) (hc : ∀ y, y ∈ S ↔ ∃ b, y ∈ I b) (f : Buf (Elt F) ℓ) (Φ : B → sProp 𝕄)
    (h : ∀ b, Φ b ⊢ (ℓ ↦[I b]{q} f : sProp 𝕄)) : bigSep Finset.univ Φ ⊢ (ℓ ↦[S]{q} f : sProp 𝕄) := by
  rw [Ring.pointsTo_sub_blocks I hd S (biUnion_of_mem I S hc) f]; exact BI.bigSep_mono fun b _ => h b
end Blocks

section Row
variable (c : Dev nD) (G : S57344x2048.Idx → Elt F .f32)

/-- Row `s` held, and — when `w` — already at its final contents `G`. -/
def rowW (w : Prop) (s : Fin 57344) : sProp 𝕄 :=
  iprop(∃ f, ⌜w → (row s).view.read (Elt F) f = (row s).view.read (Elt F) G⌝ ∗ ((row s).view.loc (c : Thread nD τ) ↦[(row s).view.set]{fullShare} f))

instance rowW_storable (w : Prop) (s : Fin 57344) : BI.Storable (upEmb : UEmb _ 𝕄) (rowW c G w s) := by unfold rowW; infer_instance

theorem rowW_mono {w w' : Prop} (h : w' → w) (s : Fin 57344) : (rowW c G w s : sProp 𝕄) ⊢ rowW c G w' s := by
  unfold rowW; iintro ⟨%f, %hf, H⟩; iexists f; isplitr
  · ipureintro; exact fun h' => hf (h h')
  · iexact H

theorem row_agree (s : Fin 57344) (f : S57344x2048.Idx → Elt F .f32) (h : (row s).view.read (Elt F) f = (row s).view.read (Elt F) G) :
    ∀ i ∈ (row s).view.set, f i = G i := by
  intro i hi
  obtain ⟨x, -, rfl⟩ := Finset.mem_map.mp hi
  exact congrFun h x

theorem row_of_set (f : S57344x2048.Idx → Elt F .f32) (s : Fin 57344) :
    (v0M.view.loc (c : Thread nD τ) ↦[rset s]{fullShare} f : sProp 𝕄) ⊢ rowW c G False s := by
  rw [← row_set]; unfold rowW
  iintro H; iexists f; isplitr
  · ipureintro; exact False.elim
  · iexact H
theorem set_of_row (s : Fin 57344) :
    rowW c G True s ⊢ (v0M.view.loc (c : Thread nD τ) ↦[rset s]{fullShare} G : sProp 𝕄) := by
  rw [← row_set]; unfold rowW
  iintro ⟨%f, %hf, H⟩
  iapply (Entails.of_eq (pointsTo_congr (ℓ := v0M.view.loc (c : Thread nD τ)) (row_agree G s f (hf trivial)))); iexact H

/-- The array held whole is its rows, none of them claimed; -/
theorem rows_of_whole (f : S57344x2048.Idx → Elt F .f32) :
    (v0M.view.loc (c : Thread nD τ) ↦{fullShare} f : sProp 𝕄) ⊢ bigSep Finset.univ (rowW c G False) := by
  have h := row_of_set c G f
  generalize rowW c G False = Φ at h ⊢
  exact blocks_out (ℓ := v0M.view.loc (c : Thread nD τ)) rset _ rset_disjoint rset_cover f Φ h
/-- and all rows at their final contents are the array at its final contents. -/
theorem whole_of_rows :
    bigSep Finset.univ (rowW c G True) ⊢ (v0M.view.loc (c : Thread nD τ) ↦{fullShare} G : sProp 𝕄) := by
  have h := set_of_row c G
  generalize rowW c G True = Φ at h ⊢
  exact blocks_in (ℓ := v0M.view.loc (c : Thread nD τ)) rset _ rset_disjoint rset_cover G Φ h

/-- What a row transfer from `src` leaves in row `s`, when `src` reads as the row's final contents. -/
theorem land (s : Fin 57344) {sp : Space} (src : Memref sig .tc sp S1x2048 .f32) (q : PosShare TreeShare)
    (fs : Buf (Elt F) (src.view.loc (c : Thread nD τ))) (fd : Buf (Elt F) ((row s).view.loc (c : Thread nD τ)))
    (h : (row s).view.read (Elt F) G = src.view.read (Elt F) fs) :
    (iprop(((row s).view.loc (c : Thread nD τ) ↦[(row s).view.set]{fullShare}
        (row s).view.write (Elt F) fd (ReadAs.same.apply (src.view.read (Elt F) fs)) Finset.univ)
      ∗ (src.view.loc (c : Thread nD τ) ↦[src.view.set]{q} fs)) : sProp 𝕄)
      ⊢ iprop(rowW c G True s ∗ (src.view.loc (c : Thread nD τ) ↦[src.view.set]{q} fs)) := by
  unfold rowW
  iintro ⟨Hd, Hs⟩
  isplitl [Hd]
  · iexists _
    isplitr
    swap; · iexact Hd
    ipureintro; intro _
    rw [h]; exact View.read_write_univ _ _
  · iexact Hs
/-- A row's transfer moves 256 units. -/
abbrev NN : ℕ := 256
theorem row_amount (s : Fin 57344) (sem : DmaSem sig) : (row s).view.amount (.dma sem) = NN := rfl

/-- Sending `src` to row `s` as transfer `j` of a batch. -/
theorem wp_sendRow {n : ℕ} {sem : DmaSem sig} {sp : Space} (s : Fin 57344) {d : Memref sig .tc .hbm S1x2048 .f32} (hd : d = row s)
    (src : Memref sig .tc sp S1x2048 .f32) {src' : Memref sig .tc sp S1x2048 .f32} (hs : src' = src) (q : PosShare TreeShare)
    (fs : Buf (Elt F) (src.view.loc (c : Thread nD τ)))
    (h : (row s).view.read (Elt F) G = src.view.read (Elt F) fs) (D : Fin n → sProp 𝕄) (j : ℕ) (hj : j < n)
    (hD : iprop(rowW c G True s ∗ (src.view.loc (c : Thread nD τ) ↦[src.view.set]{q} fs)) ⊢ D ⟨j, hj⟩)
    {hsrc : src'.view.WordExact} {hdst : d.view.WordExact} {hsem : DmaTarget.Typed (nD := nD) (τ := τ) (p := .tc) sp (.dma sem) (.here d)}
    {k : PUnit → Prog (TpuEff nD τ sig (Elt F) Λ₀ .tc) Unit} {Q : Unit → sProp 𝕄} :
    iprop((src.view.loc (c : Thread nD τ) ↦[src.view.set]{q} fs) ∗ rowW c G False s
        ∗ Transfers.Batch (countersEmb (U := UU nD τ)) (c : Thread nD τ) (.dma sem) () NN D j 0)
      ⊢ iprop((Transfers.Batch (countersEmb (U := UU nD τ)) (c : Thread nD τ) (.dma sem) () NN D (j + 1) 0
            -∗ wp Idealize.ShloMosaic.frame (wpE (defs₀ (F := F)) 𝒱₀ (c : Thread nD τ) none) Set.univ (k ⟨⟩) Q)
          -∗ wp Idealize.ShloMosaic.frame (wpE (defs₀ (F := F)) 𝒱₀ (c : Thread nD τ) none) Set.univ
              (.op (.enqueueDmaAs src' (.here d) .same (.dma sem) hsrc hdst hsem) k) Q) := by
  subst hd; subst hs
  iintro ⟨Hs, Hd, HB⟩ Hk
  unfold rowW
  icases Hd with ⟨%fd, -, Hd⟩
  iapply (Transfers.wp_dmaBatch (countersEmb (U := UU nD τ)) 𝒱₀ (c : Thread nD τ) none (src := src') (dst := row s) (fs := fs) (fd := fd) (q := q) () NN
    (row_amount s sem) subset_rfl (D := D) (j := j) (u := 0) hj (Nat.zero_le _) ((land c G s src' q fs fd h).trans hD)) $$ [Hs Hd HB]
  · isplitl [Hs]; · iexact Hs
    isplitl [Hd]; · iexact Hd
    iexact HB
  iexact Hk
end Row

section Stage
variable (c : Dev nD) (A : Memref sig .tc .vmem S512x2048 .f32) (st : Buf (Elt F) (A.view.loc (c : Thread nD τ)))

/-- Row `k` of the staged tile at share `q`. -/
abbrev srcP (q : PosShare TreeShare) (k : Fin 512) : sProp 𝕄 :=
  (srow A k).view.loc (c : Thread nD τ) ↦[(srow A k).view.set]{q} st

theorem srcP_of_set (q : PosShare TreeShare) (k : Fin 512) :
    (A.view.loc (c : Thread nD τ) ↦[sset A k]{q} st : sProp 𝕄) ⊢ srcP c A st q k := by
  unfold srcP; rw [srow_set]; exact .rfl
theorem set_of_srcP (q : PosShare TreeShare) (k : Fin 512) :
    srcP c A st q k ⊢ (A.view.loc (c : Thread nD τ) ↦[sset A k]{q} st : sProp 𝕄) := by
  unfold srcP; rw [srow_set]; exact .rfl

/-- The staged tile as its rows, each in two halves: one for each of the row's two transfers. -/
theorem stage_out :
    (A.view.loc (c : Thread nD τ) ↦[A.view.set]{fullShare} st : sProp 𝕄)
      ⊢ iprop(bigSep Finset.univ (srcP c A st fullShare.left) ∗ bigSep Finset.univ (srcP c A st fullShare.right)) := by
  iintro H
  ihave H := (pointsTo_share (PosShare.mem_left_op_right fullShare)).1 $$ H
  icases H with ⟨H1, H2⟩
  isplitl [H1]
  · iapply (blocks_out (ℓ := A.view.loc (c : Thread nD τ)) (sset A) _ (sset_disjoint A) (sset_cover A) st _ (srcP_of_set c A st _)); iexact H1
  · iapply (blocks_out (ℓ := A.view.loc (c : Thread nD τ)) (sset A) _ (sset_disjoint A) (sset_cover A) st _ (srcP_of_set c A st _)); iexact H2
theorem stage_in :
    iprop(bigSep Finset.univ (srcP c A st fullShare.left) ∗ bigSep Finset.univ (srcP c A st fullShare.right))
      ⊢ (A.view.loc (c : Thread nD τ) ↦[A.view.set]{fullShare} st : sProp 𝕄) := by
  iintro ⟨H1, H2⟩
  iapply (pointsTo_share (PosShare.mem_left_op_right fullShare)).2
  isplitl [H1]
  · iapply (blocks_in (ℓ := A.view.loc (c : Thread nD τ)) (sset A) _ (sset_disjoint A) (sset_cover A) st _ (set_of_srcP c A st _)); iexact H1
  · iapply (blocks_in (ℓ := A.view.loc (c : Thread nD τ)) (sset A) _ (sset_disjoint A) (sset_cover A) st _ (set_of_srcP c A st _)); iexact H2
end Stage

/-! ## Words of the prefetched tables -/

/-- Entry `n` of a table of 24576 words, of 32 words. -/
def ixT (n : ℕ) : S24576.Idx := fun a => ⟨(Ring.bk 24576 n).val, by fin_cases a; exact (Ring.bk 24576 n).isLt⟩
def ixE (n : ℕ) : S32.Idx := fun a => ⟨(Ring.bk 32 n).val, by fin_cases a; exact (Ring.bk 32 n).isLt⟩

open Affine in
theorem isInt_tok (i : grid0.Coords) (k : Fin 512) :
    IsInt (Scalar.addi (Scalar.muli (BitVec.ofNat 32 (i 0).val) 512#32) (Scf.iv 0#32 1#32 k.val)) (512 * (i 0).val + k.val : Nat) := by
  have hi : (i 0).val < 48 := (i 0).isLt
  have hk := k.isLt
  have h1 : IsInt (Scalar.muli (BitVec.ofNat 32 (i 0).val) 512#32) (512 * (i 0).val : Nat) :=
    muli (e := (512 * (i 0).val : Nat)) (ofNat (e := (i 0).val) (i 0).val ⟨rfl, by omega⟩) (ofNat (e := 512) 512 ⟨rfl, by decide⟩) ⟨by push_cast; omega, by omega, by push_cast; omega⟩
  have h2 : IsInt (Scf.iv 0#32 1#32 k.val) k.val :=
    iv (e := k.val) (ofNat (e := 0) 0 ⟨rfl, by decide⟩) (ofNat (e := 1) 1 ⟨rfl, by decide⟩) k.val ⟨by omega, by omega, by omega⟩
  exact addi (e := (512 * (i 0).val + k.val : Nat)) h1 h2 ⟨by push_cast; omega, by omega, by push_cast; omega⟩

open Affine in
theorem off1_eq (i : grid0.Coords) (k : Fin k0_t1_loop.trips) : k0_off1 i k = ![512 * (i 0).val + k.val] :=
  vec_cons (indexCast (isInt_tok i k)) rfl vec_nil

theorem off4_eq (i : grid0.Coords) (k : Fin k0_t1_loop.trips) : k0_off4 i k = ![512 * (i 0).val + k.val] := off1_eq i k
theorem off13_eq (i : grid0.Coords) (k : Fin k0_t7_loop.trips) : k0_off13 i k = ![512 * (i 0).val + k.val] := off1_eq i k
theorem off16_eq (i : grid0.Coords) (k : Fin k0_t7_loop.trips) : k0_off16 i k = ![512 * (i 0).val + k.val] := off1_eq i k
open Affine in
theorem off3_eq (k : Fin k0_t1_loop.trips) : k0_off3 k = ![k.val, 0] :=
  vec_cons (iv (e := k.val) (ofNat (e := 0) 0 ⟨rfl, by decide⟩) (ofNat (e := 1) 1 ⟨rfl, by decide⟩) k.val
    ⟨by omega, by omega, by have : k.val < 512 := k.isLt; omega⟩) rfl rfl
theorem off6_eq (k : Fin k0_t1_loop.trips) : k0_off6 k = ![k.val, 0] := off3_eq k

end Cert.Proof.Dispatch

end
-- ==== Proof.Issue.lean ====
/-
  The dispatch kernel's first loop: each of the tile's 512 rows sent to its two slots.
-/
module

public import proofs.«01_k».proof.Proof.Rows

@[expose] public section

set_option maxRecDepth 400000

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev t1M : Memref sig .tc .smem S24576 .i32 := Memref.whole main_arg1
abbrev t2M : Memref sig .tc .smem S24576 .i32 := Memref.whole main_arg2
abbrev t3M : Memref sig .tc .smem S32 .i32 := Memref.whole main_arg3
abbrev t4M : Memref sig .tc .smem S32 .i32 := Memref.whole main_arg4
abbrev zM : Memref sig .tc .vmem S8x2048 .f32 := Memref.whole cc0_scratch0

/-- The slot token `n` of a table goes to. -/
def slotOf (f : S24576.Idx → BitVec 32) (n : ℕ) : Fin 57344 := Ring.bk 57344 (f (ixT n)).toNat

theorem read_word (f : S24576.Idx → BitVec 32) (off : Fin 1 → Nat) (n : ℕ) (hn : n < 24576) (e : off = ![n]) (hb) (x) :
    t1M.view.readAt (Elt F) (Rect.unit (s := S24576) off S1.size hb).toLoadRect f x = f (ixT n) := by
  subst e
  rw [View.readAt_apply]
  show f _ = f _
  congr 1
  funext a
  fin_cases a
  apply Fin.ext
  have hx : (x 0).val < 1 := (x 0).isLt
  show n + 1 * (x 0).val = (Ring.bk 24576 n).val
  rw [Ring.bk_val hn]; omega

theorem read_word2 (f : S24576.Idx → BitVec 32) (off : Fin 1 → Nat) (n : ℕ) (hn : n < 24576) (e : off = ![n]) (hb) (x) :
    t2M.view.readAt (Elt F) (Rect.unit (s := S24576) off S1.size hb).toLoadRect f x = f (ixT n) := by
  rw [← read_word (F := F) f off n hn e hb x]; rfl

theorem chk_of (v : BitVec 32) (h : v.toNat < 57344) : k0_chk1 v := by
  intro a; fin_cases a
  · show v.toNat + 1 ≤ 57344; omega
  · show 0 + 2048 ≤ 2048; omega
theorem off2_eq (v : BitVec 32) (h : v.toNat < 57344) : k0_off2 v = ![(Ring.bk 57344 v.toNat).val, 0] := by
  rw [Ring.bk_val h]; rfl

section
variable (c : Dev nD) (i : grid0.Coords)
  (f1 f2 : S24576.Idx → BitVec 32) (f3 f4 : S32.Idx → BitVec 32)
  (A : Memref sig .tc .vmem S512x2048 .f32) (hA : A.IsWhole) (st : Buf (Elt F) (A.view.loc (c : Thread nD τ)))
  (G : S57344x2048.Idx → Elt F .f32)

/-- The tables, at the half share the kernel holds them. -/
abbrev tab1 : sProp 𝕄 := (t1M.view.loc (c : Thread nD τ)) ↦[t1M.view.set]{fullShare.right} f1
abbrev tab2 : sProp 𝕄 := (t2M.view.loc (c : Thread nD τ)) ↦[t2M.view.set]{fullShare.right} f2
abbrev tab3 : sProp 𝕄 := (t3M.view.loc (c : Thread nD τ)) ↦[t3M.view.set]{fullShare.right} f3
abbrev tab4 : sProp 𝕄 := (t4M.view.loc (c : Thread nD τ)) ↦[t4M.view.set]{fullShare.right} f4

/-- The two slots of row `k` of tile `i`. -/
abbrev e1 (k : ℕ) : Fin 57344 := slotOf f1 (512 * (i 0).val + k)
abbrev e2 (k : ℕ) : Fin 57344 := slotOf f2 (512 * (i 0).val + k)

/-- What the row's two transfers bring back: the slot at its final contents, the row's half. -/
def dK (k : ℕ) : sProp 𝕄 := iprop(rowW c G True (e1 i f1 k) ∗ srcP c A st fullShare.left (Ring.bk 512 k))
def dV (k : ℕ) : sProp 𝕄 := iprop(rowW c G True (e2 i f2 k) ∗ srcP c A st fullShare.right (Ring.bk 512 k))
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance srcP_storable (q : PosShare TreeShare) (k : Fin 512) : BI.Storable (upEmb : UEmb _ 𝕄) (srcP c A st q k) :=
  pts_storable _ _ _ _
instance (k : ℕ) : BI.Storable (upEmb : UEmb _ 𝕄) (dK c i f1 A st G k) := by unfold dK; infer_instance
instance (k : ℕ) : BI.Storable (upEmb : UEmb _ 𝕄) (dV c i f2 A st G k) := by unfold dV; infer_instance
abbrev dAll : Fin (2 * 512) → sProp 𝕄 := Ring.interleaved 512 (dK c i f1 A st G) (dV c i f2 A st G)

abbrev batch (j u : ℕ) : sProp 𝕄 :=
  Transfers.Batch (countersEmb (U := UU nD τ)) (c : Thread nD τ) (.dma cc0_scratch1.sem) () NN (dAll c i f1 f2 A st G) j u

theorem dAll_even (k : ℕ) (hk : k < 512) :
    (iprop(rowW c G True (e1 i f1 k) ∗ srcP c A st fullShare.left ⟨k, hk⟩) : sProp 𝕄) ⊢ dAll c i f1 f2 A st G ⟨2 * k, by omega⟩ := by
  show _ ⊢ Ring.interleaved 512 (dK c i f1 A st G) (dV c i f2 A st G) ⟨2 * k, _⟩
  rw [Ring.interleaved_even]; unfold dK
  rw [show Ring.bk 512 k = ⟨k, hk⟩ from Fin.ext (Ring.bk_val hk)]
theorem dAll_odd (k : ℕ) (hk : k < 512) :
    (iprop(rowW c G True (e2 i f2 k) ∗ srcP c A st fullShare.right ⟨k, hk⟩) : sProp 𝕄) ⊢ dAll c i f1 f2 A st G ⟨2 * k + 1, by omega⟩ := by
  show _ ⊢ Ring.interleaved 512 (dK c i f1 A st G) (dV c i f2 A st G) ⟨2 * k + 1, _⟩
  rw [Ring.interleaved_odd]; unfold dV
  rw [show Ring.bk 512 k = ⟨k, hk⟩ from Fin.ext (Ring.bk_val hk)]

/-- What trip `k` uses up: the row's two halves, and the row's two slots. -/
def need (k : Fin 512) : sProp 𝕄 :=
  iprop(srcP c A st fullShare.left k ∗ srcP c A st fullShare.right k ∗ rowW c G False (e1 i f1 k.val) ∗ rowW c G False (e2 i f2 k.val))

def issueAt (k : ℕ) (_ : Unit) : sProp 𝕄 :=
  iprop(batch c i f1 f2 A st G (2 * k) 0 ∗ tab1 c f1 ∗ tab2 c f2 ∗ bigSep (Ring.rangeSet 512 k 512) (need c i f1 f2 A st G))

abbrev issueBody (k : Fin k0_t1_loop.trips) : Prog (TpuEff nD τ sig (Elt F) Λ₀ .tc) Unit :=
  k0_t1_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2 k ()

theorem issue_step (k : Fin k0_t1_loop.trips) (hk : k.val < 512)
    (h1 : ∀ n < 24576, (f1 (ixT n)).toNat < 57344) (h2 : ∀ n < 24576, (f2 (ixT n)).toNat < 57344)
    (s1 : ∀ k : Fin 512, (row (e1 i f1 k.val)).view.read (Elt F) G = (srow A k).view.read (Elt F) st)
    (s2 : ∀ k : Fin 512, (row (e2 i f2 k.val)).view.read (Elt F) G = (srow A k).view.read (Elt F) st) :
    issueAt c i f1 f2 A st G k ()
      ⊢ wp frame (wpE (defs₀ (F := F)) 𝒱₀ (c : Thread nD τ) none) Set.univ (issueBody i A hA k) (issueAt c i f1 f2 A st G (k.val + 1)) := by
  unfold issueAt
  rw [Ring.bigSep_rangeSet_head (Φ := need c i f1 f2 A st G) (by omega) (by omega)]
  unfold need
  iintro ⟨HB, HT1, HT2, ⟨HL, HR, HK, HV⟩, Hrest⟩
  dsimp only [issueBody]
  sl_unfold [k0_t1_body]
  sl_exec
  have hn : 512 * (i 0).val + k.val < 24576 := by have : (i 0).val < 48 := (i 0).isLt; omega
  have hr : issue_step.sl.r (F := F) i f1 k = f1 (ixT (512 * (i 0).val + k.val)) := by
    exact read_word (F := F) f1 _ _ hn (off1_eq i k) _ _
  have hc : k0_chk1 (issue_step.sl.r (F := F) i f1 k) := by rw [hr]; exact chk_of _ (h1 _ hn)
  sl_exec
  iapply (wp_sendRow c G (e1 i f1 k.val) (row_congr (by rw [hr]; exact off2_eq _ (h1 _ hn)) _ _)
    (srow A ⟨k.val, hk⟩) (srow_congr A (off3_eq k) _ _) fullShare.left st (s1 ⟨k.val, hk⟩) (dAll c i f1 f2 A st G) (2 * k.val) (by omega)
    (dAll_even c i f1 f2 A st G k.val hk)) $$ [HL HK HB]
  · isplitl [HL]; · iexact HL
    isplitl [HK]; · iexact HK
    iexact HB
  iintro HB
  sl_exec
  have hr' : issue_step.sl.r_1 (F := F) i f2 k = f2 (ixT (512 * (i 0).val + k.val)) := by
    exact read_word2 (F := F) f2 _ _ hn (off4_eq i k) _ _
  have hc' : k0_chk2 (issue_step.sl.r_1 (F := F) i f2 k) := by rw [hr']; exact chk_of _ (h2 _ hn)
  sl_exec
  iapply (wp_sendRow c G (e2 i f2 k.val) (row_congr (by rw [hr']; exact off2_eq _ (h2 _ hn)) _ _)
    (srow A ⟨k.val, hk⟩) (srow_congr A (off6_eq k) _ _) fullShare.right st (s2 ⟨k.val, hk⟩) (dAll c i f1 f2 A st G) (2 * k.val + 1) (by omega)
    (dAll_odd c i f1 f2 A st G k.val hk)) $$ [HR HV HB]
  · isplitl [HR]; · iexact HR
    isplitl [HV]; · iexact HV
    iexact HB
  iintro HB
  sl_exec
  sl_step
  isplitl [HB]; · iexact HB
  isplitl [HT1]; · iexact HT1
  isplitl [HT2]; · iexact HT2
  iexact Hrest

/-! ## The last loop: every transfer waited for -/

/-- Before trip `k` of the last loop: `2 k` transfers' units taken off the semaphore; after the last trip, the
    semaphore at zero and everything the transfers bring. -/
def drainAt (k : ℕ) (_ : Unit) : sProp 𝕄 :=
  iprop(⌜k ≤ 512⌝ ∗ (∃ W, owes (c : Thread nD τ) 0 W) ∗ tab1 c f1 ∗ tab2 c f2
    ∗ (if k < 512 then batch c i f1 f2 A st G (2 * 512) (2 * k * NN)
       else iprop(semVal ((c : Thread nD τ), SemLoc.dma cc0_scratch1.sem) 0 ∗ bigSep Finset.univ (dAll c i f1 f2 A st G))))

abbrev drainBody (k : Fin k0_t7_loop.trips) : Prog (TpuEff nD τ sig (Elt F) Λ₀ .tc) Unit :=
  k0_t7_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2 k ()

theorem drain_step (k : Fin k0_t7_loop.trips) (hk : k.val < 512)
    (h1 : ∀ n < 24576, (f1 (ixT n)).toNat < 57344) (h2 : ∀ n < 24576, (f2 (ixT n)).toNat < 57344) :
    drainAt c i f1 f2 A st G k ()
      ⊢ wp frame (wpE (defs₀ (F := F)) 𝒱₀ (c : Thread nD τ) none) Set.univ (drainBody i A hA k) (drainAt c i f1 f2 A st G (k.val + 1)) := by
  have hn : 512 * (i 0).val + k.val < 24576 := by have : (i 0).val < 48 := (i 0).isLt; omega
  unfold drainAt
  simp only [if_pos hk]
  iintro ⟨-, ⟨%W, HO⟩, HT1, HT2, HB⟩
  dsimp only [drainBody]
  sl_unfold [k0_t7_body]
  sl_exec
  have hr : drain_step.sl.r (F := F) i f1 k = f1 (ixT (512 * (i 0).val + k.val)) := by
    exact read_word (F := F) f1 _ _ hn (off13_eq i k) _ _
  have hc : k0_chk5 (drain_step.sl.r (F := F) i f1 k) := by rw [hr]; exact chk_of _ (h1 _ hn)
  sl_exec
  have hr' : drain_step.sl.r_1 (F := F) i f2 k = f2 (ixT (512 * (i 0).val + k.val)) := by
    exact read_word2 (F := F) f2 _ _ hn (off16_eq i k) _ _
  have hc' : k0_chk6 (drain_step.sl.r_1 (F := F) i f2 k) := by rw [hr']; exact chk_of _ (h2 _ hn)
  rcases Nat.lt_or_ge (k.val + 1) 512 with hl | hl
  · simp only [if_pos hl]
    sl_exec
    sl_step
    isplitr; · ipureintro; omega
    isplitl [HO]; · iexists _; iexact HO
    isplitl [HT1]; · iexact HT1
    isplitl [HT2]; · iexact HT2
    rw [show 2 * (k.val + 1) * NN = 2 * k.val * NN + NN + NN by simp only [NN]; omega]
    iexact HB
  · simp only [if_neg (Nat.not_lt.mpr hl)]
    sl_exec
    sl_step
    isplitr; · ipureintro; omega
    isplitl [HO]; · iexists _; iexact HO
    isplitl [HT1]; · iexact HT1
    isplitl [HT2]; · iexact HT2
    isplitl [HB]; · iexact HB
    iexact HB_all
end
end Cert.Proof.Dispatch
end
-- ==== Proof.Pads.lean ====
/-
  The dispatch kernel's pad loops (run at the first grid point): per expert, the zero row sent to each pad slot.
-/
module

public import proofs.«01_k».proof.Proof.Issue

@[expose] public section

set_option maxRecDepth 400000

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loops' bounds -/

theorem ub_eq (v w : BitVec 32) : Scalar.addi v (Scalar.muli (Scalar.divsi (Scalar.subi w v) 1#32) 1#32) = w := by
  have e : Scalar.divsi (Scalar.subi w v) 1#32 = w - v := by
    show IntOp.divsi .scalar (w - v) 1#32 = w - v
    unfold IntOp.divsi
    rw [if_neg (by unfold IntOp.SDivCorner; simp)]
    exact BitVec.sdiv_one
  rw [e]
  show v + (w - v) * 1#32 = w
  rw [BitVec.mul_one, BitVec.add_comm, BitVec.sub_add_cancel]
theorem ub_eq' (v w : BitVec 32) : Scalar.addi v (Scalar.subi w v) = w := by
  show v + (w - v) = w
  rw [BitVec.add_comm, BitVec.sub_add_cancel]

theorem loop3_eq (v w : BitVec 32) : k0_t3_loop v w = ⟨v, w, 1#32⟩ := by
  show (⟨v, Scalar.addi v (Scalar.muli (Scalar.divsi (Scalar.subi w v) 1#32) 1#32), 1#32⟩ : Scf.Loop 32) = _
  rw [ub_eq]
theorem loop4_eq (v w : BitVec 32) : k0_t4_loop v w = ⟨w, w, 1#32⟩ := by
  show (⟨Scalar.addi v (Scalar.muli (Scalar.divsi (Scalar.subi w v) 1#32) 1#32), Scalar.addi v (Scalar.subi w v), 1#32⟩ : Scf.Loop 32) = _
  rw [ub_eq, ub_eq']
theorem toInt_small (v : BitVec 32) (h : v.toNat ≤ 57344) : v.toInt = v.toNat := by
  have hc := BitVec.toInt_eq_toNat_cond v; split at hc <;> omega

section Bounds
variable (v w : BitVec 32)
theorem trips3 (hw : w.toNat ≤ 57344) (h : v.toNat ≤ w.toNat) : (k0_t3_loop v w).trips = w.toNat - v.toNat := by
  rw [loop3_eq]
  show Scf.trips v w 1#32 = _
  unfold Scf.trips
  rw [toInt_small w hw, toInt_small v (h.trans hw)]
  simp
theorem trips4 : (k0_t4_loop v w).trips = 0 := by
  rw [loop4_eq]
  show Scf.trips w w 1#32 = _
  unfold Scf.trips
  simp

theorem iv_small (h : v.toNat ≤ 57344) (k : ℕ) (hk : k ≤ 57344) : (Scf.iv v 1#32 k).toNat = v.toNat + k := by
  unfold Scf.iv
  rw [BitVec.mul_one, BitVec.toNat_add, BitVec.toNat_ofNat]; omega
theorem off8_nat (hw : w.toNat ≤ 57344) (h : v.toNat ≤ w.toNat) (k : Fin (k0_t3_loop v w).trips) :
    k0_off8 v w k = ![v.toNat + k.val, 0] := by
  have hk := Nat.lt_of_lt_of_eq k.isLt (trips3 v w hw h)
  show ![(Scf.iv v 1#32 k.val).toNat, 0] = _
  rw [iv_small v (by omega) k.val (by omega)]
theorem off8_eq (hw : w.toNat ≤ 57344) (h : v.toNat ≤ w.toNat) (k : Fin (k0_t3_loop v w).trips) (hs : v.toNat + k.val < 57344) :
    k0_off8 v w k = ![(⟨v.toNat + k.val, hs⟩ : Fin 57344).val, 0] := off8_nat v w hw h k

theorem chk3_of (i : grid0.Coords) (hw : w.toNat ≤ 57344) (h : v.toNat ≤ w.toNat) : k0_chk3 i v w := by
  refine ⟨fun _ => ?_, fun k _ => ?_, fun _ => ?_, fun k => ?_⟩
  · refine ⟨show (0 : ℤ) < (1#32 : BitVec 32).toInt by decide, ?_⟩
    show v.toInt + ((k0_t3_loop v w).trips : ℤ) * 1 < 2 ^ 31
    rw [trips3 v w hw h, toInt_small v (h.trans hw)]; omega
  · rw [off8_nat v w hw h k]
    have hk := Nat.lt_of_lt_of_eq k.isLt (trips3 v w hw h)
    intro a; fin_cases a
    · show v.toNat + k.val + 1 ≤ 57344; omega
    · show 0 + 2048 ≤ 2048; omega
  · rw [loop4_eq]
    refine ⟨show (0 : ℤ) < (1#32 : BitVec 32).toInt by decide, ?_⟩
    show w.toInt + (Scf.trips w w 1#32 : ℤ) * 1 < 2 ^ 31
    rw [toInt_small w hw]
    have : Scf.trips w w 1#32 = 0 := by unfold Scf.trips; simp
    rw [this]; omega
  · exact absurd (Nat.lt_of_lt_of_eq k.isLt (trips4 v w)) (Nat.not_lt_zero _)
end Bounds

theorem trips4_elim {v w : BitVec 32} (k : Fin (k0_t4_loop v w).trips) : False := by
  exact absurd (Nat.lt_of_lt_of_eq k.isLt (trips4 v w)) (Nat.not_lt_zero _)

/-! ## One expert's pads -/

/-- The scratch's first row, zero, that the pads are filled from. -/
def zrow : Memref sig .tc .vmem S1x2048 .f32 :=
  zM.slice (Rect.unit (s := S8x2048) ![0, 0] S1x2048.size inb_S8x2048_S1x2048_0_0) (fun _ => rfl)

section Pads
variable (c : Dev nD) (i : grid0.Coords) (h1 : k0_cond1 i = 1#1)
  (A : Memref sig .tc .vmem S512x2048 .f32) (hA : A.IsWhole)
  (G : S57344x2048.Idx → Elt F .f32) (zf : S8x2048.Idx → Elt F .f32)

abbrev zAt (q : PosShare TreeShare) : sProp 𝕄 := zrow.view.loc (c : Thread nD τ) ↦[zrow.view.set]{q} zf
def zTok (t : ℕ) : sProp 𝕄 := zAt c zf (Transfers.shareTokN fullShare t)
instance (t : ℕ) : BI.Storable (upEmb : UEmb _ 𝕄) (zTok c zf t) := by unfold zTok; exact pts_storable _ _ _ _

theorem z_out (T : ℕ) : (zAt c zf fullShare : sProp 𝕄) ⊢ iprop(zAt c zf (Transfers.shareDrop fullShare T) ∗ bigSep (Finset.range T) (fun t => zTok c zf t)) :=
  (Transfers.pointsTo_toks_range (ℓ := zrow.view.loc (c : Thread nD τ)) fullShare T).1
theorem z_in (T : ℕ) : (iprop(zAt c zf (Transfers.shareDrop fullShare T) ∗ bigSep (Finset.range T) (fun t => zTok c zf t)) : sProp 𝕄) ⊢ zAt c zf fullShare :=
  (Transfers.pointsTo_toks_range (ℓ := zrow.view.loc (c : Thread nD τ)) fullShare T).2

abbrev cell0 : sProp 𝕄 := semVal ((c : Thread nD τ), SemLoc.dma cc0_scratch2.sem) 0
/-- What pad transfer `k` of the run from `lo` brings back. -/
def dP (lo T : ℕ) (k : Fin T) : sProp 𝕄 := iprop(rowW c G True (Ring.bk 57344 (lo + k.val)) ∗ zTok c zf k.val)
instance (lo T : ℕ) (k : Fin T) : BI.Storable (upEmb : UEmb _ 𝕄) (dP c G zf lo T k) := by unfold dP; infer_instance
abbrev padBatch (lo T j u : ℕ) : sProp 𝕄 :=
  Transfers.Batch (countersEmb (U := UU nD τ)) (c : Thread nD τ) (.dma cc0_scratch2.sem) () NN (dP c G zf lo T) j u

/-- Before trip `k` of the sending loop. -/
def padSendAt (lo T : ℕ) (k : ℕ) (_ : Unit) : sProp 𝕄 :=
  iprop((if T = 0 then cell0 c else padBatch c G zf lo T k 0) ∗ bigSep (Ring.rangeSet 57344 (lo + k) (lo + T)) (rowW c G False)
    ∗ bigSep (Ring.rangeSet T k T) (fun t => zTok c zf t.val))
/-- Before trip `k` of the waiting loop. -/
def padWaitAt (lo T : ℕ) (k : ℕ) (_ : Unit) : sProp 𝕄 :=
  iprop(⌜k ≤ T⌝ ∗ (∃ W, owes (c : Thread nD τ) 0 W)
    ∗ (if k < T then padBatch c G zf lo T T (k * NN) else iprop(cell0 c ∗ bigSep Finset.univ (dP c G zf lo T))))

abbrev sendBody (v w : BitVec 32) (hc : k0_chk3 i v w) (k : Fin (k0_t3_loop v w).trips) : Prog (TpuEff nD τ sig (Elt F) Λ₀ .tc) Unit :=
  k0_t3_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2 h1 v w hc k ()
abbrev waitBody (v w : BitVec 32) (hc : k0_chk4 i v w) (k : Fin (k0_t5_loop v w).trips) : Prog (TpuEff nD τ sig (Elt F) Λ₀ .tc) Unit :=
  k0_t5_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2 h1 v w hc k ()

theorem padSend_step (v w : BitVec 32) (hw : w.toNat ≤ 57344) (h : v.toNat ≤ w.toNat) (hc : k0_chk3 i v w) (k : Fin (k0_t3_loop v w).trips)
    (T : ℕ) (hT : T = w.toNat - v.toNat)
    (hz : ∀ s : Fin 57344, v.toNat ≤ s.val → s.val < w.toNat → (row s).view.read (Elt F) G = zrow.view.read (Elt F) zf) :
    padSendAt c G zf v.toNat T k ()
      ⊢ wp frame (wpE (defs₀ (F := F)) 𝒱₀ (c : Thread nD τ) none) Set.univ (sendBody i h1 A hA v w hc k) (padSendAt c G zf v.toNat T (k.val + 1)) := by
  have hk : k.val < T := by have := Nat.lt_of_lt_of_eq k.isLt (trips3 v w hw h); omega
  have hs : v.toNat + k.val < 57344 := by omega
  unfold padSendAt
  simp only [if_neg (show ¬ T = 0 by omega)]
  rw [Ring.bigSep_rangeSet_head (Φ := rowW c G False) (by omega) hs, Ring.bigSep_rangeSet_head (Φ := fun t => zTok c zf t.val) (lo := k.val) (by omega) hk]
  iintro ⟨HB, ⟨HR, HRs⟩, HZ, HZs⟩
  dsimp only [sendBody]
  sl_unfold [k0_t3_body]
  sl_exec
  iapply (wp_sendRow c G ⟨v.toNat + k.val, hs⟩ (row_congr (off8_eq v w hw h k hs) _ _)
    zrow (Memref.slice_unit_congr _ rfl _ _ (fun _ => rfl) (fun _ => rfl)) (Transfers.shareTokN fullShare k.val) zf
    (hz _ (Nat.le_add_right _ _) (by show v.toNat + k.val < _; omega)) (dP c G zf v.toNat T) k.val hk
    (by unfold dP zTok; rw [show Ring.bk 57344 (v.toNat + k.val) = ⟨v.toNat + k.val, hs⟩ from Fin.ext (Ring.bk_val hs)])) $$ [HZ HR HB]
  · isplitl [HZ]; · unfold zTok; iexact HZ
    isplitl [HR]; · iexact HR
    iexact HB
  iintro HB
  sl_exec
  sl_step
  isplitl [HB]; · iexact HB
  isplitl [HRs]; · iexact HRs
  iexact HZs

theorem padWait_step (v w : BitVec 32) (hw : w.toNat ≤ 57344) (h : v.toNat ≤ w.toNat) (hc : k0_chk4 i v w) (k : Fin (k0_t5_loop v w).trips)
    (T : ℕ) (hT : T = w.toNat - v.toNat) (lo : ℕ) :
    padWaitAt c G zf lo T k ()
      ⊢ wp frame (wpE (defs₀ (F := F)) 𝒱₀ (c : Thread nD τ) none) Set.univ (waitBody i h1 A hA v w hc k) (padWaitAt c G zf lo T (k.val + 1)) := by
  have hk : k.val < T := by have := Nat.lt_of_lt_of_eq k.isLt (trips3 v w hw h); omega
  unfold padWaitAt
  simp only [if_pos hk]
  rcases Nat.lt_or_ge (k.val + 1) T with hl | hl
  · simp only [if_pos hl]
    iintro ⟨-, ⟨%W, HO⟩, HB⟩
    dsimp only [waitBody]
    sl_unfold [k0_t5_body]
    sl_exec
    sl_step
    isplitr; · ipureintro; omega
    isplitl [HO]; · iexists _; iexact HO
    rw [show (k.val + 1) * NN = k.val * NN + NN by simp only [NN]; omega]
    iexact HB
  · simp only [if_neg (Nat.not_lt.mpr hl)]
    iintro ⟨-, ⟨%W, HO⟩, HB⟩
    dsimp only [waitBody]
    sl_unfold [k0_t5_body]
    sl_exec
    sl_step
    isplitr; · ipureintro; omega
    isplitl [HO]; · iexists _; iexact HO
    isplitl [HB]; · iexact HB
    iexact HB_all
end Pads

/-! ## All experts -/

theorem read_word3 (f : S32.Idx → BitVec 32) (off : Fin 1 → Nat) (n : ℕ) (hn : n < 32) (e : off = ![n]) (hb) (x) :
    t3M.view.readAt (Elt F) (Rect.unit (s := S32) off S1.size hb).toLoadRect f x = f (ixE n) := by
  subst e
  rw [View.readAt_apply]
  show f _ = f _
  congr 1
  funext a
  fin_cases a
  apply Fin.ext
  have hx : (x 0).val < 1 := (x 0).isLt
  show n + 1 * (x 0).val = (Ring.bk 32 n).val
  rw [Ring.bk_val hn]; omega
theorem read_word4 (f : S32.Idx → BitVec 32) (off : Fin 1 → Nat) (n : ℕ) (hn : n < 32) (e : off = ![n]) (hb) (x) :
    t4M.view.readAt (Elt F) (Rect.unit (s := S32) off S1.size hb).toLoadRect f x = f (ixE n) := by
  rw [← read_word3 (F := F) f off n hn e hb x]; rfl

open Affine in
theorem off7_eq (k : Fin k0_t2_loop.trips) : k0_off7 k = ![k.val] :=
  vec_cons (indexCast (iv (e := k.val) (ofNat (e := 0) 0 ⟨rfl, by decide⟩) (ofNat (e := 1) 1 ⟨rfl, by decide⟩) k.val
    ⟨by omega, by omega, by have : k.val < 32 := k.isLt; omega⟩)) rfl vec_nil
theorem off10_eq (k : Fin k0_t2_loop.trips) : k0_off10 k = ![k.val] := off7_eq k

/-- Slot `s` lies in the pads of one of the first `X` experts. -/
def inPad (f3 f4 : S32.Idx → BitVec 32) (X : ℕ) (s : ℕ) : Prop := ∃ y < X, (f3 (ixE y)).toNat ≤ s ∧ s < (f4 (ixE y)).toNat

section Experts
variable (c : Dev nD) (i : grid0.Coords) (h1 : k0_cond1 i = 1#1)
  (A : Memref sig .tc .vmem S512x2048 .f32) (hA : A.IsWhole) (f3 f4 : S32.Idx → BitVec 32)
  (G : S57344x2048.Idx → Elt F .f32) (zf : S8x2048.Idx → Elt F .f32) (R : Finset (Fin 57344))

/-- Before expert `X`: the pads of the experts before it hold their final contents. -/
def expertAt (X : ℕ) (_ : Unit) : sProp 𝕄 :=
  iprop((∃ W, owes (c : Thread nD τ) 0 W) ∗ tab3 c f3 ∗ tab4 c f4 ∗ cell0 c ∗ zAt c zf fullShare
    ∗ bigSep R (fun s => rowW c G (inPad f3 f4 X s.val) s))

abbrev expertBody (k : Fin k0_t2_loop.trips) : Prog (TpuEff nD τ sig (Elt F) Λ₀ .tc) Unit :=
  k0_t2_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2 h1 k ()

/-- The rows outside expert `X`'s pads are as they were; the rows inside are done. -/
theorem rows_next (X : ℕ) (lo hi : ℕ) (hlo : (f3 (ixE X)).toNat = lo) (hhi : (f4 (ixE X)).toNat = hi)
    (hR : Ring.rangeSet 57344 lo hi ⊆ R) :
    (iprop(bigSep (Ring.rangeSet 57344 lo hi) (rowW c G True) ∗ bigSep (R \ Ring.rangeSet 57344 lo hi) (fun s => rowW c G (inPad f3 f4 X s.val) s)) : sProp 𝕄)
      ⊢ bigSep R (fun s => rowW c G (inPad f3 f4 (X + 1) s.val) s) := by
  rw [BI.bigSep_sdiff_split hR]
  refine BI.sep_mono ?_ ?_
  · exact BI.bigSep_mono fun s _ => rowW_mono c G (fun _ => trivial) s
  · refine BI.bigSep_mono fun s hs => rowW_mono c G ?_ s
    rintro ⟨y, hy, h1, h2⟩
    rw [Finset.mem_sdiff, Ring.mem_rangeSet] at hs
    refine ⟨y, ?_, h1, h2⟩
    rcases Nat.lt_or_ge y X with h | h
    · exact h
    · exfalso; obtain rfl : y = X := by omega
      exact hs.2 ⟨by omega, by omega⟩

theorem deliveries (lo T : ℕ) (h : lo + T ≤ 57344) :
    (bigSep Finset.univ (dP c G zf lo T) : sProp 𝕄)
      ⊢ iprop(bigSep (Ring.rangeSet 57344 lo (lo + T)) (rowW c G True) ∗ bigSep (Finset.range T) (fun t => zTok c zf t)) := by
  unfold dP
  refine (Entails.of_eq (BI.bigSep_sep _ _ _)).trans ?_
  rw [← Ring.rangeSet_univ]
  rw [Ring.bigSep_rangeSet_eq_range (NB := T) (lo := 0) (hi := T) (Φ := fun k => rowW c G True (Ring.bk 57344 (lo + k.val))) le_rfl
      (fun k => rowW c G True (Ring.bk 57344 (lo + k))) (fun k hk => by simp),
    Ring.bigSep_rangeSet_eq_range (NB := T) (lo := 0) (hi := T) (Φ := fun k => zTok c zf k.val) le_rfl
      (fun k => zTok c zf k) (fun k hk => by simp),
    Ring.bigSep_rangeSet_eq_range (NB := 57344) (lo := lo) (hi := lo + T) (Φ := rowW c G True) h
      (fun k => rowW c G True (Ring.bk 57344 (lo + k))) (fun k hk => by rw [show Ring.bk 57344 (lo + k) = ⟨lo + k, hk⟩ from Fin.ext (Ring.bk_val hk)])]
  rw [Nat.add_sub_cancel_left, Nat.sub_zero]
  exact .rfl

omit [FloatOps F] in
theorem split_out {S T : Finset (Fin 57344)} (Φ : Fin 57344 → sProp 𝕄) (h : T ⊆ S) :
    (bigSep S Φ : sProp 𝕄) ⊢ iprop(bigSep T Φ ∗ bigSep (S \ T) Φ) := Entails.of_eq (BI.bigSep_sdiff_split h)
theorem rows_mono {T : Finset (Fin 57344)} (P Q : Fin 57344 → Prop) (h : ∀ s ∈ T, Q s → P s) :
    (bigSep T (fun s => rowW c G (P s) s) : sProp 𝕄) ⊢ bigSep T (fun s => rowW c G (Q s) s) :=
  BI.bigSep_mono fun s hs => rowW_mono c G (h s hs) s
theorem send_enter (lo T : ℕ) :
    (iprop(cell0 c ∗ bigSep (Ring.rangeSet 57344 lo (lo + T)) (rowW c G False) ∗ bigSep (Finset.range T) (fun t => zTok c zf t)) : sProp 𝕄)
      ⊢ |={Set.univ}=> padSendAt c G zf lo T 0 () := by
  have ht : bigSep (Ring.rangeSet T 0 T) (fun t => zTok c zf t.val) = bigSep (Finset.range T) (fun t => zTok c zf t) := by
    rw [Ring.bigSep_rangeSet_eq_range (NB := T) (lo := 0) (hi := T) (Φ := fun k => zTok c zf k.val) le_rfl
      (fun k => zTok c zf k) (fun k hk => by simp), Nat.sub_zero]
  unfold padSendAt
  rw [ht]
  rcases Nat.eq_zero_or_pos T with h | h
  · rw [if_pos h]
    iintro ⟨Hc, HR, HZ⟩
    imodintro
    isplitl [Hc]; · iexact Hc
    isplitl [HR]; · iexact HR
    iexact HZ
  · rw [if_neg (by omega)]
    iintro ⟨Hc, HR, HZ⟩
    imod (Transfers.batch_alloc' (Lvl := ℕ) (countersEmb (U := UU nD τ)) (c : Thread nD τ) () NN (dP c G zf lo T) (sm := .dma cc0_scratch2.sem) (E := Set.univ)) $$ Hc with HB
    imodintro
    isplitl [HB]; · iexact HB
    isplitl [HR]; · iexact HR
    iexact HZ
theorem send_exit (lo T T' : ℕ) (hT : T' = T) (W : Waits sig Unit) :
    (iprop(padSendAt c G zf lo T T' () ∗ owes (c : Thread nD τ) 0 W) : sProp 𝕄) ⊢ padWaitAt c G zf lo T 0 () := by
  rw [hT]
  unfold padSendAt padWaitAt
  rcases Nat.eq_zero_or_pos T with h | h
  · subst h
    rw [if_pos rfl, if_neg (Nat.lt_irrefl _)]
    iintro ⟨⟨HB, -, -⟩, HO⟩
    isplitr; · ipureintro; omega
    isplitl [HO]; · iexists _; iexact HO
    isplitl [HB]; · iexact HB
    iapply (Entails.of_eq (show (BI.emp : sProp 𝕄) = bigSep Finset.univ (dP c G zf lo 0) from by
      rw [show (Finset.univ : Finset (Fin 0)) = ∅ from rfl, BI.bigSep_empty]))
    iempintro
  · rw [if_neg (by omega), if_pos h, Nat.zero_mul]
    iintro ⟨⟨HB, -, -⟩, HO⟩
    isplitr; · ipureintro; omega
    isplitl [HO]; · iexists _; iexact HO
    iexact HB
theorem wait_exit (lo T T' : ℕ) (hT : T' = T) (h : lo + T ≤ 57344) :
    (padWaitAt c G zf lo T T' () : sProp 𝕄) ⊢ iprop((∃ W, owes (c : Thread nD τ) 0 W) ∗ cell0 c
      ∗ bigSep (Ring.rangeSet 57344 lo (lo + T)) (rowW c G True) ∗ bigSep (Finset.range T) (fun t => zTok c zf t)) := by
  rw [hT]
  unfold padWaitAt
  rw [if_neg (Nat.lt_irrefl _)]
  iintro ⟨-, HO, Hc, Hall⟩
  isplitl [HO]; · iexact HO
  isplitl [Hc]; · iexact Hc
  iapply (deliveries c G zf lo T h); iexact Hall

theorem expert_step (k : Fin k0_t2_loop.trips) (hk : k.val < 32)
    (hp : ∀ x < 32, (f3 (ixE x)).toNat ≤ (f4 (ixE x)).toNat ∧ (f4 (ixE x)).toNat ≤ 57344)
    (hR : ∀ x < 32, Ring.rangeSet 57344 (f3 (ixE x)).toNat (f4 (ixE x)).toNat ⊆ R)
    (hz : ∀ s : Fin 57344, inPad f3 f4 32 s.val → (row s).view.read (Elt F) G = zrow.view.read (Elt F) zf) :
    expertAt c f3 f4 G zf R k ()
      ⊢ wp frame (wpE (defs₀ (F := F)) 𝒱₀ (c : Thread nD τ) none) Set.univ (expertBody i h1 A hA k) (expertAt c f3 f4 G zf R (k.val + 1)) := by
  obtain ⟨hvw, hw⟩ := hp k.val hk
  unfold expertAt
  iintro ⟨⟨%W, HO⟩, HT3, HT4, Hc, HZ, HR⟩
  dsimp only [expertBody]
  sl_unfold [k0_t2_body]
  sl_exec
  have hr : expert_step.sl.r (F := F) i h1 f3 k = f3 (ixE k.val) := by exact read_word3 (F := F) f3 _ _ hk (off7_eq k) _ _
  have hr' : expert_step.sl.r_1 (F := F) i h1 f4 k = f4 (ixE k.val) := by exact read_word4 (F := F) f4 _ _ hk (off7_eq k) _ _
  generalize expert_step.sl.r (F := F) i h1 f3 k = v at hr ⊢
  generalize expert_step.sl.r_1 (F := F) i h1 f4 k = w at hr' ⊢
  rw [← hr, ← hr'] at hvw
  rw [← hr'] at hw
  have hc : k0_chk3 i v w := chk3_of v w i hw hvw
  -- the expert's pads apart from the other rows, and the zero row's read tokens
  have hRk := hR k.val hk
  obtain ⟨T, hT⟩ : ∃ T, T = w.toNat - v.toNat := ⟨_, rfl⟩
  have hT' : v.toNat + T = w.toNat := by omega
  rw [← hr, ← hr', ← hT'] at hRk
  ihave HR' := (split_out (fun s : Fin 57344 => rowW c G (inPad f3 f4 k.val s.val) s) hRk) $$ HR
  icases HR' with ⟨HRp, HRr⟩
  ihave HRp' := (rows_mono c G _ (fun _ => False) fun s _ => False.elim) $$ HRp
  ihave HZ' := (z_out c zf T) $$ HZ
  icases HZ' with ⟨HZr, HZt⟩
  ihave HS := (send_enter c G zf v.toNat T) $$ [Hc HRp' HZt]
  · isplitl [Hc]; · iexact Hc
    isplitl [HRp']; · iexact HRp'
    iexact HZt
  imod HS with HS
  sl_exec
  -- the pads sent
  have ht3 : (k0_t3_loop v w).trips = T := by rw [trips3 v w hw hvw, hT]
  sl_for (padSendAt c G zf v.toNat T) $$ [HS]
  · intro k' acc; exact padSend_step c i h1 A hA G zf v w hw hvw hc k' T hT (fun s ha hb => hz s ⟨k.val, hk, by rw [← hr]; exact ha, by rw [← hr']; exact hb⟩)
  · iexact HS
  iintro %acc HS
  ihave HQ := (send_exit c G zf v.toNat T _ ht3 W) $$ [HS HO]
  · isplitl [HS]; · iexact HS
    iexact HO
  sl_exec
  sl_for (fun _ _ => (BI.emp : sProp 𝕄)) $$ []
  · intro k' acc; exact (trips4_elim k').elim
  · iempintro
  iintro %acc2 -
  sl_exec
  have hr2 : expert_step.sl.r_2 (F := F) i h1 f3 k = f3 (ixE k.val) := by exact read_word3 (F := F) f3 _ _ hk (off10_eq k) _ _
  have hr3 : expert_step.sl.r_3 (F := F) i h1 f4 k = f4 (ixE k.val) := by exact read_word4 (F := F) f4 _ _ hk (off10_eq k) _ _
  rw [← hr] at hr2
  rw [← hr'] at hr3
  generalize expert_step.sl.r_2 (F := F) i h1 f3 k = v' at hr2 ⊢
  generalize expert_step.sl.r_3 (F := F) i h1 f4 k = w' at hr3 ⊢
  subst hr2; subst hr3
  have hc' : k0_chk4 i v' w' := chk3_of v' w' i hw hvw
  sl_exec
  sl_for (padWaitAt c G zf v'.toNat T) $$ [HQ]
  · intro k' acc; exact padWait_step c i h1 A hA G zf v' w' hw hvw hc' k' T hT _
  · iexact HQ
  iintro %acc3 HQ
  ihave HX := (wait_exit c G zf v'.toNat T _ ht3 (by omega)) $$ HQ
  icases HX with ⟨HO, Hc, HRp, HZt⟩
  sl_exec
  sl_for (fun _ _ => (BI.emp : sProp 𝕄)) $$ []
  · intro k' acc; exact (trips4_elim k').elim
  · iempintro
  iintro %acc4 -
  sl_exec
  sl_step
  isplitl [HO]; · iexact HO
  isplitl [HT3]; · iexact HT3
  isplitl [HT4]; · iexact HT4
  isplitl [Hc]; · iexact Hc
  isplitl [HZr HZt]
  · iapply (z_in c zf T)
    isplitl [HZr]; · iexact HZr
    iexact HZt
  iapply (rows_next c f3 f4 G R k.val v'.toNat (v'.toNat + T) (by rw [← hr]) (by rw [← hr', hT']) hRk)
  isplitl [HRp]; · iexact HRp
  iexact HRr
end Experts

end Cert.Proof.Dispatch
end
-- ==== Proof.Body.lean ====
/-
  The dispatch kernel's body at one grid point: its tile's rows to their slots, and at the first point the pads too.
-/
module

public import proofs.«01_k».proof.Proof.Pads
public import Idealize.ShloMosaic.Lib.VecWindow

@[expose] public section

set_option maxRecDepth 400000

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The tile's rows among all rows -/

/-- What the tables must say: every entry a slot, no slot named twice, the pads between the slots. -/
structure Tables (f1 f2 : S24576.Idx → BitVec 32) (f3 f4 : S32.Idx → BitVec 32) : Prop where
  in1 : ∀ n < 24576, (f1 (ixT n)).toNat < 57344
  in2 : ∀ n < 24576, (f2 (ixT n)).toNat < 57344
  inj1 : ∀ n < 24576, ∀ n' < 24576, (f1 (ixT n)).toNat = (f1 (ixT n')).toNat → n = n'
  inj2 : ∀ n < 24576, ∀ n' < 24576, (f2 (ixT n)).toNat = (f2 (ixT n')).toNat → n = n'
  apart : ∀ n < 24576, ∀ n' < 24576, (f1 (ixT n)).toNat ≠ (f2 (ixT n')).toNat
  pads : ∀ x < 32, (f3 (ixE x)).toNat ≤ (f4 (ixE x)).toNat ∧ (f4 (ixE x)).toNat ≤ 57344
  off1 : ∀ n < 24576, ¬ inPad f3 f4 32 (f1 (ixT n)).toNat
  off2 : ∀ n < 24576, ¬ inPad f3 f4 32 (f2 (ixT n)).toNat
  cover : ∀ s < 57344, (∃ n < 24576, (f1 (ixT n)).toNat = s) ∨ (∃ n < 24576, (f2 (ixT n)).toNat = s) ∨ inPad f3 f4 32 s

section
variable (c : Dev nD) (i : grid0.Coords) {f1 f2 : S24576.Idx → BitVec 32} {f3 f4 : S32.Idx → BitVec 32}
  (ht : Tables f1 f2 f3 f4)
  (A : Memref sig .tc .vmem S512x2048 .f32) (hA : A.IsWhole) (st : Buf (Elt F) (A.view.loc (c : Thread nD τ)))
  (G : S57344x2048.Idx → Elt F .f32)

theorem tok_lt (i : grid0.Coords) (k : Fin 512) : 512 * (i 0).val + k.val < 24576 := by
  have : (i 0).val < 48 := (i 0).isLt; have := k.isLt; omega

include ht in
theorem e1_val (k : Fin 512) : (e1 i f1 k.val).val = (f1 (ixT (512 * (i 0).val + k.val))).toNat := Ring.bk_val (ht.in1 _ (tok_lt i k))
include ht in
theorem e2_val (k : Fin 512) : (e2 i f2 k.val).val = (f2 (ixT (512 * (i 0).val + k.val))).toNat := Ring.bk_val (ht.in2 _ (tok_lt i k))

/-- The tile's first slots, its second slots, and all others. -/
def emb1 : Fin 512 ↪ Fin 57344 := ⟨fun k => e1 i f1 k.val, fun k k' h => by
  have h' := congrArg Fin.val h
  dsimp only at h'
  rw [e1_val i ht, e1_val i ht] at h'
  have := ht.inj1 _ (tok_lt i k) _ (tok_lt i k') h'
  exact Fin.ext (by omega)⟩
def emb2 : Fin 512 ↪ Fin 57344 := ⟨fun k => e2 i f2 k.val, fun k k' h => by
  have h' := congrArg Fin.val h
  dsimp only at h'
  rw [e2_val i ht, e2_val i ht] at h'
  have := ht.inj2 _ (tok_lt i k) _ (tok_lt i k') h'
  exact Fin.ext (by omega)⟩
def R1 : Finset (Fin 57344) := Finset.univ.map (emb1 i ht)
def R2 : Finset (Fin 57344) := Finset.univ.map (emb2 i ht)
def rest : Finset (Fin 57344) := (Finset.univ \ R1 i ht) \ R2 i ht

theorem mem_R1 (s : Fin 57344) : s ∈ R1 i ht ↔ ∃ k : Fin 512, s.val = (f1 (ixT (512 * (i 0).val + k.val))).toNat := by
  unfold R1
  rw [Finset.mem_map]
  constructor
  · rintro ⟨k, -, rfl⟩; exact ⟨k, e1_val i ht k⟩
  · rintro ⟨k, h⟩; exact ⟨k, Finset.mem_univ _, Fin.ext ((e1_val i ht k).trans h.symm)⟩
theorem mem_R2 (s : Fin 57344) : s ∈ R2 i ht ↔ ∃ k : Fin 512, s.val = (f2 (ixT (512 * (i 0).val + k.val))).toNat := by
  unfold R2
  rw [Finset.mem_map]
  constructor
  · rintro ⟨k, -, rfl⟩; exact ⟨k, e2_val i ht k⟩
  · rintro ⟨k, h⟩; exact ⟨k, Finset.mem_univ _, Fin.ext ((e2_val i ht k).trans h.symm)⟩
theorem R2_sub : R2 i ht ⊆ Finset.univ \ R1 i ht := by
  intro s hs
  rw [Finset.mem_sdiff]
  refine ⟨Finset.mem_univ _, fun h1 => ?_⟩
  obtain ⟨k, hk⟩ := (mem_R1 i ht s).mp h1
  obtain ⟨k', hk'⟩ := (mem_R2 i ht s).mp hs
  exact ht.apart _ (tok_lt i k) _ (tok_lt i k') (hk.symm.trans hk')
theorem pad_sub (x : ℕ) (hx : x < 32) : Ring.rangeSet 57344 (f3 (ixE x)).toNat (f4 (ixE x)).toNat ⊆ rest i ht := by
  intro s hs
  rw [Ring.mem_rangeSet] at hs
  unfold rest
  rw [Finset.mem_sdiff, Finset.mem_sdiff]
  refine ⟨⟨Finset.mem_univ _, fun h => ?_⟩, fun h => ?_⟩
  · obtain ⟨k, hk⟩ := (mem_R1 i ht s).mp h
    exact ht.off1 _ (tok_lt i k) ⟨x, hx, by rw [← hk]; exact hs.1, by rw [← hk]; exact hs.2⟩
  · obtain ⟨k, hk⟩ := (mem_R2 i ht s).mp h
    exact ht.off2 _ (tok_lt i k) ⟨x, hx, by rw [← hk]; exact hs.1, by rw [← hk]; exact hs.2⟩

omit [FloatOps F] in
theorem split_in {S T : Finset (Fin 57344)} (Φ : Fin 57344 → sProp 𝕄) (h : T ⊆ S) :
    iprop(bigSep T Φ ∗ bigSep (S \ T) Φ) ⊢ (bigSep S Φ : sProp 𝕄) := Entails.of_eq (BI.bigSep_sdiff_split h).symm
omit [FloatOps F] in
theorem map_eq (e : Fin 512 ↪ Fin 57344) (Φ : Fin 57344 → sProp 𝕄) : (bigSep (Finset.univ.map e) Φ : sProp 𝕄) = bigSep Finset.univ (fun k => Φ (e k)) :=
  BI.bigSep_map e

/-- All rows: the tile's first slots, its second slots, the rest. -/
theorem rows_out (w : Fin 57344 → Prop) :
    (bigSep Finset.univ (fun s => rowW c G (w s) s) : sProp 𝕄)
      ⊢ iprop(bigSep Finset.univ (fun k : Fin 512 => rowW c G False (e1 i f1 k.val)) ∗ bigSep Finset.univ (fun k : Fin 512 => rowW c G False (e2 i f2 k.val))
        ∗ bigSep (rest i ht) (fun s => rowW c G (w s) s)) := by
  iintro H
  ihave H := (split_out (fun s => rowW c G (w s) s) (Finset.subset_univ (R1 i ht))) $$ H
  icases H with ⟨H1, H⟩
  ihave H := (split_out (fun s => rowW c G (w s) s) (R2_sub i ht)) $$ H
  icases H with ⟨H2, H⟩
  ihave H1 := (rows_mono c G w (fun _ => False) fun s _ => False.elim) $$ H1
  ihave H2 := (rows_mono c G w (fun _ => False) fun s _ => False.elim) $$ H2
  isplitl [H1]
  · iapply (Entails.of_eq (map_eq (emb1 i ht) (fun s => rowW c G False s))); iexact H1
  isplitl [H2]
  · iapply (Entails.of_eq (map_eq (emb2 i ht) (fun s => rowW c G False s))); iexact H2
  iexact H
/-- and back, the tile's rows done. -/
theorem rows_in (w : Fin 57344 → Prop) :
    (iprop(bigSep Finset.univ (fun k : Fin 512 => rowW c G True (e1 i f1 k.val)) ∗ bigSep Finset.univ (fun k : Fin 512 => rowW c G True (e2 i f2 k.val))
        ∗ bigSep (rest i ht) (fun s => rowW c G (w s) s)) : sProp 𝕄)
      ⊢ bigSep Finset.univ (fun s => rowW c G (w s) s) := by
  iintro ⟨H1, H2, H⟩
  iapply (split_in (fun s => rowW c G (w s) s) (Finset.subset_univ (R1 i ht)))
  isplitl [H1]
  · iapply (rows_mono c G (fun _ => True) w fun s _ _ => trivial)
    iapply (Entails.of_eq (map_eq (emb1 i ht) (fun s => rowW c G True s)).symm); iexact H1
  iapply (split_in (fun s => rowW c G (w s) s) (R2_sub i ht))
  isplitl [H2]
  · iapply (rows_mono c G (fun _ => True) w fun s _ _ => trivial)
    iapply (Entails.of_eq (map_eq (emb2 i ht) (fun s => rowW c G True s)).symm); iexact H2
  iexact H

omit [FloatOps F] in
theorem sep2 {I : Type} [DecidableEq I] (S : Finset I) (Φ Ψ : I → sProp 𝕄) :
    (bigSep S (fun i => iprop(Φ i ∗ Ψ i)) : sProp 𝕄) = iprop(bigSep S Φ ∗ bigSep S Ψ) := BI.bigSep_sep _ _ _

/-- What the first loop uses up. -/
theorem need_in :
    (iprop(bigSep Finset.univ (srcP c A st fullShare.left) ∗ bigSep Finset.univ (srcP c A st fullShare.right)
      ∗ bigSep Finset.univ (fun k : Fin 512 => rowW c G False (e1 i f1 k.val)) ∗ bigSep Finset.univ (fun k : Fin 512 => rowW c G False (e2 i f2 k.val))) : sProp 𝕄)
      ⊢ bigSep (Ring.rangeSet 512 0 512) (need c i f1 f2 A st G) := by
  rw [Ring.rangeSet_univ]
  unfold need
  rw [sep2, sep2, sep2]

/-- What the transfers bring back, taken together. -/
theorem all_out :
    (bigSep Finset.univ (dAll c i f1 f2 A st G) : sProp 𝕄)
      ⊢ iprop((bigSep Finset.univ (srcP c A st fullShare.left) ∗ bigSep Finset.univ (srcP c A st fullShare.right))
      ∗ bigSep Finset.univ (fun k : Fin 512 => rowW c G True (e1 i f1 k.val)) ∗ bigSep Finset.univ (fun k : Fin 512 => rowW c G True (e2 i f2 k.val))) := by
  have hK : bigSep (Finset.range 512) (dK c i f1 A st G) = bigSep Finset.univ (fun k : Fin 512 => iprop(rowW c G True (e1 i f1 k.val) ∗ srcP c A st fullShare.left k)) := by
    rw [← Ring.rangeSet_univ]
    rw [Ring.bigSep_rangeSet_eq_range (NB := 512) (lo := 0) (hi := 512) le_rfl (dK c i f1 A st G) (fun k hk => by
      unfold dK; simp only [Nat.zero_add]; rw [show Ring.bk 512 k = ⟨k, by omega⟩ from Fin.ext (Ring.bk_val (by omega))])]
  have hV : bigSep (Finset.range 512) (dV c i f2 A st G) = bigSep Finset.univ (fun k : Fin 512 => iprop(rowW c G True (e2 i f2 k.val) ∗ srcP c A st fullShare.right k)) := by
    rw [← Ring.rangeSet_univ]
    rw [Ring.bigSep_rangeSet_eq_range (NB := 512) (lo := 0) (hi := 512) le_rfl (dV c i f2 A st G) (fun k hk => by
      unfold dV; simp only [Nat.zero_add]; rw [show Ring.bk 512 k = ⟨k, by omega⟩ from Fin.ext (Ring.bk_val (by omega))])]
  unfold dAll
  rw [Ring.bigSep_interleaved, hK, hV, sep2, sep2]
  iintro ⟨⟨H1, H2⟩, H3, H4⟩
  isplitl [H2 H4]
  · isplitl [H2]; · iexact H2
    iexact H4
  isplitl [H1]; · iexact H1
  iexact H3

end

/-! ## The body -/

section Run
variable (c : Dev nD) (i : grid0.Coords) {f1 f2 : S24576.Idx → BitVec 32} {f3 f4 : S32.Idx → BitVec 32}
  (ht : Tables f1 f2 f3 f4)
  (A : Memref sig .tc .vmem S512x2048 .f32) (hA : A.IsWhole) (st : Buf (Elt F) (A.view.loc (c : Thread nD τ)))
  (G : S57344x2048.Idx → Elt F .f32)

abbrev tileBody : Prog (TpuEff nD τ sig (Elt F) Λ₀ .tc) PUnit :=
  cc0_dispatch_skel (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2

/-- The state a grid point is entered and left with. -/
def stateAt (w : Fin 57344 → Prop) : sProp 𝕄 :=
  iprop((bigSep Finset.univ (fun s => rowW c G (w s) s)) ∗ tab1 c f1 ∗ tab2 c f2 ∗ tab3 c f3 ∗ tab4 c f4
    ∗ (∃ zf, zM.view.loc (c : Thread nD τ) ↦[zM.view.set]{fullShare} zf) ∗ semVal ((c : Thread nD τ), SemLoc.dma cc0_scratch1.sem) 0 ∗ cell0 c)

theorem drain_enter (T' : ℕ) (hT : T' = 512) :
    (iprop((∃ W, owes (c : Thread nD τ) 0 W) ∗ tab1 c f1 ∗ tab2 c f2 ∗ batch c i f1 f2 A st G (2 * T') 0) : sProp 𝕄) ⊢ drainAt c i f1 f2 A st G 0 () := by
  subst hT
  unfold drainAt
  rw [if_pos (by omega)]
  iintro ⟨HO, H1, H2, HB⟩
  isplitr; · ipureintro; omega
  isplitl [HO]; · iexact HO
  isplitl [H1]; · iexact H1
  isplitl [H2]; · iexact H2
  iexact HB
theorem drain_exit (T' : ℕ) (hT : T' = 512) :
    (drainAt c i f1 f2 A st G T' () : sProp 𝕄) ⊢ iprop((∃ W, owes (c : Thread nD τ) 0 W) ∗ tab1 c f1 ∗ tab2 c f2
      ∗ semVal ((c : Thread nD τ), SemLoc.dma cc0_scratch1.sem) 0 ∗ bigSep Finset.univ (dAll c i f1 f2 A st G)) := by
  subst hT
  unfold drainAt
  rw [if_neg (by omega)]
  iintro ⟨-, HO, H1, H2, HB⟩
  isplitl [HO]; · iexact HO
  isplitl [H1]; · iexact H1
  isplitl [H2]; · iexact H2
  iexact HB

abbrev drainAll : Prog (TpuEff nD τ sig (Elt F) Λ₀ .tc) PUnit := do
  Scf.Loop.for k0_t7_loop k0_t7_ok ⟨⟩ (k0_t7_body (F := F) i t1M (Memref.isWhole_whole _) t2M (Memref.isWhole_whole _) t3M (Memref.isWhole_whole _) t4M (Memref.isWhole_whole _)
    A hA v0M (Memref.isWhole_whole _) zM (Memref.isWhole_whole _) cc0_scratch1 cc0_scratch2)
  pure ⟨⟩

/-- What a grid point leaves. -/
abbrev leaves (w' : Fin 57344 → Prop) : sProp 𝕄 :=
  iprop(stateAt c G (f1 := f1) (f2 := f2) (f3 := f3) (f4 := f4) w' ∗ (∃ W', owes (c : Thread nD τ) 0 W') ∗ (A.view.loc (c : Thread nD τ) ↦[A.view.set]{fullShare} st))

/-- The waits at the end of a point. -/
theorem tile_drain (w' : Fin 57344 → Prop) (T' : ℕ) (hT : T' = 512) :
    (iprop((∃ W, owes (c : Thread nD τ) 0 W) ∗ tab1 c f1 ∗ tab2 c f2 ∗ batch c i f1 f2 A st G (2 * T') 0 ∗ tab3 c f3 ∗ tab4 c f4
      ∗ (∃ zf, zM.view.loc (c : Thread nD τ) ↦[zM.view.set]{fullShare} zf) ∗ cell0 c ∗ bigSep (rest i ht) (fun s => rowW c G (w' s) s)) : sProp 𝕄)
      ⊢ wp frame (wpE (defs₀ (F := F)) 𝒱₀ (c : Thread nD τ) none) Set.univ (drainAll i A hA)
        (fun _ => leaves c A st G (f1 := f1) (f2 := f2) (f3 := f3) (f4 := f4) w') := by
  iintro ⟨HO, HT1, HT2, HB, HT3, HT4, HZ, Hc2, HR⟩
  dsimp only [drainAll]
  sl_for (drainAt c i f1 f2 A st G) $$ [HO HT1 HT2 HB]
  · intro k acc; exact drain_step c i f1 f2 A hA st G k k.isLt ht.in1 ht.in2
  · iapply (drain_enter c i A st G T' hT)
    isplitl [HO]; · iexact HO
    isplitl [HT1]; · iexact HT1
    isplitl [HT2]; · iexact HT2
    iexact HB
  iintro %acc HQ
  ihave HX := (drain_exit c i A st G _ (show k0_t7_loop.trips = 512 from rfl)) $$ HQ
  icases HX with ⟨HO, HT1, HT2, Hc1, HD⟩
  sl_exec
  sl_step
  ihave HD := (all_out c i A st G) $$ HD
  icases HD with ⟨HA, HR1, HR2⟩
  dsimp only [leaves]
  unfold stateAt
  isplitl [HR1 HR2 HR HT1 HT2 HT3 HT4 HZ Hc1 Hc2]
  · isplitl [HR1 HR2 HR]
    · iapply (rows_in c i ht G w')
      isplitl [HR1]; · iexact HR1
      isplitl [HR2]; · iexact HR2
      iexact HR
    isplitl [HT1]; · iexact HT1
    isplitl [HT2]; · iexact HT2
    isplitl [HT3]; · iexact HT3
    isplitl [HT4]; · iexact HT4
    isplitl [HZ]; · iexact HZ
    isplitl [Hc1]; · iexact Hc1
    iexact Hc2
  isplitl [HO]; · iexact HO
  iapply (stage_in c A st); iexact HA

omit [FloatOps F] in
theorem zrow_sub : zrow.view.set ⊆ zM.view.set := View.set_slice_subset _ _

theorem zrow_zero (f : zM.view.ty.Contents (Elt F)) (x : S1x2048.Idx) :
    zrow.view.read (Elt F) (zM.view.writes (Elt F) f [⟨Rect.unit (s := S8x2048) ![0, 0] S8x2048.size inb_S8x2048_S8x2048_0_0, k0_pay1 (F := F)⟩]) x
      = Scalar.ofBits (F := F) .f32 0x00000000#32 :=
  (congrFun (View.read_writes_full zM.view f inb_S8x2048_S8x2048_0_0 (k0_pay1 (F := F)) [])
    ((Rect.unit (s := S8x2048) ![0, 0] S1x2048.size inb_S8x2048_S1x2048_0_0).idx x)).trans (by unfold k0_pay1; rfl)

theorem expert_exit (zf : Buf (Elt F) (zrow.view.loc (c : Thread nD τ))) (R : Finset (Fin 57344)) (T' : ℕ) (hT : T' = 32) :
    (expertAt c f3 f4 G zf R T' () : sProp 𝕄) ⊢ iprop((∃ W, owes (c : Thread nD τ) 0 W) ∗ tab3 c f3 ∗ tab4 c f4 ∗ cell0 c ∗ zAt c zf fullShare
    ∗ bigSep R (fun s => rowW c G (inPad f3 f4 32 s.val) s)) := by
  subst hT; exact .rfl

theorem tile_run (w w' : Fin 57344 → Prop)
    (s1 : ∀ k : Fin 512, (row (e1 i f1 k.val)).view.read (Elt F) G = (srow A k).view.read (Elt F) st)
    (s2 : ∀ k : Fin 512, (row (e2 i f2 k.val)).view.read (Elt F) G = (srow A k).view.read (Elt F) st)
    (hz : ∀ s : Fin 57344, inPad f3 f4 32 s.val → ∀ x, (row s).view.read (Elt F) G x = Scalar.ofBits (F := F) .f32 0x00000000#32)
    (hw1 : k0_cond1 i = 1#1 → ∀ s ∈ rest i ht, w' s → inPad f3 f4 32 s.val)
    (hw0 : ¬ k0_cond1 i = 1#1 → ∀ s ∈ rest i ht, w' s → w s) (W : Finset _) :
    (iprop(stateAt c G (f1 := f1) (f2 := f2) (f3 := f3) (f4 := f4) w ∗ owes (c : Thread nD τ) 0 W ∗ (A.view.loc (c : Thread nD τ) ↦[A.view.set]{fullShare} st)) : sProp 𝕄)
      ⊢ wp frame (wpE (defs₀ (F := F)) 𝒱₀ (c : Thread nD τ) none) Set.univ (tileBody i A hA)
        (fun _ => iprop(stateAt c G (f1 := f1) (f2 := f2) (f3 := f3) (f4 := f4) w' ∗ (∃ W', owes (c : Thread nD τ) 0 W') ∗ (A.view.loc (c : Thread nD τ) ↦[A.view.set]{fullShare} st))) := by
  unfold stateAt
  iintro ⟨⟨HR, HT1, HT2, HT3, HT4, ⟨%zf, HZ⟩, Hc1, Hc2⟩, HO, HA⟩
  ihave HR := (rows_out c i ht G w) $$ HR
  icases HR with ⟨HR1, HR2, HR⟩
  ihave HA := (stage_out c A st) $$ HA
  icases HA with ⟨HAl, HAr⟩
  imod (Transfers.batch_alloc' (Lvl := ℕ) (countersEmb (U := UU nD τ)) (c : Thread nD τ) () NN (dAll c i f1 f2 A st G) (sm := .dma cc0_scratch1.sem) (E := Set.univ)) $$ Hc1 with HB
  dsimp only [tileBody]
  sl_unfold [cc0_dispatch_skel]
  sl_for (issueAt c i f1 f2 A st G) $$ [HB HT1 HT2 HR1 HR2 HAl HAr]
  · intro k acc; exact issue_step c i f1 f2 A hA st G k k.isLt ht.in1 ht.in2 s1 s2
  · unfold issueAt
    isplitl [HB]; · iexact HB
    isplitl [HT1]; · iexact HT1
    isplitl [HT2]; · iexact HT2
    iapply (need_in c i A st G (f1 := f1) (f2 := f2))
    isplitl [HAl]; · iexact HAl
    isplitl [HAr]; · iexact HAr
    isplitl [HR1]; · iexact HR1
    iexact HR2
  iintro %acc HQ
  unfold issueAt
  icases HQ with ⟨HB, HT1, HT2, -⟩
  by_cases h1 : k0_cond1 i = 1#1
  · sl_exec
    sl_step
    sl_exec
    ihave HZ := (pointsTo_split_subset zrow_sub).1 $$ HZ
    icases HZ with ⟨HZ, HZr⟩
    have hzf : ∀ x, zrow.view.read (Elt F) (zM.view.writes (Elt F) zM.view.junk (tile_run.sl.HZ_1 (F := F))) x = Scalar.ofBits (F := F) .f32 0x00000000#32 :=
      fun x => zrow_zero _ x
    have hzr : ∀ s : Fin 57344, inPad f3 f4 32 s.val → (row s).view.read (Elt F) G
        = zrow.view.read (Elt F) (zM.view.writes (Elt F) zM.view.junk (tile_run.sl.HZ_1 (F := F))) :=
      fun s hs => funext fun x => (hz s hs x).trans (hzf x).symm
    generalize zM.view.writes (Elt F) zM.view.junk (tile_run.sl.HZ_1 (F := F)) = zf' at hzr ⊢
    sl_for (expertAt c f3 f4 G zf' (rest i ht)) $$ [HO HT3 HT4 Hc2 HZ HR]
    · intro k acc; exact expert_step c i h1 A hA f3 f4 G zf' (rest i ht) k k.isLt ht.pads (pad_sub i ht) hzr
    · unfold expertAt
      isplitl [HO]; · iexists W; iexact HO
      isplitl [HT3]; · iexact HT3
      isplitl [HT4]; · iexact HT4
      isplitl [Hc2]; · iexact Hc2
      isplitl [HZ]; · iexact HZ
      iapply (rows_mono c G w (fun s => inPad f3 f4 0 s.val) (fun s _ h => by obtain ⟨y, hy, _⟩ := h; omega)); iexact HR
    iintro %acc2 HQ
    ihave HX := (expert_exit c G zf' (rest i ht) _ (show k0_t2_loop.trips = 32 from rfl)) $$ HQ
    icases HX with ⟨HO, HT3, HT4, Hc2, HZ, HR⟩
    ihave HZ := (pointsTo_join_subset (ℓ := zM.view.loc (c : Thread nD τ)) zrow_sub) $$ [HZ HZr]
    · isplitl [HZ]; · iexact HZ
      iexact HZr
    sl_exec
    iapply (tile_drain c i ht A hA st G w' _ (show k0_t1_loop.trips = 512 from rfl))
    isplitl [HO]; · iexact HO
    isplitl [HT1]; · iexact HT1
    isplitl [HT2]; · iexact HT2
    isplitl [HB]; · iexact HB
    isplitl [HT3]; · iexact HT3
    isplitl [HT4]; · iexact HT4
    isplitl [HZ]; · iexists _; iexact HZ
    isplitl [Hc2]; · iexact Hc2
    iapply (rows_mono c G (fun s => inPad f3 f4 32 s.val) w' (hw1 h1)); iexact HR
  · sl_exec
    iapply (tile_drain c i ht A hA st G w' _ (show k0_t1_loop.trips = 512 from rfl))
    isplitl [HO]; · iexists W; iexact HO
    isplitl [HT1]; · iexact HT1
    isplitl [HT2]; · iexact HT2
    isplitl [HB]; · iexact HB
    isplitl [HT3]; · iexact HT3
    isplitl [HT4]; · iexact HT4
    isplitl [HZ]; · iexists zf; iexact HZ
    isplitl [Hc2]; · iexact Hc2
    iapply (rows_mono c G w w' (hw0 h1)); iexact HR
end Run

end Cert.Proof.Dispatch
end
-- ==== Proof.Run.lean ====
/-
  The dispatch's run: the grid's points in order, and the launch, for any float values.
-/
module

public import proofs.«01_k».proof.Proof.Body
public import proofs.«01_k».proof.Proof.Gen.KernelIdeal.Launch
public import Idealize.ShloMosaic.Lib.Pipeline.Quiescent
public import Idealize.ShloMosaic.Lib.Pipeline.TableIdle

@[expose] public section

set_option maxRecDepth 400000

noncomputable section

namespace Cert.Proof.Dispatch

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]
local notation "𝕄" => MT nD τ sig Unit (Elt F) ℕ (UU nD τ) ℕ

/-! ## What the run computes -/

/-- An index of the rows in, and of the rows out. -/
def ixH (n : ℕ) (j : Fin 2048) : S24576x2048.Idx := fun a => match a with
  | ⟨0, _⟩ => Ring.bk 24576 n
  | ⟨1, _⟩ => j

section Spec
variable (h2 : S24576x2048.Idx → Elt F .f32) (f1 f2 : S24576.Idx → BitVec 32)

open Classical in
/-- A slot holds the row of the token that names it, and zeros where none does. -/
def outG : S57344x2048.Idx → Elt F .f32 := fun x =>
  if h : ∃ n, n < 24576 ∧ ((f1 (ixT n)).toNat = (x 0).val ∨ (f2 (ixT n)).toNat = (x 0).val) then h2 (ixH (Classical.choose h) (x 1))
  else Scalar.ofBits (F := F) .f32 0x00000000#32

variable {f1 f2} {f3 f4 : S32.Idx → BitVec 32} (ht : Tables f1 f2 f3 f4)
include ht

theorem tok_unique (s n n' : ℕ) (hn : n < 24576) (hn' : n' < 24576) (h : (f1 (ixT n)).toNat = s ∨ (f2 (ixT n)).toNat = s)
    (h' : (f1 (ixT n')).toNat = s ∨ (f2 (ixT n')).toNat = s) : n = n' := by
  rcases h with h | h <;> rcases h' with h' | h'
  · exact ht.inj1 n hn n' hn' (h.trans h'.symm)
  · exact absurd (h.trans h'.symm) (ht.apart n hn n' hn')
  · exact absurd (h'.trans h.symm) (ht.apart n' hn' n hn)
  · exact ht.inj2 n hn n' hn' (h.trans h'.symm)

theorem outG_tok (x : S57344x2048.Idx) (n : ℕ) (hn : n < 24576) (h : (f1 (ixT n)).toNat = (x 0).val ∨ (f2 (ixT n)).toNat = (x 0).val) :
    outG h2 f1 f2 x = h2 (ixH n (x 1)) := by
  unfold outG
  have hex : ∃ n, n < 24576 ∧ ((f1 (ixT n)).toNat = (x 0).val ∨ (f2 (ixT n)).toNat = (x 0).val) := ⟨n, hn, h⟩
  rw [dif_pos hex]
  have hc := Classical.choose_spec hex
  rw [tok_unique ht _ _ n hc.1 hn hc.2 h]

theorem outG_pad (x : S57344x2048.Idx) (h : inPad f3 f4 32 (x 0).val) : outG h2 f1 f2 x = Scalar.ofBits (F := F) .f32 0x00000000#32 := by
  unfold outG
  rw [dif_neg]
  rintro ⟨n, hn, h' | h'⟩
  · exact ht.off1 n hn (h' ▸ h)
  · exact ht.off2 n hn (h' ▸ h)
end Spec

/-! ## The points -/

theorem coord_val : ∀ t : Fin grid0.N, (grid0.coords t 0).val = t.val := by decide
theorem cond_iff : ∀ i : grid0.Coords, k0_cond1 i = 1#1 ↔ (i 0).val = 0 := by decide

section Launch
variable (m : (ℓ : Loc nD τ sig) → Buf (Elt F) ℓ) (ρ : Dev nD → PrngReg)

def pf0 : pre0.Contents (Elt F) := fun k => m (((0 : Dev nD) : Thread nD τ).loc (pre0.ref k))
abbrev adm : (pcfg0 (F := F)).Adm := ⟨pf0 m, trivial⟩
abbrev cfgA : Cfg sig Λ₀ := cfg0 (adm m)
abbrev T1 : S24576.Idx → BitVec 32 := m (((0 : Dev nD) : Thread nD τ).loc main_arg1)
abbrev T2 : S24576.Idx → BitVec 32 := m (((0 : Dev nD) : Thread nD τ).loc main_arg2)
abbrev T3 : S32.Idx → BitVec 32 := m (((0 : Dev nD) : Thread nD τ).loc main_arg3)
abbrev T4 : S32.Idx → BitVec 32 := m (((0 : Dev nD) : Thread nD τ).loc main_arg4)
abbrev H2 : S24576x2048.Idx → Elt F .f32 := m (((0 : Dev nD) : Thread nD τ).loc main_arg0)
abbrev GG : S57344x2048.Idx → Elt F .f32 := outG (H2 m) (T1 m) (T2 m)

/-- The rows done before point `t`. -/
def wr (t : ℕ) (s : Fin 57344) : Prop :=
  (∃ n, n < 512 * t ∧ ((T1 m (ixT n)).toNat = s.val ∨ (T2 m (ixT n)).toNat = s.val)) ∨ (0 < t ∧ inPad (T3 m) (T4 m) 32 s.val)

def Φ (c : Dev nD) (t : ℕ) : sProp 𝕄 := stateAt c (GG m) (f1 := T1 m) (f2 := T2 m) (f3 := T3 m) (f4 := T4 m) (wr m t)

abbrev st0 (t : Fin (cfgA m).N) : Memref sig .tc .vmem S512x2048 .f32 := stage0_0 ((cfgA m).slots t 0)
abbrev hst0 (t : Fin (cfgA m).N) : (st0 m t).IsWhole := hstage0_0 (((cfgA m).slots t 0).cast nbuf0_0)

def iblk (c : Dev nD) (t : Fin (cfgA m).N) : S512x2048.Idx → Elt F .f32 :=
  (((cfgA m).win 0).blk t).view.read (Elt F) (m ((c : Thread nD τ).loc main_arg0))

theorem index_step : ∀ t : Fin grid0.N, t.val = 0 ∨ ∃ h : 0 < t.val, cc0_transform_0 (grid0.coords t) 0 ≠ cc0_transform_0 (grid0.coords ⟨t.val - 1, by omega⟩) 0 := by
  decide
theorem fetch0 (t : Fin (cfgA m).N) : ((cfgA m).win 0).fetch t = true := by
  rw [Pipeline.Window.fetch_eq_fetchF]
  unfold Pipeline.Window.fetchF
  have h := index_step t
  rw [Bool.and_eq_true]
  refine ⟨rfl, ?_⟩
  rw [Bool.or_eq_true, decide_eq_true_eq, decide_eq_true_eq]
  rcases h with h | ⟨h, h'⟩
  · exact .inl h
  · exact .inr ⟨h, (0 : Fin 2), h'⟩

def dats (_ : Fin 1) (c : Dev nD) : Dat τ (Elt F) Unit ℕ (UU nD τ) ℕ (cfgA m) c where
  A w := m ((c : Thread nD τ).loc (Pipeline.arrRef spec0 w))
  after w t := match w with
    | ⟨0, _⟩ => iblk m c t
  Φ t := Φ m c t.val
  q _ := fullShare
  owed _ := 0

theorem before_w0 (c : Dev nD) (t : Fin (cfgA m).N) (d) : (dats m 0 c).before 0 t d = iblk m c t := by
  unfold Dat.before; rw [if_pos (fetch0 m t)]; unfold Dat.fetched Dat.blockOf iblk; dsimp only [dats]; rfl
theorem after_w0 (c : Dev nD) (t : Fin (cfgA m).N) : (dats m 0 c).after 0 t = iblk m c t := rfl

theorem defs_tc : (defs₀ (F := F)) .tc (cfgA m).body
    = fun a => cc0_dispatch_skel (F := F) (grid0.coords a.1) t1M (Memref.isWhole_whole _) t2M (Memref.isWhole_whole _) t3M (Memref.isWhole_whole _) t4M (Memref.isWhole_whole _)
        (spec0_0.stage (a.2 0)) (hstage0_0 ((a.2 0).cast nbuf0_0)) v0M (Memref.isWhole_whole _) zM (Memref.isWhole_whole _) cc0_scratch1 cc0_scratch2 := by
  rw [← cc0_dispatch_eq_skeleton]; rfl
theorem prog_eq (t : Fin (cfgA m).N) : (defs₀ (F := F)) .tc (cfgA m).body ((cfgA m).bodyArgs t ((cfgA m).slots t)) = tileBody (grid0.coords t) (st0 m t) (hst0 m t) :=
  (congrFun (defs_tc m) _).trans rfl

/-! ## What the staging buffer holds -/

theorem row_read (G : S57344x2048.Idx → Elt F .f32) (s : Fin 57344) (x : S1x2048.Idx) :
    ∃ y : S57344x2048.Idx, (row s).view.read (Elt F) G x = G y ∧ y 0 = s ∧ y 1 = (x 1) := by
  refine ⟨(Rect.unit (s := S57344x2048) ![s.val, 0] S1x2048.size (row_inb s)).idx x, rfl, Fin.ext ?_, Fin.ext ?_⟩
  · have : (x 0).val < 1 := (x 0).isLt
    show s.val + 1 * (x 0).val = s.val; omega
  · show 0 + 1 * (x 1).val = (x 1).val; omega

theorem stage_read (c : Dev nD) (t : Fin (cfgA m).N) (k : Fin 512) (x : S1x2048.Idx) :
    (srow (st0 m t) k).view.read (Elt F) ((st0 m t).view.rep (iblk m c t)) x = H2 m (ixH (512 * (grid0.coords t 0).val + k.val) (x 1)) := by
  obtain rfl : c = 0 := Subsingleton.elim _ _
  have e : (srow (st0 m t) k).view.read (Elt F) ((st0 m t).view.rep (iblk m 0 t)) x
      = (st0 m t).view.read (Elt F) ((st0 m t).view.rep (iblk m 0 t)) ((Rect.unit (s := S512x2048) ![k.val, 0] S1x2048.size (srow_inb k)).idx x) := rfl
  refine (e.trans (congrFun (View.read_rep (st0 m t).view (iblk m 0 t)) _)).trans ?_
  unfold iblk
  have hi : (grid0.coords t 0).val < 48 := (grid0.coords t 0).isLt
  have hk := k.isLt
  have hx : (x 0).val < 1 := (x 0).isLt
  show H2 m ((((cfgA m).win 0).blk t).view.emb ((Rect.unit (s := S512x2048) ![k.val, 0] S1x2048.size (srow_inb k)).idx x)) = H2 m _
  refine congrArg (H2 m) ?_
  funext a
  match a with
  | ⟨0, _⟩ =>
    apply Fin.ext
    show (BitVec.ofNat 32 (grid0.coords t 0).val).toNat * 512 + 1 * (k.val + 1 * (x 0).val) = (Ring.bk 24576 (512 * (grid0.coords t 0).val + k.val)).val
    rw [Ring.bk_val (by omega), BitVec.toNat_ofNat, Nat.mod_eq_of_lt (by omega)]; omega
  | ⟨1, _⟩ =>
    apply Fin.ext
    show 0 * 2048 + 1 * (0 + 1 * (x 1).val) = (x 1).val
    omega

variable {m}
variable (ht : Tables (T1 m) (T2 m) (T3 m) (T4 m))
include ht

theorem sent1 (c : Dev nD) (t : Fin (cfgA m).N) (k : Fin 512) :
    (row (e1 (grid0.coords t) (T1 m) k.val)).view.read (Elt F) (GG m) = (srow (st0 m t) k).view.read (Elt F) ((st0 m t).view.rep (iblk m c t)) := by
  funext x
  obtain ⟨y, hy, h0, h1⟩ := row_read (GG m) (e1 (grid0.coords t) (T1 m) k.val) x
  exact (hy.trans ((outG_tok (H2 m) ht y _ (tok_lt (grid0.coords t) k) (.inl (by rw [h0]; exact (e1_val (grid0.coords t) ht k).symm))).trans
    (congrArg (fun j : Fin 2048 => H2 m (ixH _ j)) h1))).trans (stage_read m c t k x).symm
theorem sent2 (c : Dev nD) (t : Fin (cfgA m).N) (k : Fin 512) :
    (row (e2 (grid0.coords t) (T2 m) k.val)).view.read (Elt F) (GG m) = (srow (st0 m t) k).view.read (Elt F) ((st0 m t).view.rep (iblk m c t)) := by
  funext x
  obtain ⟨y, hy, h0, h1⟩ := row_read (GG m) (e2 (grid0.coords t) (T2 m) k.val) x
  exact (hy.trans ((outG_tok (H2 m) ht y _ (tok_lt (grid0.coords t) k) (.inr (by rw [h0]; exact (e2_val (grid0.coords t) ht k).symm))).trans
    (congrArg (fun j : Fin 2048 => H2 m (ixH _ j)) h1))).trans (stage_read m c t k x).symm
theorem pad_zero (s : Fin 57344) (h : inPad (T3 m) (T4 m) 32 s.val) (x) : (row s).view.read (Elt F) (GG m) x = Scalar.ofBits (F := F) .f32 0x00000000#32 := by
  obtain ⟨y, hy, h0, h1⟩ := row_read (GG m) s x
  rw [hy]
  exact outG_pad (H2 m) ht y (by rw [h0]; exact h)

theorem wr_rest (t : Fin grid0.N) (s : Fin 57344) (hs : s ∈ rest (grid0.coords t) ht) (h : wr m (t.val + 1) s) :
    (∃ n, n < 512 * t.val ∧ ((T1 m (ixT n)).toNat = s.val ∨ (T2 m (ixT n)).toNat = s.val)) ∨ inPad (T3 m) (T4 m) 32 s.val := by
  rcases h with ⟨n, hn, h⟩ | ⟨-, h⟩
  · by_cases hlt : n < 512 * t.val
    · exact .inl ⟨n, hlt, h⟩
    · exfalso
      unfold rest at hs
      rw [Finset.mem_sdiff, Finset.mem_sdiff] at hs
      have hc := coord_val t
      have hk : n - 512 * t.val < 512 := by omega
      have he : 512 * (grid0.coords t 0).val + (n - 512 * t.val) = n := by omega
      rcases h with h | h
      · exact hs.1.2 ((mem_R1 _ ht s).mpr ⟨⟨_, hk⟩, by show _ = (T1 m (ixT (512 * (grid0.coords t 0).val + (n - 512 * t.val)))).toNat; rw [he, h]⟩)
      · exact hs.2 ((mem_R2 _ ht s).mpr ⟨⟨_, hk⟩, by show _ = (T2 m (ixT (512 * (grid0.coords t 0).val + (n - 512 * t.val)))).toNat; rw [he, h]⟩)
  · exact .inr h

theorem wr_first (t : Fin grid0.N) (h1 : k0_cond1 (grid0.coords t) = 1#1) (s : Fin 57344) (hs : s ∈ rest (grid0.coords t) ht)
    (h : wr m (t.val + 1) s) : inPad (T3 m) (T4 m) 32 s.val := by
  have h0 := (cond_iff _).mp h1
  have hc := coord_val t
  rcases wr_rest ht t s hs h with ⟨n, hn, -⟩ | h
  · omega
  · exact h
theorem wr_later (t : Fin grid0.N) (h1 : ¬ k0_cond1 (grid0.coords t) = 1#1) (s : Fin 57344) (hs : s ∈ rest (grid0.coords t) ht)
    (h : wr m (t.val + 1) s) : wr m t.val s := by
  have h0 : ¬ (grid0.coords t 0).val = 0 := fun h => h1 ((cond_iff _).mpr h)
  have hc := coord_val t
  rcases wr_rest ht t s hs h with h | h
  · exact .inl h
  · exact .inr ⟨by omega, h⟩
theorem wr_all (s : Fin 57344) : wr m 48 s := by
  rcases ht.cover s.val s.isLt with ⟨n, hn, h⟩ | ⟨n, hn, h⟩ | h
  · exact .inl ⟨n, by omega, .inl h⟩
  · exact .inl ⟨n, by omega, .inr h⟩
  · exact .inr ⟨by omega, h⟩

omit ht in
theorem wp_mono_tile {c : Dev nD} (i : grid0.Coords) (A : Memref sig .tc .vmem S512x2048 .f32) (hA : A.IsWhole) {P R Q : sProp 𝕄}
    (h : P ⊢ wp frame (wpE (defs₀ (F := F)) 𝒱₀ (c : Thread nD τ) none) Set.univ (tileBody i A hA) (fun _ => R)) :
    iprop(P ∗ (∀ _a : PUnit.{1}, R -∗ Q)) ⊢ wp frame (wpE (defs₀ (F := F)) 𝒱₀ (c : Thread nD τ) none) Set.univ (tileBody i A hA) (fun _ => Q) :=
  by
  iintro ⟨HP, HQ⟩
  ihave HW := h $$ HP
  iapply (wp_wand_r frame (wpE (defs₀ (F := F)) 𝒱₀ (c : Thread nD τ) none) Set.univ (Q := fun _ => R))
  isplitl [HW]; · iexact HW
  iexact HQ

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨HΦ, ⟨%W, -, HW⟩, ⟨%d0, %g0, %hg0, Hst⟩⟩
  ihave Hst := (pointsTo_rep_entails (c : Thread nD τ) (st0 m t) g0 fullShare) $$ Hst
  rw [hg0]
  sl_rw [prog_eq m t]
  iapply (wp_mono_tile (grid0.coords t) (st0 m t) (hst0 m t) (tile_run c (grid0.coords t) ht (st0 m t) (hst0 m t) ((st0 m t).view.rep (iblk m c t)) (GG m) (wr m t.val) (wr m (t.val + 1))
    (sent1 ht c t) (sent2 ht c t) (pad_zero ht) (wr_first ht t) (wr_later ht t) W))
  isplitl [HΦ HW Hst]
  · isplitl [HΦ]; · iexact HΦ
    isplitl [HW]; · iexact HW
    iexact Hst
  iintro %a ⟨HΦ, ⟨%W', HW⟩, Hst⟩
  isplitl [HΦ]; · iexact HΦ
  isplitl [HW]
  · iexists W'; isplitr; · ipureintro; exact fun _ _ => Or.inl trivial
    iexact HW
  iexists _; isplitr; · ipureintro; exact View.read_rep _ _
  iexact Hst

/-! ## The launch -/

abbrev osem : Fin 2 → SemLoc sig := ![.dma cc0_scratch1.sem, .dma cc0_scratch2.sem]
omit ht in
theorem ownSemFacts : Pipeline.OwnSemFacts spec0 osem := by decide
abbrev EP : Emb (URounds (GSem nD τ sig) Unit) 𝕄 := embL

omit ht in
theorem prefHeld_eq (c : Dev nD) (q : Fin 4 → PosShare TreeShare) (v : pre0.Contents (Elt F)) :
    (Pipeline.prefHeld pre0 c q v : sProp 𝕄)
      = iprop((((c : Thread nD τ).loc main_arg1) ↦{q 0} (show Buf (Elt F) ((c : Thread nD τ).loc main_arg1) from v 0))
          ∗ (((c : Thread nD τ).loc main_arg2) ↦{q 1} (show Buf (Elt F) ((c : Thread nD τ).loc main_arg2) from v 1))
          ∗ (((c : Thread nD τ).loc main_arg3) ↦{q 2} (show Buf (Elt F) ((c : Thread nD τ).loc main_arg3) from v 2))
          ∗ (((c : Thread nD τ).loc main_arg4) ↦{q 3} (show Buf (Elt F) ((c : Thread nD τ).loc main_arg4) from v 3))) := by
  unfold Pipeline.prefHeld
  exact bigSep_univ_eq_bigSepL [(0 : Fin 4), 1, 2, 3] (by decide) (by decide) _

omit ht in
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), SemLoc.dma cc0_scratch1.sem) 0 ∗ cell0 c) := by
  unfold Pipeline.ownSems0
  exact bigSep_univ_eq_bigSepL [(0 : Fin 2), 1] (by decide) (by decide) _

variable (m) in
abbrev pcs : Fin 1 → Cfg sig Λ₀ := Pipeline.pin (pcfgs (F := F)) fun _ => adm m
variable (m) in
def u₀ : UU nD τ := (initOf (Pipeline.cells (pcs m) (cellOf_inj fun _ => adm m)) (Pipeline.launchToks (pcs m) (cellOf_inj fun _ => adm m)), 1)

variable (m) in
def QC : PUnit × MemSt nD τ sig (Elt F) → Prop := fun r => ∀ c : Dev nD,
  r.2.mem ((c : Thread nD τ).loc main_v0) = GG m
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

variable (m) in
omit ht in
/-- A table the launch reads holds its argument's contents at every core. -/
theorem tab_eq (c : Dev nD) (k : Fin 4) : (adm m).1 k = m ((c : Thread nD τ).loc (pre0.ref k)) := by
  obtain rfl : c = 0 := Subsingleton.elim _ _
  rfl

omit ht in
/-- Held whole and held over its own view are the same for a whole array. -/
theorem over_view (b : Ref sig .tc) (c : Dev nD) (q : PosShare TreeShare) (f : Buf (Elt F) ((c : Thread nD τ).loc b)) :
    (iprop(((c : Thread nD τ).loc b) ↦{q} f) : sProp 𝕄) ⊢ iprop(((c : Thread nD τ).loc b) ↦[(View.whole b).set]{q} f) := by
  rw [View.set_whole]

omit ht in
theorem under_view (b : Ref sig .tc) (c : Dev nD) (q : PosShare TreeShare) (f : Buf (Elt F) ((c : Thread nD τ).loc b)) :
    (iprop(((c : Thread nD τ).loc b) ↦[(View.whole b).set]{q} f) : sProp 𝕄) ⊢ iprop(((c : Thread nD τ).loc b) ↦{q} f) := by
  rw [View.set_whole]

omit ht in
theorem wr_none (s : Fin 57344) (h : wr m 0 s) : False := by
  rcases h with ⟨n, hn, -⟩ | ⟨h, -⟩ <;> omega

theorem enter (c : Dev nD) :
    iprop(((((c : Thread nD τ).loc main_v0) ↦{fullShare} m ((c : Thread nD τ).loc main_v0)) ∗ Pipeline.ownSems0 osem c)
        ∗ Pipeline.prefHeld pre0 c (fun _ => fullShare.right) (adm m).1 ∗ (∃ f, ((c : Thread nD τ).loc cc0_scratch0) ↦{fullShare} f)) ⊢ (Φ m c 0 : sProp 𝕄) := by
  rw [prefHeld_eq, ownSems0_eq]
  unfold Φ stateAt
  iintro ⟨⟨H0, Hc1, Hc2⟩, ⟨HT1, HT2, HT3, HT4⟩, Hz⟩
  isplitl [H0]
  · iapply ((rows_of_whole c (GG m) (m ((c : Thread nD τ).loc main_v0))).trans (rows_mono c (GG m) (T := Finset.univ) (fun _ => False) (wr m 0) (fun s _ => wr_none s)))
    iexact H0
  isplitl [HT1]
  · iapply (over_view main_arg1 c _ _); iexact HT1
  isplitl [HT2]
  · iapply (over_view main_arg2 c _ _); iexact HT2
  isplitl [HT3]
  · iapply (over_view main_arg3 c _ _); iexact HT3
  isplitl [HT4]
  · iapply (over_view main_arg4 c _ _); iexact HT4
  isplitl [Hz]
  · icases Hz with ⟨%f, Hz⟩
    iexists f
    iapply (over_view cc0_scratch0 c _ _); iexact Hz
  isplitl [Hc1]; · iexact Hc1
  iexact Hc2

theorem exit (c : Dev nD) :
    (Φ m c 48 : sProp 𝕄) ⊢ iprop((v0M.view.loc (c : Thread nD τ) ↦{fullShare} (GG m)) ∗ Pipeline.ownSems0 osem c
        ∗ (∃ f, ((c : Thread nD τ).loc cc0_scratch0) ↦{fullShare} f)) := by
  rw [ownSems0_eq]
  unfold Φ stateAt
  iintro ⟨HR, -, -, -, -, Hz, Hc1, Hc2⟩
  isplitl [HR]
  · iapply ((rows_mono c (GG m) (T := Finset.univ) (wr m 48) (fun _ => True) (fun s _ _ => wr_all ht s)).trans (whole_of_rows c (GG m)))
    iexact HR
  isplitl [Hc1 Hc2]
  · isplitl [Hc1]; · iexact Hc1
    iexact Hc2
  icases Hz with ⟨%f, Hz⟩
  iexists f
  iapply (under_view cc0_scratch0 c _ _); iexact Hz

set_option backward.isDefEq.respectTransparency.types false in
/-- The dispatch terminates from any memory whose tables are as `Tables` says, its result `outG`, its arguments kept. -/
theorem run_main : θ_run defs (onTc (τ := τ) (main (F := F))) ⟨m, fun _ => 0, ρ⟩ (fun r => QC m r ∧ r.2.sem = fun _ => 0) :=
  Pipeline.θ_run_region_pf_quiescent pcfgs (fun _ => adm m) (dats m) () (cellOf_inj fun _ => adm m) (0 : Fin 1) (launch0 (F := F)).win.to₀ ownSemFacts (launch0 (F := F)).pre
    EP defs₀ 𝒱₀ m ρ main
    (hbody := fun c => (body_obligation ht c).loose)
    (hne := (launch0 (F := F)).block_pos) (harr := (launch0 (F := F)).arr_whole) (hstage := (launch0 (F := F)).stage_whole)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hsplit := fun c => le_of_eq ((dats m 0 c).arrBufs_eq_arrays (launch0 (F := F)).to₀.sharedIn (launch0 (F := F)).arr_whole
      ((dats m 0 c).q_eq_shareOf_of_share_full (launch0 (F := F)).win.arr_inj ((dats m 0 c).share_full fun _ => rfl)) _ _ fun w => rfl))
    (hpf := fun c k => by obtain rfl : c = 0 := Subsingleton.elim _ _; rfl)
    (X := fun c => iprop((((c : Thread nD τ).loc main_v0) ↦{fullShare} m ((c : Thread nD τ).loc main_v0)) ∗ Pipeline.ownSems0 osem c))
    (Y := fun c => v0M.view.loc (c : Thread nD τ) ↦{fullShare} (GG m)) (Z := fun _ => iprop(emp))
    (hX := fun c => by
      rw [show (Pipeline.unscopedRestP (Ix := Unit) (Name := ℕ) (U := UU nD τ) (Lvl := ℕ) (pcfgs (F := F) 0).pre _ c _ : sProp 𝕄) = _ from unscopedRestP0_eq c _]
      iintro ⟨H0, HS, -, -, -⟩; imodintro
      isplitl [H0 HS]
      · isplitl [H0]; · iexact H0
        iexact HS
      iempintro)
    (hin := fun c => by
      rw [show (Pipeline.scopedRest (Ix := Unit) (Name := ℕ) (U := UU nD τ) (Lvl := ℕ) (pcfgs (F := F) 0).spec c : sProp 𝕄) = _ from scopedRest0_eq c]
      exact enter ht c)
    (hout := fun c => by
      rw [show (Pipeline.scopedRest (Ix := Unit) (Name := ℕ) (U := UU nD τ) (Lvl := ℕ) (pcfgs (F := F) 0).spec c : sProp 𝕄) = _ from scopedRest0_eq c]
      exact exit ht c)
    (QY := fun c s => s.mem ((c : Thread nD τ).loc main_v0) = GG m)
    (hY := fun c s' => by
      iintro ⟨H0, -, HSI⟩
      icombine HSI H0 gives %h0
      imodintro
      isplitr; · ipureintro; exact Buf.eq_of_forall_mem_univ h0
      iexact HSI)
    (hQ := fun s h hz => ⟨fun c => ⟨(h c).2.2, ((h c).1 0).trans ((dats m 0 c).arrAt_in 0 rfl _), (h c).2.1 0 |>.trans (tab_eq m c 0), (h c).2.1 1 |>.trans (tab_eq m c 1), (h c).2.1 2 |>.trans (tab_eq m c 2), (h c).2.1 3 |>.trans (tab_eq m c 3)⟩, hz⟩)
end Launch
end Cert.Proof.Dispatch
end
-- ==== Proof.Value.lean ====
/-
  The reference's value: a scatter of the token numbers over the slots and a gather of their rows is the
  dispatched array, for any float values.
-/
module

public import proofs.«01_k».proof.Proof.Run
public import proofs.«01_k».proof.Proof.Gen.ReferenceIdeal
public import Idealize.ShloMosaic.Lib.Routing.OpsSet
public import Idealize.ShloMosaic.Lib.Pipeline.Value

@[expose] public section

set_option maxRecDepth 400000

noncomputable section

namespace Cert.Proof.Dispatch

open Cert.ReferenceIdeal
open Idealize.ShloMosaic Idealize.ShloMosaic.ValueIdx

attribute [local instance] Cert.ReferenceIdeal.Gen.facts

variable {F : FTy → Type} [FloatOps F]

/-! ## Reading the scatter and the gather -/

/-- Update `j` of a scatter of scalars, one index word each, lands at `x` exactly when its word, read signed, is `x`. -/
theorem lands (idx : IVec S24576x1 32) (j : Fin 24576) (x : Fin 57344) :
    scatter_S57344_S24576x1_S24576_n_0_0_1.resultIdx? (ix1 j) idx = some (ix1 x) ↔ (idx (ix2 j (0 : Fin 1))).toInt = (x.val : Int) := by
  have hwin : scatter_S57344_S24576x1_S24576_n_0_0_1.window (ix1 j) 0 = 0 := by
    unfold ScatterDims.window
    rw [dif_neg fun h => (of_decide_eq_true (List.mem_filter.1 h).2) (List.mem_singleton.2 rfl)]
  have hstart : scatter_S57344_S24576x1_S24576_n_0_0_1.start (ix1 j) idx 0 = (idx (ix2 j (0 : Fin 1))).toInt := by
    unfold ScatterDims.start
    rw [dif_pos (show (0 : Fin 1) ∈ scatter_S57344_S24576x1_S24576_n_0_0_1.scatterDimsToOperandDims from List.mem_singleton.2 rfl)]
    refine congrArg (fun y => (idx y).toInt) (funext fun b => Fin.ext ?_)
    match b with
    | ⟨0, _⟩ => rfl
    | ⟨1, _⟩ => rfl
  have hx := x.isLt
  unfold ScatterDims.resultIdx?
  split
  · next h =>
    have h0 := h 0
    rw [hstart, hwin] at h0
    constructor
    · intro e
      have e0 := congrArg Fin.val (congrFun (Option.some.inj e) 0)
      change (scatter_S57344_S24576x1_S24576_n_0_0_1.start (ix1 j) idx 0 + (scatter_S57344_S24576x1_S24576_n_0_0_1.window (ix1 j) 0 : Int)).toNat = x.val at e0
      rw [hstart, hwin] at e0
      omega
    · intro e
      refine congrArg some (funext fun a => Fin.ext ?_)
      match a with
      | ⟨0, _⟩ =>
        show (scatter_S57344_S24576x1_S24576_n_0_0_1.start (ix1 j) idx 0 + (scatter_S57344_S24576x1_S24576_n_0_0_1.window (ix1 j) 0 : Int)).toNat = x.val
        rw [hstart, hwin]
        omega
  · next h =>
    constructor
    · intro e; cases e
    · intro e
      refine (h fun a => ?_).elim
      match a with
      | ⟨0, _⟩ =>
        show 0 ≤ scatter_S57344_S24576x1_S24576_n_0_0_1.start (ix1 j) idx 0 + (scatter_S57344_S24576x1_S24576_n_0_0_1.window (ix1 j) 0 : Int)
          ∧ scatter_S57344_S24576x1_S24576_n_0_0_1.start (ix1 j) idx 0 + (scatter_S57344_S24576x1_S24576_n_0_0_1.window (ix1 j) 0 : Int) < (57344 : Int)
        rw [hstart, hwin]
        omega

/-- A gather of whole rows read at a row and a column: the operand's row at the index word, read signed and clamped. -/
theorem gather_row {α : Type} (x : S24577x2048.Idx → α) (idx : IVec S57344x1 32) (s : Fin 57344) (q : Fin 2048) :
    Host.gather gather_S24577x2048_S57344x1_S57344x2048_1_0_n_n_0_1_12048 x idx (ix2 s q)
      = x (ix2 (⟨min (idx (ix2 s (0 : Fin 1))).toInt.toNat 24576, by omega⟩ : Fin 24577) q) := by
  unfold Host.gather
  congr 1
  funext a
  refine Fin.ext ?_
  show gather_S24577x2048_S57344x1_S57344x2048_1_0_n_n_0_1_12048.start (ix2 s q) idx a
      + gather_S24577x2048_S57344x1_S57344x2048_1_0_n_n_0_1_12048.batchCoord (ix2 s q) a
      + gather_S24577x2048_S57344x1_S57344x2048_1_0_n_n_0_1_12048.offCoord (ix2 s q) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S24577x2048_S57344x1_S57344x2048_1_0_n_n_0_1_12048.startIndexMap from List.mem_singleton.mpr rfl)]
    have hsi : gather_S24577x2048_S57344x1_S57344x2048_1_0_n_n_0_1_12048.siIdx (ix2 s q)
        ⟨List.idxOf (0 : Fin 2) gather_S24577x2048_S57344x1_S57344x2048_1_0_n_n_0_1_12048.startIndexMap,
          List.idxOf_lt_length_iff.2 (List.mem_singleton.mpr rfl)⟩ = ix2 s (0 : Fin 1) := by
      funext b; refine Fin.ext ?_
      match b with
      | ⟨0, _⟩ => rfl
      | ⟨1, _⟩ => rfl
    exact congrArg (fun z => min (idx z).toInt.toNat 24576) hsi
  · have hst : gather_S24577x2048_S57344x1_S57344x2048_1_0_n_n_0_1_12048.start (ix2 s q) idx 1 = 0 := by
      unfold GatherDims.start
      rw [dif_neg (show (1 : Fin 2) ∉ gather_S24577x2048_S57344x1_S57344x2048_1_0_n_n_0_1_12048.startIndexMap from by simp [gather_S24577x2048_S57344x1_S57344x2048_1_0_n_n_0_1_12048])]
    rw [hst]
    simp only [Nat.zero_add]
    rfl

/-- A vector broadcast to one column, read at a row. -/
theorem column {α : Type} (h : S24576.BroadcastsInDim S24576x1 ![0]) (x : S24576.Idx → α) (j : Fin 24576) : broadcastInDim S24576x1 ![0] h x (ix2 j (0 : Fin 1)) = x (ix1 j) := by
  unfold broadcastInDim
  refine congrArg x (funext fun a => ?_)
  match a with
  | ⟨0, _⟩ => exact dif_neg (show ¬(24576 : ℕ) = 1 by decide)

theorem column' {α : Type} (h : S57344.BroadcastsInDim S57344x1 ![0]) (x : S57344.Idx → α) (j : Fin 57344) : broadcastInDim S57344x1 ![0] h x (ix2 j (0 : Fin 1)) = x (ix1 j) := by
  unfold broadcastInDim
  refine congrArg x (funext fun a => ?_)
  match a with
  | ⟨0, _⟩ => exact dif_neg (show ¬(57344 : ℕ) = 1 by decide)

/-! ## The reference -/

/-- The scatter's index column: a table with its negative entries wrapped. -/
def wrapped (f : IVec S24576 32) : IVec S24576x1 32 :=
  broadcastInDim S24576x1 ![0] Facts₀.bcast_S24576_S24576x1_0 (select (cmpi .slt f (broadcastInDim S24576 ![] Facts₀.bcast_S_S24576 (constantI S_ 32 0#32)))
    (addi f (broadcastInDim S24576 ![] Facts₀.bcast_S_S24576 (constantI S_ 32 57344#32))) f)

/-- The token of every slot, `24576` where there is none. -/
def slotTok (f1 f2 : IVec S24576 32) : IVec S57344 32 :=
  Host.scatter scatter_S57344_S24576x1_S24576_n_0_0_1 (fun _ b => b)
    (Host.scatter scatter_S57344_S24576x1_S24576_n_0_0_1 (fun _ b => b) (broadcastInDim S57344 ![] Facts₀.bcast_S_S57344 (constantI S_ 32 24576#32)) (wrapped f1) (iotaInDim S24576 32 0))
    (wrapped f2) (iotaInDim S24576 32 0)

/-- The rows with a row of zeros under them. -/
def padded (h2 : S24576x2048.Idx → Elt F .f32) : S24577x2048.Idx → Elt F .f32 :=
  concatenate S24577x2048 0 [⟨S24576x2048, h2⟩, ⟨S1x2048, broadcastInDim S1x2048 ![] Facts₀.bcast_S_S1x2048 (constant (F := F) S_ .f32 0x00000000#32)⟩]
    Facts₀.concatenates_S24576x2048_S1x2048_S24577x2048_d0

def refOut (h2 : S24576x2048.Idx → Elt F .f32) (f1 f2 : IVec S24576 32) : S57344x2048.Idx → Elt F .f32 :=
  Host.gather gather_S24577x2048_S57344x1_S57344x2048_1_0_n_n_0_1_12048 (padded h2)
    (broadcastInDim S57344x1 ![0] Facts₀.bcast_S57344_S57344x1_0 (select (cmpi .slt (slotTok f1 f2) (broadcastInDim S57344 ![] Facts₀.bcast_S_S57344 (constantI S_ 32 0#32)))
      (addi (slotTok f1 f2) (broadcastInDim S57344 ![] Facts₀.bcast_S_S57344 (constantI S_ 32 24577#32))) (slotTok f1 f2)))

/-- A word below `2 ^ 31` is not wrapped. -/
theorem not_wrapped (x y : BitVec 32) (h : x.toNat < 2 ^ 31) : Scalar.select (IntOp.cmpi .slt x 0#32) y x = x := by
  have e : IntOp.cmpi .slt x 0#32 = 0#1 := by
    simp only [IntOp.cmpi]
    rw [BitVec.slt_eq_decide, decide_eq_false (by rw [BitVec.toInt_eq_toNat_of_lt (by omega)]; simp)]
    rfl
  rw [e]; rfl

theorem ixT_ix1 (j : Fin 24576) : ixT j.val = ix1 j := by
  funext a
  match a with
  | ⟨0, _⟩ => exact Fin.ext (Ring.bk_val (NB := 24576) j.isLt)

theorem wrapped_apply (f : IVec S24576 32) (j : Fin 24576) (h : (f (ixT j.val)).toNat < 57344) : (wrapped f (ix2 j (0 : Fin 1))).toInt = ((f (ixT j.val)).toNat : Int) := by
  have e : wrapped f (ix2 j (0 : Fin 1)) = f (ix1 j) := by
    refine Eq.trans ?_ (not_wrapped (f (ix1 j)) (IntOp.addi (f (ix1 j)) 57344#32) (by rw [← ixT_ix1]; omega))
    exact column _ _ j
  rw [e, ← ixT_ix1, BitVec.toInt_eq_toNat_of_lt (by omega)]

theorem scatter_hit (x0 : IVec S57344 32) (f : IVec S24576 32) (hin : ∀ n < 24576, (f (ixT n)).toNat < 57344)
    (hinj : ∀ n < 24576, ∀ n' < 24576, (f (ixT n)).toNat = (f (ixT n')).toNat → n = n') (s : Fin 57344) (n : ℕ) (hn : n < 24576) (h : (f (ixT n)).toNat = s.val) :
    Host.scatter scatter_S57344_S24576x1_S24576_n_0_0_1 (fun _ b => b) x0 (wrapped f) (iotaInDim S24576 32 0) (ix1 s) = BitVec.ofNat 32 n := by
  refine Routing.scatter_set_hit _ _ _ _ _ _ (fun k hk => ?_) (ix1 ⟨n, hn⟩) ?_
  · obtain ⟨j, rfl⟩ : ∃ j : Fin 24576, k = ix1 j := ⟨k 0, eq_ix1 k⟩
    rw [lands, wrapped_apply f j (hin _ j.isLt)] at hk
    have e := hinj j.val j.isLt n hn (by omega)
    rw [← e]; rfl
  · rw [lands, wrapped_apply f ⟨n, hn⟩ (hin _ hn)]
    exact_mod_cast h

theorem scatter_miss (x0 : IVec S57344 32) (f : IVec S24576 32) (hin : ∀ n < 24576, (f (ixT n)).toNat < 57344) (s : Fin 57344)
    (h : ∀ n < 24576, (f (ixT n)).toNat ≠ s.val) :
    Host.scatter scatter_S57344_S24576x1_S24576_n_0_0_1 (fun _ b => b) x0 (wrapped f) (iotaInDim S24576 32 0) (ix1 s) = x0 (ix1 s) := by
  refine Routing.scatter_set_miss _ _ _ _ _ (fun k hk => ?_)
  obtain ⟨j, rfl⟩ : ∃ j : Fin 24576, k = ix1 j := ⟨k 0, eq_ix1 k⟩
  rw [lands, wrapped_apply f j (hin _ j.isLt)] at hk
  exact h j.val j.isLt (by exact_mod_cast hk)

variable {f1 f2 : S24576.Idx → BitVec 32} {f3 f4 : S32.Idx → BitVec 32} (ht : Tables f1 f2 f3 f4)
include ht

theorem slotTok_tok (s : Fin 57344) (n : ℕ) (hn : n < 24576) (h : (f1 (ixT n)).toNat = s.val ∨ (f2 (ixT n)).toNat = s.val) :
    slotTok f1 f2 (ix1 s) = BitVec.ofNat 32 n := by
  unfold slotTok
  rcases h with h | h
  · rw [scatter_miss _ f2 ht.in2 s fun n' hn' h' => ht.apart n hn n' hn' (h.trans h'.symm)]
    exact scatter_hit _ f1 ht.in1 ht.inj1 s n hn h
  · exact scatter_hit _ f2 ht.in2 ht.inj2 s n hn h

theorem slotTok_none (s : Fin 57344) (h : ∀ n < 24576, ¬((f1 (ixT n)).toNat = s.val ∨ (f2 (ixT n)).toNat = s.val)) : slotTok f1 f2 (ix1 s) = 24576#32 := by
  unfold slotTok
  rw [scatter_miss _ f2 ht.in2 s fun n hn e => h n hn (Or.inr e)]
  rw [scatter_miss _ f1 ht.in1 s fun n hn e => h n hn (Or.inl e)]
  rfl

omit ht in
theorem refOut_apply (h2 : S24576x2048.Idx → Elt F .f32) (s : Fin 57344) (q : Fin 2048) (n : ℕ) (hn : n ≤ 24576) (h : slotTok f1 f2 (ix1 s) = BitVec.ofNat 32 n) :
    refOut h2 f1 f2 (ix2 s q) = padded h2 (ix2 (⟨n, by omega⟩ : Fin 24577) q) := by
  unfold refOut
  rw [gather_row]
  refine congrArg (padded h2) (congrArg (fun r => ix2 r q) (Fin.ext ?_))
  have hb : (BitVec.ofNat 32 n).toNat = n := by rw [BitVec.toNat_ofNat]; exact Nat.mod_eq_of_lt (by omega)
  have e := (column' Facts₀.bcast_S57344_S57344x1_0 (select (cmpi .slt (slotTok f1 f2) (broadcastInDim S57344 ![] Facts₀.bcast_S_S57344 (constantI S_ 32 0#32)))
      (addi (slotTok f1 f2) (broadcastInDim S57344 ![] Facts₀.bcast_S_S57344 (constantI S_ 32 24577#32))) (slotTok f1 f2)) s).trans
    (not_wrapped (slotTok f1 f2 (ix1 s)) (IntOp.addi (slotTok f1 f2 (ix1 s)) 24577#32) (by rw [h, hb]; omega))
  rw [h] at e
  show min (BitVec.toInt _).toNat 24576 = n
  rw [e, BitVec.toInt_eq_toNat_of_lt (by rw [hb]; omega), hb]
  omega

omit ht in
theorem padded_row (h2 : S24576x2048.Idx → Elt F .f32) (n : Fin 24577) (q : Fin 2048) (hn : n.val < 24576) : padded h2 (ix2 n q) = h2 (ix2 (⟨n.val, hn⟩ : Fin 24576) q) := by
  unfold padded
  exact concatenate_pair_apply_left (s₁ := S24576x2048) (s₂ := S1x2048) (t := S24577x2048) 0 _ _ _ _ rfl _ (fun b => by match b with | ⟨0, _⟩ => rfl | ⟨1, _⟩ => rfl)

omit ht in
theorem padded_zero (h2 : S24576x2048.Idx → Elt F .f32) (n : Fin 24577) (q : Fin 2048) (hn : n.val = 24576) : padded h2 (ix2 n q) = Scalar.ofBits (F := F) .f32 0x00000000#32 := by
  unfold padded
  refine (concatenate_pair_apply_right (s₁ := S24576x2048) (s₂ := S1x2048) (t := S24577x2048) 0 _ _ _ _ rfl rfl (ix2 (0 : Fin 1) q)
    (fun b hb => by match b with | ⟨0, _⟩ => exact absurd rfl hb | ⟨1, _⟩ => rfl) ?_).trans rfl
  show 0 + 24576 = n.val
  omega

theorem ref_eq (h2 : S24576x2048.Idx → Elt F .f32) : refOut h2 f1 f2 = outG h2 f1 f2 := by
  funext x
  obtain ⟨s, q, rfl⟩ : ∃ (s : Fin 57344) (q : Fin 2048), x = ix2 s q := ⟨x 0, x 1, eq_ix2 x⟩
  by_cases h : ∃ n, n < 24576 ∧ ((f1 (ixT n)).toNat = s.val ∨ (f2 (ixT n)).toNat = s.val)
  · obtain ⟨n, hn, h⟩ := h
    rw [refOut_apply h2 s q n (by omega) (slotTok_tok ht s n hn h), padded_row h2 _ q hn, outG_tok h2 ht (ix2 s q) n hn h]
    refine congrArg h2 (funext fun a => ?_)
    match a with
    | ⟨0, _⟩ => exact Fin.ext (Ring.bk_val hn).symm
    | ⟨1, _⟩ => rfl
  · have hs := slotTok_none ht s fun n hn e => h ⟨n, hn, e⟩
    rw [refOut_apply h2 s q 24576 (by omega) hs, padded_zero h2 _ q rfl]
    unfold outG
    rw [dif_neg h]

end Cert.Proof.Dispatch

end
-- ==== Proof.Pre.lean ====
/-
  The precondition read off its program: its nine masks, true everywhere, say that the two tables and the
  padding ranges partition the slots.
-/
module

public import proofs.«01_k».proof.Proof.Value
public import proofs.«01_k».proof.Proof.Gen.Pre_slots_partitioned
public import Idealize.ShloMosaic.Lib.StableHlo.Predicate

@[expose] public section

set_option maxRecDepth 400000

noncomputable section

namespace Cert.Proof.Dispatch

open Cert.Pre_slots_partitioned
open Idealize.ShloMosaic Idealize.ShloMosaic.ValueIdx Idealize.ShloMosaic.StableHlo.Predicate

attribute [local instance] Cert.Pre_slots_partitioned.Gen.facts

/-! ## Masks as propositions -/

theorem and_one {a b : BitVec 1} : IntOp.andi a b = 1#1 ↔ a = 1#1 ∧ b = 1#1 := by revert a b; decide
theorem or_one {a b : BitVec 1} : IntOp.ori a b = 1#1 ↔ a = 1#1 ∨ b = 1#1 := by revert a b; decide

theorem ne_one {a b : BitVec 32} : IntOp.cmpi .ne a b = 1#1 ↔ a ≠ b := by
  simp only [IntOp.cmpi, ofBool_eq_one_iff, bne_iff_ne]

theorem sle_one {a b : BitVec 32} : IntOp.cmpi .sle a b = 1#1 ↔ a.toInt ≤ b.toInt := by
  simp only [IntOp.cmpi, ofBool_eq_one_iff, BitVec.sle, decide_eq_true_eq]

theorem slt_one {a b : BitVec 32} : IntOp.cmpi .slt a b = 1#1 ↔ a.toInt < b.toInt := by
  simp only [IntOp.cmpi, ofBool_eq_one_iff, BitVec.slt, decide_eq_true_eq]

theorem sge_one {a b : BitVec 32} : IntOp.cmpi .sge a b = 1#1 ↔ b.toInt ≤ a.toInt := by
  simp only [IntOp.cmpi, ofBool_eq_one_iff, BitVec.sle, decide_eq_true_eq]

/-- A word that is at least zero, read signed, is its unsigned reading. -/
theorem toInt_nat {a : BitVec 32} (h : 0 ≤ a.toInt) : a.toInt = (a.toNat : Int) := by
  have ha := a.isLt
  rw [BitVec.toInt_eq_toNat_cond] at h ⊢
  split <;> rename_i h' <;> simp only [h', if_true, if_false] at h <;> omega

/-- A fold of `or` from false that comes out true met a true one. -/
theorem foldl_or_one {α : Type} (g : α → BitVec 1) (l : List α) (r : BitVec 1)
    (h : l.foldl (fun r n => IntOp.ori r (g n)) r = 1#1) : r = 1#1 ∨ ∃ n ∈ l, g n = 1#1 := by
  induction l generalizing r with
  | nil => exact Or.inl h
  | cons a l ih =>
    rcases ih _ h with h | ⟨n, hn, e⟩
    · rcases or_one.1 h with h | h
      · exact Or.inl h
      · exact Or.inr ⟨a, List.mem_cons_self, h⟩
    · exact Or.inr ⟨n, List.mem_cons_of_mem _ hn, e⟩

/-- Row `p` of a mask, reduced by `or` from false to true, has a true column. -/
theorem reduce_or_one {n m : ℕ} (h : (⟨2, ![n, m]⟩ : Shape).ReducesTo [1] ⟨1, ![n]⟩) {u : Shape} (hu : 0 < u.numel)
    (x : IVec ⟨2, ![n, m]⟩ 1) (p : Fin n) (e : Host.reduce IntOp.ori x (constantI u 1 0#1) h hu (ix1 p) = 1#1) :
    ∃ q : Fin m, x (ij p q) = 1#1 := by
  rcases foldl_or_one _ _ _ e with e | ⟨k, hk, e⟩
  · exact absurd (show (0#1 : BitVec 1) = 1#1 from e) (by decide)
  · have hd := of_decide_eq_true (List.mem_filter.1 hk).2
    have hv : (h.drop ((⟨2, ![n, m]⟩ : Shape).rowMajor.symm k) 0 : ℕ) = (⟨2, ![n, m]⟩ : Shape).rowMajor.symm k 0 :=
      Shape.ReducesTo.drop_apply_val h _ 0
    rw [hd] at hv
    refine ⟨(⟨2, ![n, m]⟩ : Shape).rowMajor.symm k 1, ?_⟩
    rw [← e]
    refine congrArg x (funext fun b => ?_)
    match b with
    | ⟨0, _⟩ => exact Fin.ext hv
    | ⟨1, _⟩ => rfl

/-- A vector down the rows of a rectangle. -/
def col {α : Type} {n m : ℕ} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) :
    (⟨2, ![n, m]⟩ : Shape).Idx → α :=
  broadcastInDim ⟨2, ![n, m]⟩ ![0, 1] h₂ (broadcastInDim ⟨2, ![n, 1]⟩ ![0] h₁ v)

/-- A vector along the columns of a rectangle. -/
def across {α : Type} {n m : ℕ} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) :
    (⟨2, ![n, m]⟩ : Shape).Idx → α :=
  broadcastInDim ⟨2, ![n, m]⟩ ![0, 1] h₂ (broadcastInDim ⟨2, ![1, m]⟩ ![1] h₁ v)

theorem ofFin_ix1 {n : ℕ} (p : Fin n) : Shape.Idx.ofFin p = ix1 p := by rw [eq_ix1 (Shape.Idx.ofFin p)]; rfl

theorem col_apply {α : Type} {n m : ℕ} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (p : Fin n) (q : Fin m) :
    col h₁ h₂ v (ij p q) = v (ix1 p) := (bcast_rows h₁ h₂ v p q).trans (congrArg v (ofFin_ix1 p))

theorem across_apply {α : Type} {n m : ℕ} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) (p : Fin n) (q : Fin m) :
    across h₁ h₂ v (ij p q) = v (ix1 q) := (bcast_cols h₁ h₂ v p q).trans (congrArg v (ofFin_ix1 q))

/-! ## The nine masks -/

section Masks
variable {F : FTy → Type} [FloatOps F] {h2 : S24576x2048.Idx → F .f32} {f1 f2 : S24576.Idx → BitVec 32} {f3 f4 : S32.Idx → BitVec 32}

/-- The words of a table lie in the slots. -/
theorem range_of {f : BitVec 32} (e : IntOp.andi (IntOp.cmpi .sge f 0#32) (IntOp.cmpi .slt f 57344#32) = 1#1) :
    0 ≤ f.toInt ∧ f.toNat < 57344 := by
  obtain ⟨a, b⟩ := and_one.1 e
  have a := sge_one.1 a
  have b := slt_one.1 b
  have h0 : (0#32 : BitVec 32).toInt = 0 := by decide
  have h1 : (57344#32 : BitVec 32).toInt = 57344 := by decide
  rw [h0] at a
  rw [h1, toInt_nat a] at b
  exact ⟨a, by omega⟩

/-- The masks true everywhere are the partition. -/
theorem tables_of
    (h : (fn (F := F) h2 f1 f2 f3 f4).1 = (fun _ => 1#1) ∧ (fn (F := F) h2 f1 f2 f3 f4).2.1 = (fun _ => 1#1)
      ∧ (fn (F := F) h2 f1 f2 f3 f4).2.2.1 = (fun _ => 1#1) ∧ (fn (F := F) h2 f1 f2 f3 f4).2.2.2.1 = (fun _ => 1#1)
      ∧ (fn (F := F) h2 f1 f2 f3 f4).2.2.2.2.1 = (fun _ => 1#1) ∧ (fn (F := F) h2 f1 f2 f3 f4).2.2.2.2.2.1 = (fun _ => 1#1)
      ∧ (fn (F := F) h2 f1 f2 f3 f4).2.2.2.2.2.2.1 = (fun _ => 1#1)
      ∧ (fn (F := F) h2 f1 f2 f3 f4).2.2.2.2.2.2.2.1 = (fun _ => 1#1)
      ∧ (fn (F := F) h2 f1 f2 f3 f4).2.2.2.2.2.2.2.2 = (fun _ => 1#1)) : Tables f1 f2 f3 f4 := by
  obtain ⟨a1, a2, a3, a4, a5, a6, a7, a8, a9⟩ := h
  have r1 : ∀ j : Fin 24576, 0 ≤ (f1 (ix1 j)).toInt ∧ (f1 (ix1 j)).toNat < 57344 := fun j => range_of (congrFun a1 (ix1 j))
  have r2 : ∀ j : Fin 24576, 0 ≤ (f2 (ix1 j)).toInt ∧ (f2 (ix1 j)).toNat < 57344 := fun j => range_of (congrFun a2 (ix1 j))
  have rp : ∀ x : Fin 32, 0 ≤ (f3 (ix1 x)).toInt ∧ 0 ≤ (f4 (ix1 x)).toInt ∧ (f3 (ix1 x)).toNat ≤ (f4 (ix1 x)).toNat
      ∧ (f4 (ix1 x)).toNat ≤ 57344 := fun x => by
    have e : IntOp.andi (IntOp.andi (IntOp.cmpi .sge (f3 (ix1 x)) 0#32) (IntOp.cmpi .sle (f3 (ix1 x)) (f4 (ix1 x))))
      (IntOp.cmpi .sle (f4 (ix1 x)) 57344#32) = 1#1 := congrFun a3 (ix1 x)
    obtain ⟨e, c⟩ := and_one.1 e
    obtain ⟨a, b⟩ := and_one.1 e
    have a := sge_one.1 a
    have b := sle_one.1 b
    have c := sle_one.1 c
    have h0 : (0#32 : BitVec 32).toInt = 0 := by decide
    have h1 : (57344#32 : BitVec 32).toInt = 57344 := by decide
    rw [h0] at a
    rw [h1] at c
    have a' : 0 ≤ (f4 (ix1 x)).toInt := le_trans a b
    rw [toInt_nat a, toInt_nat a'] at b
    rw [toInt_nat a'] at c
    exact ⟨a, a', by omega, by omega⟩
  have iT : ∀ n (hn : n < 24576), ixT n = ix1 (⟨n, hn⟩ : Fin 24576) := fun n hn => ixT_ix1 ⟨n, hn⟩
  have iE : ∀ n (hn : n < 32), ixE n = ix1 (⟨n, hn⟩ : Fin 32) := fun n hn => by
    funext a
    obtain rfl : a = 0 := Subsingleton.elim _ _
    exact Fin.ext (Ring.bk_val (NB := 32) hn)
  have inj : ∀ {f : S24576.Idx → BitVec 32} (i j : Fin 24576),
      IntOp.ori (IntOp.cmpi .eq (col Facts.bcast_S24576_S24576x1_0 Facts.bcast_S24576x1_S24576x24576_0_1 (iotaInDim S24576 32 0) (ij i j))
        (across Facts.bcast_S24576_S1x24576_1 Facts.bcast_S1x24576_S24576x24576_0_1 (iotaInDim S24576 32 0) (ij i j)))
        (IntOp.cmpi .ne (col Facts.bcast_S24576_S24576x1_0 Facts.bcast_S24576x1_S24576x24576_0_1 f (ij i j))
        (across Facts.bcast_S24576_S1x24576_1 Facts.bcast_S1x24576_S24576x24576_0_1 f (ij i j))) = 1#1 →
      (f (ix1 i)).toNat = (f (ix1 j)).toNat → i.val = j.val := fun {f} i j e hij => by
    rw [col_apply, across_apply, col_apply, across_apply] at e
    rcases or_one.1 e with e | e
    · have e : BitVec.ofNat 32 i.val = BitVec.ofNat 32 j.val := cmpi_eq_iff.1 e
      have e := congrArg BitVec.toNat e
      rw [BitVec.toNat_ofNat, BitVec.toNat_ofNat] at e
      have hi := i.isLt
      have hj := j.isLt
      omega
    · exact absurd (BitVec.eq_of_toNat_eq hij) (ne_one.1 e)
  have off : ∀ {f : S24576.Idx → BitVec 32} (i : Fin 24576) (x : Fin 32), 0 ≤ (f (ix1 i)).toInt →
      IntOp.ori (IntOp.cmpi .slt (col Facts.bcast_S24576_S24576x1_0 Facts.bcast_S24576x1_S24576x32_0_1 f (ij i x))
        (across Facts.bcast_S32_S1x32_1 Facts.bcast_S1x32_S24576x32_0_1 f3 (ij i x)))
        (IntOp.cmpi .sge (col Facts.bcast_S24576_S24576x1_0 Facts.bcast_S24576x1_S24576x32_0_1 f (ij i x))
        (across Facts.bcast_S32_S1x32_1 Facts.bcast_S1x32_S24576x32_0_1 f4 (ij i x))) = 1#1 →
      ¬ ((f3 (ix1 x)).toNat ≤ (f (ix1 i)).toNat ∧ (f (ix1 i)).toNat < (f4 (ix1 x)).toNat) := fun {f} i x hf e => by
    rw [col_apply, across_apply, across_apply] at e
    obtain ⟨p3, p4, _, _⟩ := rp x
    rcases or_one.1 e with e | e
    · have e := slt_one.1 e
      rw [toInt_nat hf, toInt_nat p3] at e
      omega
    · have e := sge_one.1 e
      rw [toInt_nat hf, toInt_nat p4] at e
      omega
  have hit : ∀ {f : S24576.Idx → BitVec 32} (s : Fin 57344),
      Host.reduce IntOp.ori (Idealize.ShloMosaic.cmpi .eq (across Facts.bcast_S24576_S1x24576_1 Facts.bcast_S1x24576_S57344x24576_0_1 f)
        (col Facts.bcast_S57344_S57344x1_0 Facts.bcast_S57344x1_S57344x24576_0_1 (iotaInDim S57344 32 0))) (constantI S_ 1 0#1)
        Facts.reducesTo_S57344x24576_S57344_d1 Facts.h_S_ (ix1 s) = 1#1 → ∃ n < 24576, (f (ixT n)).toNat = s.val := fun {f} s e => by
    obtain ⟨q, e⟩ := reduce_or_one _ _ _ s e
    have e : IntOp.cmpi .eq (across Facts.bcast_S24576_S1x24576_1 Facts.bcast_S1x24576_S57344x24576_0_1 f (ij s q))
      (col Facts.bcast_S57344_S57344x1_0 Facts.bcast_S57344x1_S57344x24576_0_1 (iotaInDim S57344 32 0) (ij s q)) = 1#1 := e
    rw [col_apply, across_apply] at e
    have e : f (ix1 q) = BitVec.ofNat 32 s.val := cmpi_eq_iff.1 e
    refine ⟨q.val, q.isLt, ?_⟩
    rw [iT _ q.isLt, e, BitVec.toNat_ofNat]
    have := s.isLt
    omega
  refine ⟨fun n hn => ?_, fun n hn => ?_, fun n hn n' hn' => ?_, fun n hn n' hn' => ?_, fun n hn n' hn' => ?_, fun x hx => ?_, fun n hn => ?_,
    fun n hn => ?_, fun s hs => ?_⟩
  · rw [iT n hn]; exact (r1 _).2
  · rw [iT n hn]; exact (r2 _).2
  · rw [iT n hn, iT n' hn']; exact inj ⟨n, hn⟩ ⟨n', hn'⟩ (congrFun a4 (ij ⟨n, hn⟩ ⟨n', hn'⟩))
  · rw [iT n hn, iT n' hn']; exact inj ⟨n, hn⟩ ⟨n', hn'⟩ (congrFun a5 (ij ⟨n, hn⟩ ⟨n', hn'⟩))
  · rw [iT n hn, iT n' hn']
    intro h
    have e : IntOp.cmpi .ne (col Facts.bcast_S24576_S24576x1_0 Facts.bcast_S24576x1_S24576x24576_0_1 f1 (ij (⟨n, hn⟩ : Fin 24576) (⟨n', hn'⟩ : Fin 24576)))
        (across Facts.bcast_S24576_S1x24576_1 Facts.bcast_S1x24576_S24576x24576_0_1 f2 (ij ⟨n, hn⟩ ⟨n', hn'⟩)) = 1#1 := congrFun a6 (ij ⟨n, hn⟩ ⟨n', hn'⟩)
    rw [col_apply, across_apply] at e
    exact ne_one.1 e (BitVec.eq_of_toNat_eq h)
  · rw [iE x hx]; exact ⟨(rp _).2.2.1, (rp _).2.2.2⟩
  · rintro ⟨y, hy, h⟩
    rw [iT n hn, iE y hy] at h
    exact off ⟨n, hn⟩ ⟨y, hy⟩ (r1 _).1 (congrFun a7 (ij ⟨n, hn⟩ ⟨y, hy⟩)) h
  · rintro ⟨y, hy, h⟩
    rw [iT n hn, iE y hy] at h
    exact off ⟨n, hn⟩ ⟨y, hy⟩ (r2 _).1 (congrFun a8 (ij ⟨n, hn⟩ ⟨y, hy⟩)) h
  · have e : IntOp.ori (IntOp.ori
        (Host.reduce IntOp.ori (Idealize.ShloMosaic.cmpi .eq (across Facts.bcast_S24576_S1x24576_1 Facts.bcast_S1x24576_S57344x24576_0_1 f1)
          (col Facts.bcast_S57344_S57344x1_0 Facts.bcast_S57344x1_S57344x24576_0_1 (iotaInDim S57344 32 0))) (constantI S_ 1 0#1)
          Facts.reducesTo_S57344x24576_S57344_d1 Facts.h_S_ (ix1 ⟨s, hs⟩))
        (Host.reduce IntOp.ori (Idealize.ShloMosaic.cmpi .eq (across Facts.bcast_S24576_S1x24576_1 Facts.bcast_S1x24576_S57344x24576_0_1 f2)
          (col Facts.bcast_S57344_S57344x1_0 Facts.bcast_S57344x1_S57344x24576_0_1 (iotaInDim S57344 32 0))) (constantI S_ 1 0#1)
          Facts.reducesTo_S57344x24576_S57344_d1 Facts.h_S_ (ix1 ⟨s, hs⟩)))
        (Host.reduce IntOp.ori (Idealize.ShloMosaic.andi
          (Idealize.ShloMosaic.cmpi .sge (col Facts.bcast_S57344_S57344x1_0 Facts.bcast_S57344x1_S57344x32_0_1 (iotaInDim S57344 32 0))
            (across Facts.bcast_S32_S1x32_1 Facts.bcast_S1x32_S57344x32_0_1 f3))
          (Idealize.ShloMosaic.cmpi .slt (col Facts.bcast_S57344_S57344x1_0 Facts.bcast_S57344x1_S57344x32_0_1 (iotaInDim S57344 32 0))
            (across Facts.bcast_S32_S1x32_1 Facts.bcast_S1x32_S57344x32_0_1 f4))) (constantI S_ 1 0#1)
          Facts.reducesTo_S57344x32_S57344_d1 Facts.h_S_ (ix1 ⟨s, hs⟩)) = 1#1 := congrFun a9 (ix1 ⟨s, hs⟩)
    rcases or_one.1 e with e | e
    · rcases or_one.1 e with e | e
      · exact Or.inl (hit ⟨s, hs⟩ e)
      · exact Or.inr (Or.inl (hit ⟨s, hs⟩ e))
    · refine Or.inr (Or.inr ?_)
      obtain ⟨q, e⟩ := reduce_or_one _ _ _ _ e
      have e : IntOp.andi
          (IntOp.cmpi .sge (col Facts.bcast_S57344_S57344x1_0 Facts.bcast_S57344x1_S57344x32_0_1 (iotaInDim S57344 32 0) (ij (⟨s, hs⟩ : Fin 57344) q))
            (across Facts.bcast_S32_S1x32_1 Facts.bcast_S1x32_S57344x32_0_1 f3 (ij ⟨s, hs⟩ q)))
          (IntOp.cmpi .slt (col Facts.bcast_S57344_S57344x1_0 Facts.bcast_S57344x1_S57344x32_0_1 (iotaInDim S57344 32 0) (ij ⟨s, hs⟩ q))
            (across Facts.bcast_S32_S1x32_1 Facts.bcast_S1x32_S57344x32_0_1 f4 (ij ⟨s, hs⟩ q))) = 1#1 := e
      rw [col_apply, across_apply, across_apply] at e
      obtain ⟨a, b⟩ := and_one.1 e
      have a := sge_one.1 a
      have b := slt_one.1 b
      obtain ⟨p3, p4, _, _⟩ := rp q
      have hs' : (iotaInDim S57344 32 0 (ix1 (⟨s, hs⟩ : Fin 57344)) : BitVec 32).toInt = (s : Int) := toInt_ofNat_small s (by omega)
      rw [hs', toInt_nat p3] at a
      rw [hs', toInt_nat p4] at b
      refine ⟨q.val, q.isLt, ?_⟩
      rw [iE _ q.isLt]
      have lo : (f3 (ix1 q)).toNat ≤ s := by omega
      have hi : s < (f4 (ix1 q)).toNat := by omega
      exact ⟨lo, hi⟩

end Masks

end Cert.Proof.Dispatch
-- ==== Proof.Same.lean ====
/-
  The kernel's two programs have one text, so a run of one is a run of the other.
-/
module

public import proofs.«01_k».proof.Proof.Gen.Kernel
public import proofs.«01_k».proof.Proof.Gen.KernelIdeal

@[expose] public section
set_option maxRecDepth 400000
noncomputable section

namespace Cert.Proof.Dispatch
open Idealize.ShloMosaic Idealize.SL.Sem Idealize.ShloMosaic.TcCoe
attribute [local instance] Cert.Kernel.Gen.facts Cert.KernelIdeal.Gen.facts
variable {F : FTy → Type} [FloatOps F]

theorem bodies_same : Cert.Kernel.defs₀ (F := F) = Cert.KernelIdeal.defs₀ := by
  unfold Cert.Kernel.defs₀ Cert.KernelIdeal.defs₀
  refine congrArg Defs.onTc (funext fun l => ?_)
  match l with
  | ⟨0, _⟩ => funext ⟨t, s⟩; rfl
theorem defs_same : Cert.Kernel.defs (F := F) = Cert.KernelIdeal.defs := congrArg (Pipeline.defs Cert.KernelIdeal.pcfgs) bodies_same
theorem run_same (m) (ρ) (Q) : θ_run (Cert.Kernel.defs (F := F)) (onTc (τ := Cert.Kernel.τ) (Cert.Kernel.main (F := F))) ⟨m, fun _ => 0, ρ⟩ Q
  = θ_run (Cert.KernelIdeal.defs (F := F)) (onTc (τ := Cert.KernelIdeal.τ) (Cert.KernelIdeal.main (F := F))) ⟨m, fun _ => 0, ρ⟩ Q :=
  congrArg (fun d => θ_run d (onTc (τ := Cert.KernelIdeal.τ) (Cert.KernelIdeal.main (F := F))) ⟨m, fun _ => 0, ρ⟩ Q) defs_same
end Cert.Proof.Dispatch
-- ==== Proof.InProjSpec.lean ====
/- The input projection at one token and one column. -/
module

public import Idealize.ShloMosaic.Lib.Pointwise

@[expose] public section

noncomputable section

namespace Cert.Proof.InProj

open Idealize.ShloMosaic

/-- Element `k` of a row divided by its root mean square and scaled by `g`. -/
def normed (row g : Fin 2048 → EReal) (k : Fin 2048) : EReal :=
  row k * Ideal.rsqrt (Ideal.div (∑ k', row k' * row k') (Ideal.ofBits .f32 0x45000000#32) + Ideal.ofBits .f32 0x358637BD#32) * g k

/-- The normalised row times one column of the weights. -/
def proj (row g w : Fin 2048 → EReal) : EReal := ∑ k, normed row g k * w k

/-- Token `n`'s row: the prompt's tokens first, then the samples'. -/
def tok (xp : (⟨2, ![16384, 2048]⟩ : Shape).Idx → EReal) (xs : (⟨2, ![8192, 2048]⟩ : Shape).Idx → EReal) (n : Fin 24576)
    (k : Fin 2048) : EReal :=
  if h : n.val < 16384 then xp (ix2 ⟨n.val, h⟩ k) else xs (ix2 ⟨n.val - 16384, by omega⟩ k)

/-- The column of the weights that result column `j` reads: the results are stored in the order
    qa, qb, kb, vb, ka, va, and the weights in the order qa, ka, va, qb, kb, vb. -/
def wcol (j : Fin 4608) : Fin 4608 :=
  ⟨if j.val < 1024 then j.val else if j.val < 4096 then j.val + 512 else j.val - 3072, by split_ifs <;> omega⟩

/-- A sum of products with one column of the weights, the column given by two equal numbers. -/
theorem sum_col (f : Fin 2048 → EReal) (w : (⟨2, ![2048, 4608]⟩ : Shape).Idx → EReal) {a b : Fin 4608} (h : a.val = b.val) :
    ∑ k, f k * w (ix2 k a) = ∑ k, f k * w (ix2 k b) := by
  rw [Fin.ext h]

end Cert.Proof.InProj

end
-- ==== Proof.InProjBody.lean ====
/- The input projection's block: what the nine column slices hold, as a product with the normalised rows. -/
module

public import proofs.«01_k».proof.Proof.Gen.Kernel2Ideal.Value
public import proofs.«01_k».proof.Proof.InProjSpec
public import Idealize.ShloMosaic.Lib.Pipeline.ValueKit

@[expose] public section

set_option maxRecDepth 400000

noncomputable section

namespace Cert.Proof.InProj

open Cert.Kernel2Ideal Cert.Kernel2Ideal.Gen Idealize.ShloMosaic Idealize.ShloMosaic.TcCoe Idealize.SL.Sem

/-- What a point leaves in its block of the output: row by row, `proj` at the columns of the weights. -/
def block (x : Vec Ideal S512x2048 .f32) (g : Vec Ideal S1x2048 .f32) (w : Vec Ideal S2048x4608 .bf16) : Vec Ideal S512x4608 .bf16 :=
  fun j => proj (fun k => x (ix2 (j 0) k)) (fun k => g (ix2 0 k)) (fun k => w (ix2 k (j 1)))

theorem hz : (![0, 0] : Fin 2 → Nat) = fun _ => 0 := funext fun a => by fin_cases a <;> rfl

theorem pay1_apply (x : Vec Ideal S512x2048 .f32) (g : Vec Ideal S1x2048 .f32) (r : Fin 512) (k : Fin 2048) :
    k0_pay1 x g (ix2 r k) = normed (fun k => x (ix2 r k)) (fun k => g (ix2 0 k)) k := by
  pointwise [k0_pay1, normed]

theorem pay7_apply (h : FVec Ideal S512x2048 .bf16) (w : Vec Ideal S2048x512 .bf16) (j : S512x512.Idx) :
    k0_pay7 h w j = ∑ k : Fin 2048, h (ix2 (j 0) k) * w (ix2 k (j 1)) := by
  pointwise [k0_pay7]

/-- One store's payload, over the rows `x`, the scale `g` and the weights' column slice at `off`. -/
theorem slice_apply (off : ℕ) (x : Vec Ideal S512x2048 .f32) (g : Vec Ideal S1x2048 .f32) (w : Vec Ideal S2048x4608 .bf16)
    (hw : ∀ a, (![0, off] : Fin 2 → ℕ) a + S2048x512.size a ≤ S2048x4608.size a)
    (ho : ∀ a, (![0, off] : Fin 2 → ℕ) a + S512x512.size a ≤ S512x4608.size a)
    (j : (Rect.unit (s := S512x4608) ![0, off] S512x512.size ho).shape.Idx) :
    k0_pay7 (k0_pay1 x g) (View.ld w (Rect.unit (s := S2048x4608) ![0, off] S2048x512.size hw)) j
      = block x g w ((Rect.unit (s := S512x4608) ![0, off] S512x512.size ho).emb j) := by
  refine (pay7_apply _ _ _).trans ?_
  unfold block proj
  refine Finset.sum_congr rfl fun k _ => ?_
  refine congrArg₂ (· * ·) ((pay1_apply x g (j 0) k).trans (congrArg₂ (fun a b => normed a b k) ?_ rfl)) ?_
  · funext k'
    exact congrArg x (congrArg₂ ix2 (Fin.ext (by simp [Rect.emb_apply])) rfl)
  · refine View.ld_unit_apply_of _ _ _ _ _ _ fun a => ?_
    fin_cases a
    · simp
    · simp [Rect.emb_apply]

/-- What a point of the first 32 leaves in the output's block. -/
theorem out_A (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S2048x4608 .bf16) (h4 : a4.IsWhole) (a5 : Memref sig .tc .vmem S512x4608 .bf16) (h5 : a5.IsWhole)
    (hc0 : cond0_0 i) (hc1 : ¬cond0_1 i) (x0 x1 : Vec Ideal S512x2048 .f32) (x2 : Vec Ideal S1x2048 .f32)
    (x3 : Vec Ideal S2048x4608 .bf16) :
    out0_A_4 c i a1 h1 a2 h2 a3 h3 a4 h4 a5 h5 hc0 hc1 x0 x1 x2 x3 = block x0 x2 x3 := by
  funext y
  have hcov := cover0_A_4 (F := Ideal) c i a1 h1 a2 h2 a3 h3 a4 h4 a5 h5 hc0 hc1 x0 x1 x2 x3
  unfold out0_A_4
  rw [View.read_writes_eq_canon _ _ _ hcov]
  refine View.canon_apply_of_pieces (block x0 x2 x3) _ (fun p hp => ?_) y (hcov y)
  unfold kernelRun0_A at hp
  simp only [List.mem_cons, List.mem_nil_iff, or_false] at hp
  have e0 : View.readAt (Elt Ideal) a1.view (Rect.unit (s := S512x2048) ![0, 0] S512x2048.size
      inb_S512x2048_S512x2048_0_0).toLoadRect (h1.unread x0) = x0 := by
    rw [View.readAt_eq_ld, h1.read_unread, View.ld_unit_zero hz]
  have e2 : View.readAt (Elt Ideal) a3.view (Rect.unit (s := S1x2048) ![0, 0] S1x2048.size
      inb_S1x2048_S1x2048_0_0).toLoadRect (h3.unread x2) = x2 := by
    rw [View.readAt_eq_ld, h3.read_unread, View.ld_unit_zero hz]
  have e4 : ∀ r, View.readAt (Elt Ideal) a4.view (Rect.toLoadRect r) (h4.unread x3) = View.ld x3 r := fun r => by
    rw [View.readAt_eq_ld, h4.read_unread]
  have key : ∀ (off : ℕ) (hw : ∀ a, (![0, off] : Fin 2 → ℕ) a + S2048x512.size a ≤ S2048x4608.size a)
      (ho : ∀ a, (![0, off] : Fin 2 → ℕ) a + S512x512.size a ≤ S512x4608.size a)
      (j : (Rect.unit (s := S512x4608) ![0, off] S512x512.size ho).shape.Idx),
      k0_pay7 (k0_pay1 (View.readAt (Elt Ideal) a1.view (Rect.unit (s := S512x2048) ![0, 0] S512x2048.size
        inb_S512x2048_S512x2048_0_0).toLoadRect (h1.unread x0))
        (View.readAt (Elt Ideal) a3.view (Rect.unit (s := S1x2048) ![0, 0] S1x2048.size
          inb_S1x2048_S1x2048_0_0).toLoadRect (h3.unread x2)))
        (View.readAt (Elt Ideal) a4.view (Rect.unit (s := S2048x4608) ![0, off] S2048x512.size hw).toLoadRect (h4.unread x3)) j
      = block x0 x2 x3 ((Rect.unit (s := S512x4608) ![0, off] S512x512.size ho).emb j) := fun off hw ho j => by
    rw [e0, e2, e4]; exact slice_apply off x0 x2 x3 hw ho j
  rcases hp with rfl | rfl | rfl | rfl | rfl | rfl | rfl | rfl | rfl
  · exact key 4096 inb_S2048x4608_S2048x512_0_4096 inb_S512x4608_S512x512_0_4096
  · exact key 3584 inb_S2048x4608_S2048x512_0_3584 inb_S512x4608_S512x512_0_3584
  · exact key 3072 inb_S2048x4608_S2048x512_0_3072 inb_S512x4608_S512x512_0_3072
  · exact key 2560 inb_S2048x4608_S2048x512_0_2560 inb_S512x4608_S512x512_0_2560
  · exact key 2048 inb_S2048x4608_S2048x512_0_2048 inb_S512x4608_S512x512_0_2048
  · exact key 1536 inb_S2048x4608_S2048x512_0_1536 inb_S512x4608_S512x512_0_1536
  · exact key 1024 inb_S2048x4608_S2048x512_0_1024 inb_S512x4608_S512x512_0_1024
  · exact key 512 inb_S2048x4608_S2048x512_0_512 inb_S512x4608_S512x512_0_512
  · exact key 0 inb_S2048x4608_S2048x512_0_0 inb_S512x4608_S512x512_0_0

/-- What a point of the last 16 leaves in the output's block. -/
theorem out_B (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S2048x4608 .bf16) (h4 : a4.IsWhole) (a5 : Memref sig .tc .vmem S512x4608 .bf16) (h5 : a5.IsWhole)
    (hc0 : ¬cond0_0 i) (hc1 : cond0_1 i) (x0 x1 : Vec Ideal S512x2048 .f32) (x2 : Vec Ideal S1x2048 .f32)
    (x3 : Vec Ideal S2048x4608 .bf16) :
    out0_B_4 c i a1 h1 a2 h2 a3 h3 a4 h4 a5 h5 hc0 hc1 x0 x1 x2 x3 = block x1 x2 x3 := by
  funext y
  have hcov := cover0_B_4 (F := Ideal) c i a1 h1 a2 h2 a3 h3 a4 h4 a5 h5 hc0 hc1 x0 x1 x2 x3
  unfold out0_B_4
  rw [View.read_writes_eq_canon _ _ _ hcov]
  refine View.canon_apply_of_pieces (block x1 x2 x3) _ (fun p hp => ?_) y (hcov y)
  unfold kernelRun0_B at hp
  simp only [List.mem_cons, List.mem_nil_iff, or_false] at hp
  have e0 : View.readAt (Elt Ideal) a2.view (Rect.unit (s := S512x2048) ![0, 0] S512x2048.size
      inb_S512x2048_S512x2048_0_0).toLoadRect (h2.unread x1) = x1 := by
    rw [View.readAt_eq_ld, h2.read_unread, View.ld_unit_zero hz]
  have e2 : View.readAt (Elt Ideal) a3.view (Rect.unit (s := S1x2048) ![0, 0] S1x2048.size
      inb_S1x2048_S1x2048_0_0).toLoadRect (h3.unread x2) = x2 := by
    rw [View.readAt_eq_ld, h3.read_unread, View.ld_unit_zero hz]
  have e4 : ∀ r, View.readAt (Elt Ideal) a4.view (Rect.toLoadRect r) (h4.unread x3) = View.ld x3 r := fun r => by
    rw [View.readAt_eq_ld, h4.read_unread]
  have key : ∀ (off : ℕ) (hw : ∀ a, (![0, off] : Fin 2 → ℕ) a + S2048x512.size a ≤ S2048x4608.size a)
      (ho : ∀ a, (![0, off] : Fin 2 → ℕ) a + S512x512.size a ≤ S512x4608.size a)
      (j : (Rect.unit (s := S512x4608) ![0, off] S512x512.size ho).shape.Idx),
      k0_pay7 (k0_pay1 (View.readAt (Elt Ideal) a2.view (Rect.unit (s := S512x2048) ![0, 0] S512x2048.size
        inb_S512x2048_S512x2048_0_0).toLoadRect (h2.unread x1))
        (View.readAt (Elt Ideal) a3.view (Rect.unit (s := S1x2048) ![0, 0] S1x2048.size
          inb_S1x2048_S1x2048_0_0).toLoadRect (h3.unread x2)))
        (View.readAt (Elt Ideal) a4.view (Rect.unit (s := S2048x4608) ![0, off] S2048x512.size hw).toLoadRect (h4.unread x3)) j
      = block x1 x2 x3 ((Rect.unit (s := S512x4608) ![0, off] S512x512.size ho).emb j) := fun off hw ho j => by
    rw [e0, e2, e4]; exact slice_apply off x1 x2 x3 hw ho j
  rcases hp with rfl | rfl | rfl | rfl | rfl | rfl | rfl | rfl | rfl
  · exact key 4096 inb_S2048x4608_S2048x512_0_4096 inb_S512x4608_S512x512_0_4096
  · exact key 3584 inb_S2048x4608_S2048x512_0_3584 inb_S512x4608_S512x512_0_3584
  · exact key 3072 inb_S2048x4608_S2048x512_0_3072 inb_S512x4608_S512x512_0_3072
  · exact key 2560 inb_S2048x4608_S2048x512_0_2560 inb_S512x4608_S512x512_0_2560
  · exact key 2048 inb_S2048x4608_S2048x512_0_2048 inb_S512x4608_S512x512_0_2048
  · exact key 1536 inb_S2048x4608_S2048x512_0_1536 inb_S512x4608_S512x512_0_1536
  · exact key 1024 inb_S2048x4608_S2048x512_0_1024 inb_S512x4608_S512x512_0_1024
  · exact key 512 inb_S2048x4608_S2048x512_0_512 inb_S512x4608_S512x512_0_512
  · exact key 0 inb_S2048x4608_S2048x512_0_0 inb_S512x4608_S512x512_0_0

end Cert.Proof.InProj

end
-- ==== Proof.InProjKernel.lean ====
/- The input projection's launch: its blocks, and the array it leaves. -/
module

public import proofs.«01_k».proof.Proof.InProjBody

@[expose] public section

set_option maxRecDepth 400000

noncomputable section

namespace Cert.Proof.InProj

open Cert.Kernel2Ideal Cert.Kernel2Ideal.Gen Cert.Kernel2Ideal.Value Idealize.ShloMosaic Idealize.ShloMosaic.TcCoe Idealize.SL.Sem
open Idealize.ShloMosaic.StableHlo

variable (m : (ℓ : Loc nD τ sig) → Buf (Elt Ideal) ℓ)

/-- The scale's row, as the launch finds it. -/
theorem V_scale (c : Dev nD) (k : Fin 2048) :
    V m c main_v8 (ix2 0 k) = m ((c.tc : Thread nD τ).loc main_arg2) (ix1 k) := by
  have e : V m c main_v8 = shapeCast S1x2048 (m ((c.tc : Thread nD τ).loc main_arg2)) shapeCasts_S2048_S1x2048 := by
    unfold V
    after_results <;> rfl
  rw [e]
  pointwise

/-- The weights with their columns moved, as the launch finds them. -/
theorem V_weights (c : Dev nD) (k : Fin 2048) (j : Fin 4608) :
    V m c main_v7 (ix2 k j) = m ((c.tc : Thread nD τ).loc main_arg3) (ix2 k (wcol j)) := by
  have e : V m c main_v7 = truncf (F := Ideal) .bf16 (concatenate S2048x4608 1 [
      ⟨S2048x1024, extractStridedSlice S2048x1024 ![0, 0] (m ((c.tc : Thread nD τ).loc main_arg3)) slices_S2048x4608_S2048x1024_0_0⟩,
      ⟨S2048x1024, extractStridedSlice S2048x1024 ![0, 1536] (m ((c.tc : Thread nD τ).loc main_arg3)) slices_S2048x4608_S2048x1024_0_1536⟩,
      ⟨S2048x1024, extractStridedSlice S2048x1024 ![0, 2560] (m ((c.tc : Thread nD τ).loc main_arg3)) slices_S2048x4608_S2048x1024_0_2560⟩,
      ⟨S2048x1024, extractStridedSlice S2048x1024 ![0, 3584] (m ((c.tc : Thread nD τ).loc main_arg3)) slices_S2048x4608_S2048x1024_0_3584⟩,
      ⟨S2048x256, extractStridedSlice S2048x256 ![0, 1024] (m ((c.tc : Thread nD τ).loc main_arg3)) slices_S2048x4608_S2048x256_0_1024⟩,
      ⟨S2048x256, extractStridedSlice S2048x256 ![0, 1280] (m ((c.tc : Thread nD τ).loc main_arg3)) slices_S2048x4608_S2048x256_0_1280⟩]
      concatenates_S2048x1024_S2048x1024_S2048x1024_S2048x1024_S2048x256_S2048x256_S2048x4608_d1) bitsLt_bf16_f32 := by
    unfold V
    after_results <;> rfl
  rw [e]
  generalize m ((c.tc : Thread nD τ).loc main_arg3) = w
  pointwise
  by_cases h1 : j.val < 1024
  · rw [dif_pos h1]
    exact congrArg (fun q => w (ix2 k q)) (Fin.ext (by simp only [wcol]; split_ifs <;> omega))
  rw [dif_neg h1]
  by_cases h2 : j.val - 1024 < 1024
  · rw [dif_pos h2]
    exact congrArg (fun q => w (ix2 k q)) (Fin.ext (by simp only [wcol]; split_ifs <;> omega))
  rw [dif_neg h2]
  by_cases h3 : j.val - 1024 - 1024 < 1024
  · rw [dif_pos h3]
    exact congrArg (fun q => w (ix2 k q)) (Fin.ext (by simp only [wcol]; split_ifs <;> omega))
  rw [dif_neg h3]
  by_cases h4 : j.val - 1024 - 1024 - 1024 < 1024
  · rw [dif_pos h4]
    exact congrArg (fun q => w (ix2 k q)) (Fin.ext (by simp only [wcol]; split_ifs <;> omega))
  rw [dif_neg h4]
  by_cases h5 : j.val - 1024 - 1024 - 1024 - 1024 < 256
  · rw [dif_pos h5]
    exact congrArg (fun q => w (ix2 k q)) (Fin.ext (by simp only [wcol]; split_ifs <;> omega))
  rw [dif_neg h5]
  exact congrArg (fun q => w (ix2 k q)) (Fin.ext (by simp only [wcol]; split_ifs <;> omega))

/-- Where each window's block sits at a point: the prompt's, the samples', the scale's, the weights' and the result's. -/
theorem idx0 : ∀ t : Fin cfg0.N, win0_0.index t (0 : Fin 2) = min t.val 31 ∧ win0_0.index t (1 : Fin 2) = 0 :=
  (by decide +kernel : ∀ t : Fin grid0.N, _)
theorem idx1 : ∀ t : Fin cfg0.N, win0_1.index t (0 : Fin 2) = t.val - 32 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem lt48 (t : Fin cfg0.N) : t.val < 48 := Nat.lt_of_lt_of_eq t.isLt (show grid0.N = 48 from N_0)

/-- Token `n` of the prompt, in the block that holds it. -/
theorem blk0 (c : Dev nD) (t : Fin cfg0.N) (ht : t.val < 32) (r : Fin 512) (k : Fin 2048) :
    iblk m c 0 t (ix2 r k) = m ((c.tc : Thread nD τ).loc main_arg0) (ix2 ⟨t.val * 512 + r.val, by omega⟩ k) := by
  obtain ⟨e0, e1⟩ := idx0 t
  refine (congrArg (V m c main_arg0) (?_ : ((cfg0.win 0).blk t).view.emb (ix2 r k) = ix2 ⟨t.val * 512 + r.val, by omega⟩ k)).trans
    (congrFun (V_main_arg0 m c) _)
  funext a; apply Fin.ext
  match a with
  | ⟨0, _⟩ => show win0_0.index t (0 : Fin 2) * 512 + 1 * r.val = t.val * 512 + r.val; omega
  | ⟨1, _⟩ => show win0_0.index t (1 : Fin 2) * 2048 + 1 * k.val = k.val; omega

/-- A sample's token, in the block that holds it. -/
theorem blk1 (c : Dev nD) (t : Fin cfg0.N) (ht : 32 ≤ t.val) (r : Fin 512) (k : Fin 2048) :
    iblk m c 1 t (ix2 r k) = m ((c.tc : Thread nD τ).loc main_arg1)
      (ix2 ⟨t.val * 512 + r.val - 16384, by have := lt48 t; omega⟩ k) := by
  obtain ⟨e0, e1⟩ := idx1 t
  refine (congrArg (V m c main_arg1) (?_ : ((cfg0.win 1).blk t).view.emb (ix2 r k) = ix2 _ k)).trans
    (congrFun (V_main_arg1 m c) _)
  funext a; apply Fin.ext
  match a with
  | ⟨0, _⟩ => show win0_1.index t (0 : Fin 2) * 512 + 1 * r.val = t.val * 512 + r.val - 16384; omega
  | ⟨1, _⟩ => show win0_1.index t (1 : Fin 2) * 2048 + 1 * k.val = k.val; omega

/-- The scale's block is the scale. -/
theorem blk2 (c : Dev nD) (t : Fin cfg0.N) (k : Fin 2048) :
    iblk m c 2 t (ix2 0 k) = m ((c.tc : Thread nD τ).loc main_arg2) (ix1 k) := by
  obtain ⟨e0, e1⟩ := idx2 t
  refine (congrArg (V m c main_v8) (?_ : ((cfg0.win 2).blk t).view.emb (ix2 0 k) = ix2 0 k)).trans (V_scale m c k)
  funext a; apply Fin.ext
  match a with
  | ⟨0, _⟩ => show win0_2.index t (0 : Fin 2) * 1 + 1 * 0 = 0; omega
  | ⟨1, _⟩ => show win0_2.index t (1 : Fin 2) * 2048 + 1 * k.val = k.val; omega

/-- The weights' block is the weights. -/
theorem blk3 (c : Dev nD) (t : Fin cfg0.N) (k : Fin 2048) (j : Fin 4608) :
    iblk m c 3 t (ix2 k j) = m ((c.tc : Thread nD τ).loc main_arg3) (ix2 k (wcol j)) := by
  obtain ⟨e0, e1⟩ := idx3 t
  refine (congrArg (V m c main_v7) (?_ : ((cfg0.win 3).blk t).view.emb (ix2 k j) = ix2 k j)).trans (V_weights m c k j)
  funext a; apply Fin.ext
  match a with
  | ⟨0, _⟩ => show win0_3.index t (0 : Fin 2) * 2048 + 1 * k.val = k.val; omega
  | ⟨1, _⟩ => show win0_3.index t (1 : Fin 2) * 4608 + 1 * j.val = j.val; omega

/-- The result array as one function of the arguments. -/
def G (xp : (⟨2, ![16384, 2048]⟩ : Shape).Idx → EReal) (xs : (⟨2, ![8192, 2048]⟩ : Shape).Idx → EReal)
    (g : (⟨1, ![2048]⟩ : Shape).Idx → EReal) (w : (⟨2, ![2048, 4608]⟩ : Shape).Idx → EReal) :
    (⟨2, ![24576, 4608]⟩ : Shape).Idx → EReal :=
  fun i => proj (tok xp xs (i 0)) (fun k => g (ix1 k)) (fun k => w (ix2 k (wcol (i 1))))

/-- The result's array as the launch's arguments determine it. -/
abbrev res (c : Dev nD) : Vec Ideal S24576x4608 .bf16 :=
  G (m ((c.tc : Thread nD τ).loc main_arg0)) (m ((c.tc : Thread nD τ).loc main_arg1)) (m ((c.tc : Thread nD τ).loc main_arg2))
    (m ((c.tc : Thread nD τ).loc main_arg3))

theorem emb4 (t : Fin cfg0.N) (y : S512x4608.Idx) :
    (((cfg0.win 4).blk t).view.emb y : S24576x4608.Idx)
      = (ix2 ⟨t.val * 512 + (y 0).val, by have := lt48 t; have : (y 0).val < 512 := (y 0).isLt; omega⟩ (y 1) : S24576x4608.Idx) := by
  obtain ⟨e0, e1⟩ := idx4 t
  refine funext fun (a : Fin 2) => Fin.ext ?_
  match a with
  | ⟨0, _⟩ => show win0_4.index t (0 : Fin 2) * 512 + 1 * (y 0).val = t.val * 512 + (y 0).val; omega
  | ⟨1, _⟩ => show win0_4.index t (1 : Fin 2) * 4608 + 1 * (y 1).val = (y 1).val; omega

/-- What a point writes back is its block of the result. -/
theorem flushed_eq (c : Dev nD) (t : Fin cfg0.N) :
    (dats m 0 c).flushed 4 t = ((cfg0.win 4).blk t).view.read (Elt Ideal) (res m c) := by
  funext y
  show _ = res m c (((cfg0.win 4).blk t).view.emb y)
  rw [emb4]
  by_cases h : t.val < 32
  · rw [flushed4_A m c t h (by omega), out_A]
    show block (iblk m c 0 t) (iblk m c 2 t) (iblk m c 3 t) y = _
    unfold block res G
    refine congr (congrArg₂ proj (funext fun k => ?_) (funext fun k => blk2 m c t k)) (funext fun k => blk3 m c t k (y 1))
    refine (blk0 m c t h (y 0) k).trans ?_
    unfold tok
    rw [dif_pos]
    · rfl
  · rw [flushed4_B m c t h (by omega), out_B]
    show block (iblk m c 1 t) (iblk m c 2 t) (iblk m c 3 t) y = _
    unfold block res G
    refine congr (congrArg₂ proj (funext fun k => ?_) (funext fun k => blk2 m c t k)) (funext fun k => blk3 m c t k (y 1))
    refine (blk1 m c t (by omega) (y 0) k).trans ?_
    unfold tok
    rw [dif_neg]
    · rfl
    show ¬ t.val * 512 + (y 0).val < 16384
    omega

/-- Every index of the result is in some point's block. -/
theorem covered (i : S24576x4608.Idx) :
    ∃ t : Fin cfg0.N, (cfg0.win 4).flush t = true ∧ i ∈ ((cfg0.win 4).blk t).view.set := by
  have hi : (i 0).val < 24576 := (i 0).isLt
  refine ⟨⟨(i 0).val / 512, by show _ < grid0.N; rw [N_0]; omega⟩, flush0_4 _, ?_⟩
  have h := ((cfg0.win 4).blk ⟨(i 0).val / 512, by show _ < grid0.N; rw [N_0]; omega⟩).view.emb_mem_set
    (ix2 ⟨(i 0).val % 512, Nat.mod_lt _ (by decide)⟩ (i 1) : S512x4608.Idx)
  rw [emb4] at h
  refine cast (congrArg (· ∈ _) ?_) h
  refine (congrArg₂ ix2 (Fin.ext ?_) rfl).trans (eq_ix2 i).symm
  show (i 0).val / 512 * 512 + (i 0).val % 512 = (i 0).val
  omega

theorem final (c : Dev nD) : (dats m 0 c).arrAt 4 cfg0.N = res m c :=
  (dats m 0 c).arrAt_eq_of_cover 4 (res m c) (fun t _ => flushed_eq m c t) covered

/-- The projection's run: the result's array ends at `res`, the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v9) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (run_blocks m ρ)

end Cert.Proof.InProj

end
-- ==== Proof.InProjRef.lean ====
/- The input projection's reference, read at an index. -/
module

public import proofs.«01_k».proof.Proof.Gen.Reference2Ideal.Run
public import proofs.«01_k».proof.Proof.InProjSpec

@[expose] public section

set_option maxRecDepth 400000

noncomputable section

namespace Cert.Proof.InProj

open Cert.Reference2Ideal Idealize.ShloMosaic Idealize.ShloMosaic.TcCoe Idealize.SL.Sem

/-- The reference's result at token `n` and column `j`. -/
theorem ref_apply (m : (ℓ : Loc nD τ sig) → Buf (Elt Ideal) ℓ) (c : Dev nD) (n : Fin 24576) (j : Fin 4608) :
    Cert.Reference2Ideal.Value.res_out0 m c (ix2 n j)
      = (proj (tok (m ((c.tc : Thread nD τ).loc main_arg0)) (m ((c.tc : Thread nD τ).loc main_arg1)) n)
          (fun k => m ((c.tc : Thread nD τ).loc main_arg2) (ix1 k))
          (fun k => m ((c.tc : Thread nD τ).loc main_arg3) (ix2 k (wcol j))) : EReal) := by
  pointwise [Cert.Reference2Ideal.Value.res_out0, Cert.Reference2Ideal.Value.res_main_v22]
  unfold proj normed tok
  by_cases h1 : j.val < 1024
  · rw [dif_pos h1]
    exact sum_col _ _ (by simp only [wcol]; split_ifs <;> omega)
  rw [dif_neg h1]
  by_cases h2 : j.val - 1024 < 1024
  · rw [dif_pos h2]
    exact sum_col _ _ (by simp only [wcol]; split_ifs <;> omega)
  rw [dif_neg h2]
  by_cases h3 : j.val - 1024 - 1024 < 1024
  · rw [dif_pos h3]
    exact sum_col _ _ (by simp only [wcol]; split_ifs <;> omega)
  rw [dif_neg h3]
  by_cases h4 : j.val - 1024 - 1024 - 1024 < 1024
  · rw [dif_pos h4]
    exact sum_col _ _ (by simp only [wcol]; split_ifs <;> omega)
  rw [dif_neg h4]
  by_cases h5 : j.val - 1024 - 1024 - 1024 - 1024 < 256
  · rw [dif_pos h5]
    exact sum_col _ _ (by simp only [wcol]; split_ifs <;> omega)
  rw [dif_neg h5]
  exact sum_col _ _ (by simp only [wcol]; split_ifs <;> omega)

end Cert.Proof.InProj

end
-- ==== Proof.MoeUpBody.lean ====
/-
  The experts' first call, one grid point: what the body leaves on each of its three ways — a used block whose expert is
  new (the weights are rounded into the scratches first), a used block of the same expert, and an unused block.
-/
module

public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.MoeUp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the two scratches the body is handed, whole. -/
abbrev tb0 : Memref sig .tc .smem S224 .i32 := Memref.whole main_arg1
abbrev tb1 : Memref sig .tc .smem S1 .i32 := Memref.whole main_arg2
abbrev sc0 : Memref sig .tc .vmem S2048x1024 .bf16 := Memref.whole cc0_scratch0
abbrev sc1 : Memref sig .tc .vmem S2048x1024 .bf16 := Memref.whole cc0_scratch1

/-- The number of used blocks, as the body reads it. -/
abbrev usedW (T1 : S1.Idx → Elt F .i32) : BitVec 32 :=
  (View.readAt (Elt F) (tb1).view (Rect.unit (s := S1) ![0] S1.size inb_S1_S1_0).toLoadRect T1 (Shape.Idx.first (numel1_S1.symm ▸ Nat.one_pos)))

/-- Whether the body takes the block's expert for a new one. -/
abbrev changedW (i : grid0.Coords) (T0 : S224.Idx → Elt F .i32) : BitVec 1 :=
  (Scalar.cmpi .ne (Scalar.extui (Scalar.ori (Scalar.cmpi .eq (BitVec.ofNat 32 (i 0).val) 0#32) (Scalar.cmpi .ne (View.readAt (Elt F) (tb0).view (Rect.unit (s := S224) (k0_off3 i) S1.size (k0_off3_inb i)).toLoadRect T0 (Shape.Idx.first (numel1_S1.symm ▸ Nat.one_pos))) (View.readAt (Elt F) (tb0).view (Rect.unit (s := S224) (k0_off2 i) S1.size (k0_off2_inb i)).toLoadRect T0 (Shape.Idx.first (numel1_S1.symm ▸ Nat.one_pos)))))) 0#32)

variable (c : Dev nD) (i : grid0.Coords) (arg3 : Memref sig .tc .vmem S256x2048 .f32) (harg3 : arg3.IsWhole) (arg4 : Memref sig .tc .vmem S1x2048x1024 .f32) (harg4 : arg4.IsWhole) (arg5 : Memref sig .tc .vmem S1x2048x1024 .f32) (harg5 : arg5.IsWhole) (arg6 : Memref sig .tc .vmem S256x1024 .bf16) (harg6 : arg6.IsWhole) (T0 : (S224.Idx → Elt F .i32)) (T1 : (S1.Idx → Elt F .i32))
  (x0 : (S256x2048.Idx → Elt F .f32)) (x1 : (S1x2048x1024.Idx → Elt F .f32)) (x2 : (S1x2048x1024.Idx → Elt F .f32))

set_option backward.proofsInPublic true in
set_option maxHeartbeats 8000000 in
/-- A used block of a new expert: the scratches are written whole, then the block. -/
noncomputable def runA  (k0_h1 : k0_cond1 i (usedW T1) = 1#1) (hc1 : changedW i T0 = 1#1) (k0_h3 : ¬(k0_cond3 i (usedW T1) = 1#1)) :
    Σ' (out0 : List (View.Piece (Elt F) S256x1024 .bf16)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tb0.view.loc (c : Thread nD τ) ↦{fullShare.right} T0)
          ∗ (tb1.view.loc (c : Thread nD τ) ↦{fullShare.right} T1)
          ∗ (∃ d, owns (c : Thread nD τ) arg6 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tb0.view.loc (c : Thread nD τ) ↦{fullShare.right} T0)
              ∗ (tb1.view.loc (c : Thread nD τ) ↦{fullShare.right} T1)
              ∗ (∃ f, arg6.view.loc (c : Thread nD τ) ↦[arg6.view.set]{fullShare} arg6.view.writes (Elt F) f out0)
              ∗ (sc0.view.loc (c : Thread nD τ) ↦{fullShare} out1)
              ∗ (sc1.view.loc (c : Thread nD τ) ↦{fullShare} out2)) -∗ K ⟨⟩))
          ⊢ wp frame (wpE (defs₀ (F := F)) Variants.none (c : Thread nD τ) none) Set.univ (cc0_moe_gate_up i tb0 (Memref.isWhole_whole _) tb1 (Memref.isWhole_whole _) arg3 harg3 arg4 harg4 arg5 harg5 arg6 harg6 sc0 (Memref.isWhole_whole _) sc1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_gate_up_eq_skeleton]; unfold cc0_moe_gate_up_skel
    iintro ⟨H0, H1, H2, HT0, HT1, ⟨%d3, %f3, -, HO3⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = k0_cond1 _ _ = _; exact k0_h1) | (exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Its pieces tile the block. -/
theorem coverA  (k0_h1 : k0_cond1 i (usedW T1) = 1#1) (hc1 : changedW i T0 = 1#1) (k0_h3 : ¬(k0_cond3 i (usedW T1) = 1#1)) (y : S256x1024.Idx) :
    ∃ pc ∈ (runA c i arg3 harg3 arg4 harg4 arg5 harg5 arg6 harg6 T0 T1 x0 x1 x2 k0_h1 hc1 k0_h3).1, y ∈ pc.1.set :=
  View.cover_of_tiledL (runA c i arg3 harg3 arg4 harg4 arg5 harg5 arg6 harg6 T0 T1 x0 x1 x2 k0_h1 hc1 k0_h3).1 S256x512.size (by sl_kernel_rfl) y

set_option backward.proofsInPublic true in
set_option maxHeartbeats 8000000 in
/-- A used block of the expert before: the scratches are read. -/
noncomputable def runB  (xa0 : Buf (Elt F) ((c : Thread nD τ).loc cc0_scratch0)) (xa1 : Buf (Elt F) ((c : Thread nD τ).loc cc0_scratch1)) (k0_h1 : k0_cond1 i (usedW T1) = 1#1) (hc1 : ¬(changedW i T0 = 1#1)) (k0_h3 : ¬(k0_cond3 i (usedW T1) = 1#1)) :
    Σ' (out0 : List (View.Piece (Elt F) S256x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tb0.view.loc (c : Thread nD τ) ↦{fullShare.right} T0)
          ∗ (tb1.view.loc (c : Thread nD τ) ↦{fullShare.right} T1)
          ∗ (∃ d, owns (c : Thread nD τ) arg6 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tb0.view.loc (c : Thread nD τ) ↦{fullShare.right} T0)
              ∗ (tb1.view.loc (c : Thread nD τ) ↦{fullShare.right} T1)
              ∗ (∃ f, arg6.view.loc (c : Thread nD τ) ↦[arg6.view.set]{fullShare} arg6.view.writes (Elt F) f out0)
              ∗ (sc0.view.loc (c : Thread nD τ) ↦{fullShare} out1)
              ∗ (sc1.view.loc (c : Thread nD τ) ↦{fullShare} out2)) -∗ K ⟨⟩))
          ⊢ wp frame (wpE (defs₀ (F := F)) Variants.none (c : Thread nD τ) none) Set.univ (cc0_moe_gate_up i tb0 (Memref.isWhole_whole _) tb1 (Memref.isWhole_whole _) arg3 harg3 arg4 harg4 arg5 harg5 arg6 harg6 sc0 (Memref.isWhole_whole _) sc1 (Memref.isWhole_whole _)) K } :=
  ⟨_, _, _, fun K => by
    unfold owns
    rw [cc0_moe_gate_up_eq_skeleton]; unfold cc0_moe_gate_up_skel
    iintro ⟨H0, H1, H2, HT0, HT1, ⟨%d3, %f3, -, HO3⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = k0_cond1 _ _ = _; exact k0_h1) | (exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Its pieces tile the block. -/
theorem coverB  (xa0 : Buf (Elt F) ((c : Thread nD τ).loc cc0_scratch0)) (xa1 : Buf (Elt F) ((c : Thread nD τ).loc cc0_scratch1)) (k0_h1 : k0_cond1 i (usedW T1) = 1#1) (hc1 : ¬(changedW i T0 = 1#1)) (k0_h3 : ¬(k0_cond3 i (usedW T1) = 1#1)) (y : S256x1024.Idx) :
    ∃ pc ∈ (runB c i arg3 harg3 arg4 harg4 arg5 harg5 arg6 harg6 T0 T1 x0 x1 x2 xa0 xa1 k0_h1 hc1 k0_h3).1, y ∈ pc.1.set :=
  View.cover_of_tiledL (runB c i arg3 harg3 arg4 harg4 arg5 harg5 arg6 harg6 T0 T1 x0 x1 x2 xa0 xa1 k0_h1 hc1 k0_h3).1 S256x512.size (by sl_kernel_rfl) y

set_option backward.proofsInPublic true in
set_option maxHeartbeats 8000000 in
/-- An unused block: zeros. -/
noncomputable def runC  (xa0 : Buf (Elt F) ((c : Thread nD τ).loc cc0_scratch0)) (xa1 : Buf (Elt F) ((c : Thread nD τ).loc cc0_scratch1)) (k0_h1 : ¬(k0_cond1 i (usedW T1) = 1#1)) (k0_h3 : k0_cond3 i (usedW T1) = 1#1) :
    Σ' (out0 : List (View.Piece (Elt F) S256x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tb0.view.loc (c : Thread nD τ) ↦{fullShare.right} T0)
          ∗ (tb1.view.loc (c : Thread nD τ) ↦{fullShare.right} T1)
          ∗ (∃ d, owns (c : Thread nD τ) arg6 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tb0.view.loc (c : Thread nD τ) ↦{fullShare.right} T0)
              ∗ (tb1.view.loc (c : Thread nD τ) ↦{fullShare.right} T1)
              ∗ (∃ f, arg6.view.loc (c : Thread nD τ) ↦[arg6.view.set]{fullShare} arg6.view.writes (Elt F) f out0)
              ∗ (sc0.view.loc (c : Thread nD τ) ↦{fullShare} out1)
              ∗ (sc1.view.loc (c : Thread nD τ) ↦{fullShare} out2)) -∗ K ⟨⟩))
          ⊢ wp frame (wpE (defs₀ (F := F)) Variants.none (c : Thread nD τ) none) Set.univ (cc0_moe_gate_up i tb0 (Memref.isWhole_whole _) tb1 (Memref.isWhole_whole _) arg3 harg3 arg4 harg4 arg5 harg5 arg6 harg6 sc0 (Memref.isWhole_whole _) sc1 (Memref.isWhole_whole _)) K } :=
  ⟨_, _, _, fun K => by
    unfold owns
    rw [cc0_moe_gate_up_eq_skeleton]; unfold cc0_moe_gate_up_skel
    iintro ⟨H0, H1, H2, HT0, HT1, ⟨%d3, %f3, -, HO3⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Its piece is the block. -/
theorem coverC  (xa0 : Buf (Elt F) ((c : Thread nD τ).loc cc0_scratch0)) (xa1 : Buf (Elt F) ((c : Thread nD τ).loc cc0_scratch1)) (k0_h1 : ¬(k0_cond1 i (usedW T1) = 1#1)) (k0_h3 : k0_cond3 i (usedW T1) = 1#1) (y : S256x1024.Idx) :
    ∃ pc ∈ (runC c i arg3 harg3 arg4 harg4 arg5 harg5 arg6 harg6 T0 T1 x0 x1 x2 xa0 xa1 k0_h1 k0_h3).1, y ∈ pc.1.set :=
  View.cover_of_tiledL (runC c i arg3 harg3 arg4 harg4 arg5 harg5 arg6 harg6 T0 T1 x0 x1 x2 xa0 xa1 k0_h1 k0_h3).1 S256x1024.size (by sl_kernel_rfl) y

end Cert.Proof.MoeUp

end
-- ==== Proof.MoeUpRuns.lean ====
/-
  What the three ways leave, in terms of the rounded weights: the scratches the weights' rounding, the block the gated
  product of the rows with them, or zeros.
-/
module

public import proofs.«01_k».proof.Proof.MoeUpBody
public import Idealize.ShloMosaic.Lib.Pipeline.Value

@[expose] public section

set_option maxRecDepth 16384

noncomputable section

namespace Cert.Proof.MoeUp

open Cert.Kernel3Ideal Cert.Kernel3Ideal.Gen
open Idealize.ShloMosaic Idealize.ShloMosaic.TcCoe

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- An expert's weights, rounded. -/
def rnd (w : S1x2048x1024.Idx → Elt F .f32) : S2048x1024.Idx → Elt F .bf16 := k0_pay3 w

/-- The block's two halves of columns, last first. -/
def pieces (x : S256x2048.Idx → Elt F .f32) (a b : S2048x1024.Idx → Elt F .bf16) : List (View.Piece (Elt F) S256x1024 .bf16) :=
  [⟨Rect.unit ![0, 512] S256x512.size inb_S256x1024_S256x512_0_512,
      k0_pay6 x (View.ld a (Rect.unit ![0, 512] S2048x512.size inb_S2048x1024_S2048x512_0_512)) (View.ld b (Rect.unit ![0, 512] S2048x512.size inb_S2048x1024_S2048x512_0_512))⟩,
   ⟨Rect.unit ![0, 0] S256x512.size inb_S256x1024_S256x512_0_0,
      k0_pay6 x (View.ld a (Rect.unit ![0, 0] S2048x512.size inb_S2048x1024_S2048x512_0_0)) (View.ld b (Rect.unit ![0, 0] S2048x512.size inb_S2048x1024_S2048x512_0_0))⟩]

/-- A used block. -/
def blk (x : S256x2048.Idx → Elt F .f32) (a b : S2048x1024.Idx → Elt F .bf16) : S256x1024.Idx → Elt F .bf16 := View.canon (pieces x a b)

/-- The second half's store, its products named one by one, is the first half's text. -/
theorem pay1_eq (x : S256x2048.Idx → Elt F .f32) (a b : S2048x512.Idx → Elt F .bf16) :
    k0_pay1 (k0_pay7 x a) (k0_pay8 x b) (k0_pay9 x a) = k0_pay6 x a b := rfl

/-- A whole scratch, stored whole. -/
theorem whole_store {s : Shape} {e : EltTy} (v : View sig .tc .vmem s e) (f : v.ty.Contents (Elt F)) {off : Fin s.rank → ℕ} (h : off = fun _ => 0)
    (inb : ∀ a, off a + s.size a ≤ s.size a) (w : s.Idx → Elt F e) : v.read (Elt F) (v.writes (Elt F) f [⟨Rect.unit off s.size inb, w⟩]) = w := by
  subst h
  exact View.read_writes_whole v f w

theorem rd0 (v : View sig .tc .vmem S256x2048 .f32) (x : S256x2048.Idx → Elt F .f32) :
    View.readAt (Elt F) v (Rect.unit (s := S256x2048) ![0, 0] S256x2048.size inb_S256x2048_S256x2048_0_0).toLoadRect (v.rep x) = x := by
  rw [View.readAt_eq_ld, View.read_rep, View.ld_unit_zero z2]

theorem rd1 (v : View sig .tc .vmem S1x2048x1024 .f32) (x : S1x2048x1024.Idx → Elt F .f32) :
    View.readAt (Elt F) v (Rect.unit (s := S1x2048x1024) ![0, 0, 0] S1x2048x1024.size inb_S1x2048x1024_S1x2048x1024_0_0_0).toLoadRect (v.rep x) = x := by
  rw [View.readAt_eq_ld, View.read_rep, View.ld_unit_zero z3]

variable (c : Dev nD) (i : grid0.Coords) (arg3 : Memref sig .tc .vmem S256x2048 .f32) (harg3 : arg3.IsWhole) (arg4 : Memref sig .tc .vmem S1x2048x1024 .f32) (harg4 : arg4.IsWhole) (arg5 : Memref sig .tc .vmem S1x2048x1024 .f32) (harg5 : arg5.IsWhole) (arg6 : Memref sig .tc .vmem S256x1024 .bf16) (harg6 : arg6.IsWhole) (T0 : (S224.Idx → Elt F .i32)) (T1 : (S1.Idx → Elt F .i32))
  (x0 : (S256x2048.Idx → Elt F .f32)) (x1 : (S1x2048x1024.Idx → Elt F .f32)) (x2 : (S1x2048x1024.Idx → Elt F .f32))

theorem scr0 (w : S2048x1024.Idx → Elt F .bf16) (f) : (View.whole cc0_scratch0).writes (Elt F) f [⟨Rect.unit (s := S2048x1024) ![0, 0] S2048x1024.size inb_S2048x1024_S2048x1024_0_0, w⟩] = w :=
  by
  have h := whole_store (View.whole cc0_scratch0) f z2 inb_S2048x1024_S2048x1024_0_0 w
  rw [View.read_whole] at h
  exact h

theorem scr1 (w : S2048x1024.Idx → Elt F .bf16) (f) : (View.whole cc0_scratch1).writes (Elt F) f [⟨Rect.unit (s := S2048x1024) ![0, 0] S2048x1024.size inb_S2048x1024_S2048x1024_0_0, w⟩] = w :=
  by
  have h := whole_store (View.whole cc0_scratch1) f z2 inb_S2048x1024_S2048x1024_0_0 w
  rw [View.read_whole] at h
  exact h

theorem runA_scr0 (h1 h2 h3) : (runA c i arg3 harg3 arg4 harg4 arg5 harg5 arg6 harg6 T0 T1 x0 x1 x2 h1 h2 h3).2.1 = rnd x1 := by
  unfold runA rnd
  dsimp only
  delta runA.sl.HS0_1
  exact (scr0 _ _).trans (by rw [rd1])

theorem runA_scr1 (h1 h2 h3) : (runA c i arg3 harg3 arg4 harg4 arg5 harg5 arg6 harg6 T0 T1 x0 x1 x2 h1 h2 h3).2.2.1 = rnd x2 := by
  unfold runA rnd
  dsimp only
  delta runA.sl.HS1_1
  exact (scr1 _ _).trans (by rw [rd1]; rfl)

theorem covA0 (r : Rect S2048x1024) : sc0.view.readCov (runA.sl.HS0_1 arg4 x1) r.toLoadRect = View.ld (rnd x1) r := by
  have h : (View.whole cc0_scratch0).writes (Elt F) (View.whole cc0_scratch0).junk (runA.sl.HS0_1 arg4 x1) = rnd x1 := by
    delta runA.sl.HS0_1
    exact (scr0 _ _).trans (by rw [rd1]; rfl)
  exact (View.readAt_eq_ld _ _ _).trans (congrArg (fun f => View.ld f r) ((View.read_whole _ _).trans h))

theorem covA1 (r : Rect S2048x1024) : sc1.view.readCov (runA.sl.HS1_1 arg5 x2) r.toLoadRect = View.ld (rnd x2) r := by
  have h : (View.whole cc0_scratch1).writes (Elt F) (View.whole cc0_scratch1).junk (runA.sl.HS1_1 arg5 x2) = rnd x2 := by
    delta runA.sl.HS1_1
    exact (scr1 _ _).trans (by rw [rd1]; rfl)
  exact (View.readAt_eq_ld _ _ _).trans (congrArg (fun f => View.ld f r) ((View.read_whole _ _).trans h))

theorem runA_out (h1 h2 h3) : (runA c i arg3 harg3 arg4 harg4 arg5 harg5 arg6 harg6 T0 T1 x0 x1 x2 h1 h2 h3).1 = pieces x0 (rnd x1) (rnd x2) := by
  unfold runA pieces
  dsimp only
  delta runA.sl.HO3_2 runA.sl.r_3 runA.sl.r_4 runA.sl.r_5 runA.sl.v21 runA.sl.v23 runA.sl.v36 runA.sl.v38
  rw [rd0, covA0, covA0, covA1, covA1, pay1_eq]

theorem runB_out (xa0 xa1) (h1 h2 h3) : (runB c i arg3 harg3 arg4 harg4 arg5 harg5 arg6 harg6 T0 T1 x0 x1 x2 xa0 xa1 h1 h2 h3).1 = pieces x0 xa0 xa1 := by
  unfold runB pieces
  dsimp only
  delta runB.sl.HO3_2 runB.sl.r_3 runB.sl.r_4 runB.sl.r_5
  rw [rd0, pay1_eq]
  rfl

theorem runC_out (xa0 xa1) (h1 h3) : View.canon (runC c i arg3 harg3 arg4 harg4 arg5 harg5 arg6 harg6 T0 T1 x0 x1 x2 xa0 xa1 h1 h3).1 = k0_pay2 := by
  unfold runC
  dsimp only
  delta runC.sl.HO3_1
  exact View.canon_cons_unit_zero z2 _ _ _

end Cert.Proof.MoeUp

end
-- ==== Proof.MoeUpPoints.lean ====
/-
  The points of the experts' first call, for any tables its grid runs at: which blocks are used, when the expert changes,
  and the blocks of the arrays a point is handed.
-/
module

public import proofs.«01_k».proof.Proof.MoeUpRuns
public import proofs.«01_k».proof.Proof.Pre

@[expose] public section

set_option maxRecDepth 16384

noncomputable section

namespace Cert.Proof.MoeUp

open Cert.Kernel3Ideal Cert.Kernel3Ideal.Gen
open Idealize.ShloMosaic Idealize.ShloMosaic.TcCoe
open Cert.Proof.Dispatch (slt_one sge_one sle_one toInt_nat)

variable {F : FTy → Type} [FloatOps F]

/-! ## Words -/

theorem flag (b : BitVec 1) : Scalar.cmpi .ne (Scalar.extui b : BitVec 32) 0#32 = 1#1 ↔ b = 1#1 := by
  rcases BitVec.eq_zero_or_eq_one b with rfl | rfl <;> decide
theorem or_one (a b : BitVec 1) : Scalar.ori a b = 1#1 ↔ a = 1#1 ∨ b = 1#1 := by
  rcases BitVec.eq_zero_or_eq_one a with rfl | rfl <;> rcases BitVec.eq_zero_or_eq_one b with rfl | rfl <;> decide
theorem eq_one (a b : BitVec 32) : Scalar.cmpi .eq a b = 1#1 ↔ a = b := by
  by_cases h : a = b
  · simp [IntOp.cmpi, Scalar.cmpi, h]
  · simp [IntOp.cmpi, Scalar.cmpi, beq_eq_false_iff_ne.2 h, h]
theorem ne_one (a b : BitVec 32) : Scalar.cmpi .ne a b = 1#1 ↔ a ≠ b := by
  by_cases h : a = b
  · simp [IntOp.cmpi, Scalar.cmpi, h]
  · simp [IntOp.cmpi, Scalar.cmpi, bne_iff_ne.2 h, h]

theorem small (i : grid0.Coords) : (BitVec.ofNat 32 (i 0).val).toInt = ((i 0).val : Int) := by
  have hi : (i 0).val < 224 := (i 0).isLt
  rw [BitVec.toInt_eq_toNat_cond, BitVec.toNat_ofNat, Nat.mod_eq_of_lt (by omega), if_pos (by omega)]

/-- A block is used when its number is below the number of used ones. -/
theorem used_iff (i : grid0.Coords) (w : BitVec 32) : k0_cond1 i w = 1#1 ↔ ((i 0).val : Int) < w.toInt := by
  rw [← small i]; exact (flag _).trans slt_one
theorem unused_iff (i : grid0.Coords) (w : BitVec 32) : k0_cond3 i w = 1#1 ↔ w.toInt ≤ ((i 0).val : Int) := by
  rw [← small i]; exact (flag _).trans sge_one

theorem one_way (i : grid0.Coords) (w : BitVec 32) : (!(k0_cond1 i w == 1#1) && !(k0_cond3 i w == 1#1)) = false := by
  by_cases h : k0_cond1 i w = 1#1
  · simp [h]
  · have h' : k0_cond3 i w = 1#1 := (unused_iff i w).2 (by have := mt (used_iff i w).2 h; omega)
    simp [h']

/-! ## The tables' words at a point -/

theorem k0_off2_eq : ∀ i : grid0.Coords, k0_off2 i = ![(i 0).val - 1] := by decide +kernel

/-- The table's index of block `n`. -/
def ixT (n : Fin 224) : S224.Idx := fun a => match a with
  | ⟨0, _⟩ => n
def ixO : S1.Idx := fun a => match a with
  | ⟨0, _⟩ => ⟨0, Nat.one_pos⟩

theorem one_idx (x : S1.Idx) : x = ixO := by
  funext a
  match a with
  | ⟨0, _⟩ => exact Fin.ext (by have : (x 0).val < 1 := (x 0).isLt; show (x 0).val = 0; omega)

theorem usedW_eq (T1 : S1.Idx → Elt F .i32) : usedW T1 = T1 ixO := congrArg T1 (one_idx _)

theorem word_eq (T0 : S224.Idx → Elt F .i32) (off : Fin 1 → ℕ) (inb : ∀ a, off a + S1.size a ≤ S224.size a) (n : Fin 224) (h : off = ![n.val]) :
    View.readAt (Elt F) (tb0).view (Rect.unit (s := S224) off S1.size inb).toLoadRect T0 (Shape.Idx.first (numel1_S1.symm ▸ Nat.one_pos)) = T0 (ixT n) := by
  subst h
  refine congrArg T0 ?_
  funext a
  match a with
  | ⟨0, _⟩ =>
    apply Fin.ext
    have : ((Shape.Idx.first (s := S1) (numel1_S1.symm ▸ Nat.one_pos)) 0).val < 1 := ((Shape.Idx.first (s := S1) (numel1_S1.symm ▸ Nat.one_pos)) 0).isLt
    show n.val + 1 * ((Shape.Idx.first (s := S1) (numel1_S1.symm ▸ Nat.one_pos)) 0).val = n.val
    omega

theorem changed_not (i : grid0.Coords) (T0 : S224.Idx → Elt F .i32) (h : ¬ changedW i T0 = 1#1) :
    (i 0).val ≠ 0 ∧ ∀ n : Fin 224, n.val = (i 0).val - 1 → T0 (ixT (i 0)) = T0 (ixT n) := by
  have hi : (i 0).val < 224 := (i 0).isLt
  have h' : ¬ Scalar.ori _ _ = 1#1 := fun e => h ((flag _).2 e)
  rw [or_one, not_or, eq_one, ne_one, not_not] at h'
  refine ⟨fun h0 => h'.1 (by rw [h0]), fun n hn => ?_⟩
  have h2 := h'.2
  rw [word_eq T0 _ _ (i 0) (k0_off3_eq i), word_eq T0 _ _ n (by rw [k0_off2_eq i, hn])] at h2
  exact h2

/-! ## The arrays' blocks at a point -/

variable (a : (pcfg0 (F := F)).Adm) (m : (ℓ : Loc nD τ sig) → Buf (Elt F) ℓ)

abbrev cfgA : Pipeline.Cfg sig Λ₀ := cfg0 (F := F) a
abbrev T0 : S224.Idx → Elt F .i32 := a.1 0
abbrev T1 : S1.Idx → Elt F .i32 := a.1 1
abbrev crd (t : Fin (cfgA a).N) : grid0.Coords := grid0.coords t

theorem coord_val : ∀ t : Fin grid0.N, (grid0.coords t 0).val = t.val := by decide +kernel

/-- Window `w`'s block at point `t`. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- Row `y` of block `n` of the rows, and of expert `n`'s weights. -/
def ixX (n : ℕ) (y : S256x2048.Idx) : S57344x2048.Idx := fun b => match b with
  | ⟨0, _⟩ => Ring.bk 57344 (256 * n + (y 0).val)
  | ⟨1, _⟩ => y 1
def ixW (n : ℕ) (y : S1x2048x1024.Idx) : S32x2048x1024.Idx := fun b => match b with
  | ⟨0, _⟩ => Ring.bk 32 n
  | ⟨1, _⟩ => y 1
  | ⟨2, _⟩ => y 2

/-- The expert of a point's block, and that there is one. -/
abbrev exp (t : Fin (cfgA a).N) : ℕ := BitVec.toNat (T0 a (ixT (crd a t 0)))

theorem at_word (i : grid0.Coords) (inb) : a.1.at 0 (Rect.unit (s := S224) ![(Scalar.indexCast (BitVec.ofNat 32 (i 0).val)).toNat] S1.size inb) numel1_S1 = T0 a (ixT (i 0)) :=
  word_eq (T0 a) _ _ (i 0) (k0_off1_eq i)

theorem idx1 (i : grid0.Coords) : cc0_transform_1 k0_off1_inb numel1_S1 a.1 i = ![BitVec.toNat (T0 a (ixT (i 0))), 0, 0] := by
  exact congrArg (fun w : BitVec 32 => ![w.toNat, 0, 0]) (at_word a i (k0_off1_inb i))
theorem idx2 (i : grid0.Coords) : cc0_transform_2 k0_off1_inb numel1_S1 a.1 i = ![BitVec.toNat (T0 a (ixT (i 0))), 0, 0] := idx1 a i

theorem exp_lt (t : Fin (cfgA a).N) : exp a t < 32 := by
  obtain ⟨h, -⟩ := a.2.2.1 (crd a t)
  have h0 := h 0
  rw [idx1] at h0
  have h1 : (BitVec.toNat (T0 a (ixT (crd a t 0))) + 1) * 1 ≤ 32 := h0
  show BitVec.toNat (T0 a (ixT (crd a t 0))) < 32
  omega

theorem iblk1_at (c : Dev nD) (t : Fin (cfgA a).N) (y : S1x2048x1024.Idx) :
    iblk a m c (1 : Fin 4) t y = m ((c : Thread nD τ).loc main_arg3) (ixW (exp a t) y) := by
  unfold iblk
  show m ((c : Thread nD τ).loc main_arg3) ((((cfgA a).win (1 : Fin 4)).blk t).view.emb y) = _
  refine congrArg (m ((c : Thread nD τ).loc main_arg3)) ?_
  have he := exp_lt a t
  have hi := idx1 a (crd a t)
  have hy : (y 0).val < 1 := (y 0).isLt
  funext b
  match b with
  | ⟨0, _⟩ =>
    apply Fin.ext
    show cc0_transform_1 k0_off1_inb numel1_S1 a.1 (crd a t) 0 * 1 + 1 * (y 0).val = (Ring.bk 32 (exp a t)).val
    rw [hi, Ring.bk_val he]
    show exp a t * 1 + 1 * (y 0).val = exp a t
    omega
  | ⟨1, _⟩ =>
    apply Fin.ext
    show cc0_transform_1 k0_off1_inb numel1_S1 a.1 (crd a t) 1 * 2048 + 1 * (y 1).val = (y 1).val
    rw [hi]
    show 0 * 2048 + 1 * (y 1).val = (y 1).val
    omega
  | ⟨2, _⟩ =>
    apply Fin.ext
    show cc0_transform_1 k0_off1_inb numel1_S1 a.1 (crd a t) 2 * 1024 + 1 * (y 2).val = (y 2).val
    rw [hi]
    show 0 * 1024 + 1 * (y 2).val = (y 2).val
    omega

theorem iblk2_at (c : Dev nD) (t : Fin (cfgA a).N) (y : S1x2048x1024.Idx) :
    iblk a m c (2 : Fin 4) t y = m ((c : Thread nD τ).loc main_arg4) (ixW (exp a t) y) := by
  unfold iblk
  show m ((c : Thread nD τ).loc main_arg4) ((((cfgA a).win (2 : Fin 4)).blk t).view.emb y) = _
  refine congrArg (m ((c : Thread nD τ).loc main_arg4)) ?_
  have he := exp_lt a t
  have hi := idx2 a (crd a t)
  have hy : (y 0).val < 1 := (y 0).isLt
  funext b
  match b with
  | ⟨0, _⟩ =>
    apply Fin.ext
    show cc0_transform_2 k0_off1_inb numel1_S1 a.1 (crd a t) 0 * 1 + 1 * (y 0).val = (Ring.bk 32 (exp a t)).val
    rw [hi, Ring.bk_val he]
    show exp a t * 1 + 1 * (y 0).val = exp a t
    omega
  | ⟨1, _⟩ =>
    apply Fin.ext
    show cc0_transform_2 k0_off1_inb numel1_S1 a.1 (crd a t) 1 * 2048 + 1 * (y 1).val = (y 1).val
    rw [hi]
    show 0 * 2048 + 1 * (y 1).val = (y 1).val
    omega
  | ⟨2, _⟩ =>
    apply Fin.ext
    show cc0_transform_2 k0_off1_inb numel1_S1 a.1 (crd a t) 2 * 1024 + 1 * (y 2).val = (y 2).val
    rw [hi]
    show 0 * 1024 + 1 * (y 2).val = (y 2).val
    omega

/-- Two points of one expert are handed the same weights. -/
theorem iblk1_same (c : Dev nD) (t t' : Fin (cfgA a).N) (h : T0 a (ixT (crd a t 0)) = T0 a (ixT (crd a t' 0))) :
    (iblk a m c (1 : Fin 4) t : S1x2048x1024.Idx → Elt F .f32) = iblk a m c (1 : Fin 4) t' :=
  funext fun y => (iblk1_at a m c t y).trans ((congrArg (fun w : BitVec 32 => m ((c : Thread nD τ).loc main_arg3) (ixW w.toNat y)) h).trans (iblk1_at a m c t' y).symm)
theorem iblk2_same (c : Dev nD) (t t' : Fin (cfgA a).N) (h : T0 a (ixT (crd a t 0)) = T0 a (ixT (crd a t' 0))) :
    (iblk a m c (2 : Fin 4) t : S1x2048x1024.Idx → Elt F .f32) = iblk a m c (2 : Fin 4) t' :=
  funext fun y => (iblk2_at a m c t y).trans ((congrArg (fun w : BitVec 32 => m ((c : Thread nD τ).loc main_arg4) (ixW w.toNat y)) h).trans (iblk2_at a m c t' y).symm)

theorem idle3 (t : Fin (cfgA a).N) : (cfgA a).idle (3 : Fin 4) ((cfgA a).grid.coords t) = false := one_way _ _

theorem index_step : ∀ t : Fin grid0.N, t.val + 1 = grid0.N ∨ ∃ h : t.val + 1 < grid0.N, cc0_transform_3 (grid0.coords ⟨t.val + 1, h⟩) 0 ≠ cc0_transform_3 (grid0.coords t) 0 := by
  decide +kernel
theorem flush3 (t : Fin (cfgA a).N) : ((cfgA a).win (3 : Fin 4)).flush t = true := by
  rw [Pipeline.Window.flush_eq_flushF]
  unfold Pipeline.Window.flushF
  have h := index_step t
  rw [Bool.and_eq_true]
  refine ⟨rfl, ?_⟩
  rw [Bool.or_eq_true, decide_eq_true_eq, decide_eq_true_eq]
  rcases h with h | ⟨h, h'⟩
  · exact .inl h
  · exact .inr ⟨h, (0 : Fin 2), h'⟩

end Cert.Proof.MoeUp

end
-- ==== Proof.MoeUpLaunch.lean ====
/-
  The experts' first call: the grid's points in order, and the launch, for any float values and any tables.
-/
module

public import proofs.«01_k».proof.Proof.MoeUpPoints

@[expose] public section

set_option maxRecDepth 16384
set_option Elab.async false

noncomputable section

namespace Cert.Proof.MoeUp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra. -/
abbrev EP : Emb (UR sig nD τ) 𝕄 := emb₁

variable (a : (pcfg0 (F := F)).Adm) (m : (ℓ : Loc nD τ sig) → Buf (Elt F) ℓ) (ρ : Dev nD → PrngReg)

/-! ## The points' staging buffers -/

abbrev ms0 (t : Fin (cfgA a).N) : Memref sig .tc .vmem S256x2048 .f32 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1024 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x1024 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S256x1024 .bf16 := spec0_3.stage ((cfgA a).slots t (3 : Fin 4))
abbrev hs3 (t : Fin (cfgA a).N) : (ms3 a t).IsWhole := hstage0_3 (((cfgA a).slots t (3 : Fin 4)).cast nbuf0_3)

/-! ## What is kept between points -/

/-- Point `t`'s block is used. -/
abbrev Used (t : Fin (cfgA a).N) : Prop := k0_cond1 (crd a t) (usedW (T1 a)) = 1#1

/-- A point's expert's weights, rounded. -/
def rw1 (c : Dev nD) (t : Fin (cfgA a).N) : S2048x1024.Idx → Elt F .bf16 := rnd (iblk a m c (1 : Fin 4) t)
def rw2 (c : Dev nD) (t : Fin (cfgA a).N) : S2048x1024.Idx → Elt F .bf16 := rnd (iblk a m c (2 : Fin 4) t)

open Classical in
/-- The block of the result at a point. -/
def outB (c : Dev nD) (t : Fin (cfgA a).N) : S256x1024.Idx → Elt F .bf16 :=
  if Used a t then blk (iblk a m c (0 : Fin 4) t) (rw1 a m c t) (rw2 a m c t) else k0_pay2

/-- Before position `n`: after a used point the scratches hold its expert's weights, rounded. -/
def Phi (c : Dev nD) (n : ℕ) : sProp 𝕄 :=
  iprop((∃ v, ⌜∀ s : Fin (cfgA a).N, s.val + 1 = n → Used a s → v = rw1 a m c s⌝ ∗ (sc0.view.loc (c : Thread nD τ) ↦{fullShare} v))
    ∗ (∃ v, ⌜∀ s : Fin (cfgA a).N, s.val + 1 = n → Used a s → v = rw2 a m c s⌝ ∗ (sc1.view.loc (c : Thread nD τ) ↦{fullShare} v))
    ∗ (tb0.view.loc (c : Thread nD τ) ↦{fullShare.right} T0 a) ∗ (tb1.view.loc (c : Thread nD τ) ↦{fullShare.right} T1 a))

/-- The proof data of the one pipeline. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => outB a m c t
  Φ t := Phi a m c t.val
  q _ := fullShare
  owed _ := 0

theorem after0 (c : Dev nD) (t : Fin (cfgA a).N) : (dats a m 0 c).after (0 : Fin 4) t = iblk a m c (0 : Fin 4) t := rfl
theorem after1 (c : Dev nD) (t : Fin (cfgA a).N) : (dats a m 0 c).after (1 : Fin 4) t = iblk a m c (1 : Fin 4) t := rfl
theorem after2 (c : Dev nD) (t : Fin (cfgA a).N) : (dats a m 0 c).after (2 : Fin 4) t = iblk a m c (2 : Fin 4) t := rfl
theorem after3 (c : Dev nD) (t : Fin (cfgA a).N) : (dats a m 0 c).after (3 : Fin 4) t = outB a m c t := rfl

theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after2]; unfold Dat.blockOf iblk; rfl) t d).trans
    (by unfold Dat.fetched Dat.blockOf iblk; rfl)

/-- A used point of the expert before: the point before is used, of the same weights. -/
theorem before_same (c : Dev nD) (t : Fin (cfgA a).N) (hu : Used a t) (hc : ¬ changedW (crd a t) (T0 a) = 1#1) :
    ∃ s : Fin (cfgA a).N, s.val + 1 = t.val ∧ Used a s ∧ rw1 a m c s = rw1 a m c t ∧ rw2 a m c s = rw2 a m c t := by
  obtain ⟨h0, hn⟩ := changed_not (crd a t) (T0 a) hc
  have ht := coord_val t
  have hlt : t.val - 1 < (cfgA a).N := lt_of_le_of_lt (Nat.sub_le _ _) t.isLt
  have hs := coord_val ⟨t.val - 1, hlt⟩
  have hs' : (grid0.coords ⟨t.val - 1, hlt⟩ 0).val = t.val - 1 := hs
  have hs1 : (crd a ⟨t.val - 1, hlt⟩ 0).val = (crd a t 0).val - 1 := by
    show (grid0.coords ⟨t.val - 1, hlt⟩ 0).val = (grid0.coords t 0).val - 1
    omega
  have h00 : (grid0.coords t 0).val ≠ 0 := h0
  have e : T0 a (ixT (crd a ⟨t.val - 1, hlt⟩ 0)) = T0 a (ixT (crd a t 0)) := (hn (crd a ⟨t.val - 1, hlt⟩ 0) hs1).symm
  refine ⟨⟨t.val - 1, hlt⟩, by show t.val - 1 + 1 = t.val; omega, (used_iff _ _).2 ?_, congrArg rnd (iblk1_same a m c _ t e), congrArg rnd (iblk2_same a m c _ t e)⟩
  have hu' := (used_iff (crd a t) _).1 hu
  have : (((crd a ⟨t.val - 1, hlt⟩ 0).val : ℕ) : Int) ≤ ((crd a t 0).val : Int) := by rw [hs1]; omega
  omega

/-! ## The body at a point -/

/-- The body at point `t` on its staging buffers. -/
abbrev bodyAt (t : Fin (cfgA a).N) : Prog (TpuEff nD τ sig (Elt F) Λ₀ .tc) PUnit :=
  cc0_moe_gate_up (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (Memref.whole cc0_scratch0) (Memref.isWhole_whole _) (Memref.whole cc0_scratch1) (Memref.isWhole_whole _)

set_option maxHeartbeats 4000000 in
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 4) t d))
        ∗ (∃ d, owns (c : Thread nD τ) (ms1 a t) fullShare ((dats a m 0 c).before (1 : Fin 4) t d))
        ∗ (∃ d, owns (c : Thread nD τ) (ms2 a t) fullShare ((dats a m 0 c).before (2 : Fin 4) t d))
        ∗ (∃ d, owns (c : Thread nD τ) (ms3 a t) fullShare ((dats a m 0 c).before (3 : Fin 4) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle3 a t]
  simp only [before0, before1, before2, after0, after1, after2, after3]
  rewrite [show (dats a m 0 c).Φ t.succ = Phi a m c (t.val + 1) from rfl, show (dats a m 0 c).Φ t.castSucc = Phi a m c t.val from rfl,
    show (dats a m 0 c).owesAt () t.succ = (dats a m 0 c).owesAt () t.castSucc from rfl]
  unfold Phi
  by_cases k0_h1 : Used a t
  · have k0_h3 : ¬ (k0_cond3 (crd a t) (usedW (T1 a)) = 1#1) := fun h => by
      have h1 := (used_iff _ _).1 k0_h1
      have h3 := (unused_iff _ _).1 h
      omega
    by_cases hc1 : changedW (crd a t) (T0 a) = 1#1
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((runA c (crd a t) (ms0 a t) (hs0 a t) (ms1 a t) (hs1 a t) (ms2 a t) (hs2 a t) (ms3 a t) (hs3 a t) (T0 a) (T1 a) (iblk a m c (0 : Fin 4) t) (iblk a m c (1 : Fin 4) t) (iblk a m c (2 : Fin 4) t) k0_h1 hc1 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs hu
            obtain rfl : s = t := Fin.ext (by omega)
            exact runA_scr0 _ _ _ _ _ _ _ _ _ _ _ _ _ _ _ _ _ _
        isplitl [HS1]
        · iexists _; isplitr; swap
          · iexact HS1
          · ipureintro; intro s hs hu
            obtain rfl : s = t := Fin.ext (by omega)
            exact runA_scr1 _ _ _ _ _ _ _ _ _ _ _ _ _ _ _ _ _ _
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (View.read_writes_eq_canon _ _ _ (coverA c _ _ _ _ _ _ _ _ _ _ _ _ _ _ _ _ _)).trans ?_
        rw [runA_out]
        unfold outB
        rw [if_pos k0_h1]
        rfl
    · obtain ⟨s, hs, hus, e1, e2⟩ := before_same a m c t k0_h1 hc1
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have g0 : a0 = rw1 a m c t := (ha0 s hs hus).trans e1
      have g1 : a1 = rw2 a m c t := (ha1 s hs hus).trans e2
      iapply ((runB c (crd a t) (ms0 a t) (hs0 a t) (ms1 a t) (hs1 a t) (ms2 a t) (hs2 a t) (ms3 a t) (hs3 a t) (T0 a) (T1 a) (iblk a m c (0 : Fin 4) t) (iblk a m c (1 : Fin 4) t) (iblk a m c (2 : Fin 4) t) a0 a1 k0_h1 hc1 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s' hs' hu
            obtain rfl : s' = t := Fin.ext (by omega)
            exact g0
        isplitl [HS1]
        · iexists _; isplitr; swap
          · iexact HS1
          · ipureintro; intro s' hs' hu
            obtain rfl : s' = t := Fin.ext (by omega)
            exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (View.read_writes_eq_canon _ _ _ (coverB c _ _ _ _ _ _ _ _ _ _ _ _ _ _ _ _ _ _ _)).trans ?_
        rw [runB_out, g0, g1]
        unfold outB
        rw [if_pos k0_h1]
        rfl
  · have k0_h3 : k0_cond3 (crd a t) (usedW (T1 a)) = 1#1 := (unused_iff _ _).2 (by
      have h1 := mt (used_iff (crd a t) (usedW (T1 a))).2 k0_h1
      omega)
    iintro ⟨⟨⟨%a0, %ha0, HS0⟩, ⟨%a1, %ha1, HS1⟩, HT0, HT1⟩, Ho, ⟨%d0, H0⟩, ⟨%d1, H1⟩, ⟨%d2, H2⟩, ⟨%d3, H3⟩⟩
    iapply ((runC c (crd a t) (ms0 a t) (hs0 a t) (ms1 a t) (hs1 a t) (ms2 a t) (hs2 a t) (ms3 a t) (hs3 a t) (T0 a) (T1 a) (iblk a m c (0 : Fin 4) t) (iblk a m c (1 : Fin 4) t) (iblk a m c (2 : Fin 4) t) a0 a1 k0_h1 k0_h3).2.2.2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS0]; · iexact HS0
    isplitl [HS1]; · iexact HS1
    iintro ⟨H0, H1, H2, HT0, HT1, ⟨%e3, H3⟩, HS0, HS1⟩
    isplitl [HS0 HS1 HT0 HT1]
    · isplitl [HS0]
      · iexists _; isplitr; swap
        · iexact HS0
        · ipureintro; intro s hs hu
          obtain rfl : s = t := Fin.ext (by omega)
          exact absurd hu k0_h1
      isplitl [HS1]
      · iexists _; isplitr; swap
        · iexact HS1
        · ipureintro; intro s hs hu
          obtain rfl : s = t := Fin.ext (by omega)
          exact absurd hu k0_h1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      refine (View.read_writes_eq_canon _ _ _ (coverC c _ _ _ _ _ _ _ _ _ _ _ _ _ _ _ _ _ _)).trans ?_
      rw [runC_out]
      unfold outB
      rw [if_neg k0_h1]

theorem body_obligation (c : Dev nD) : BodyObligation (dats a m 0 c) (defs₀ (F := F)) Variants.none () Set.univ := fun t => by
  rw [bigSep_W0]
  exact sound_body a m c t

/-! ## The launch -/

abbrev pcs : Fin 1 → Pipeline.Cfg sig Λ₀ := Pipeline.pin (pcfgs (F := F)) fun _ => a

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; omega
  isplitl [HS1]
  · iexists a1; isplitr; swap
    · iexact HS1
    · ipureintro; intro s h; omega
  isplitl [HT0]
  · iexact HT0
  iexact HT1

theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (cfgA a).N from rfl]
  unfold Phi
  iintro ⟨⟨%a0, -, HS0⟩, ⟨%a1, -, HS1⟩, -, -⟩
  isplitr; · iempintro
  isplitl [HS0]
  · iexists a0; iexact HS0
  iexists a1; iexact HS1

/-- Every array ends at what the points make of it, every table as it was. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
theorem run_quiescent (hp : ∀ (c : Dev nD) (j : Fin 2), m ((c : Thread nD τ).loc (pre0.ref j)) = a.1 j) :
    θ_run (defs (F := F)) (onTc (τ := τ) (main (F := F))) ⟨m, fun _ => 0, ρ⟩ (fun r => QC a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Proof.MoeUp

end
-- ==== Proof.MoeUpPre.lean ====
/-
  The experts' tables as the precondition leaves them: every block's expert is one of the thirty-two, and some block is
  used. The launch's side condition on the tables follows, and both frames.
-/
module

public import proofs.«01_k».proof.Proof.MoeUpLaunch
public import proofs.«01_k».proof.Proof.Gen.Pre_experts_in_range
public import proofs.«01_k».proof.Proof.Gen.Kernel3

@[expose] public section

set_option maxRecDepth 400000

noncomputable section

namespace Cert.Proof.MoeUp

open Cert.Kernel3Ideal Cert.Kernel3Ideal.Gen
open Idealize.ShloMosaic Idealize.ShloMosaic.TcCoe Idealize.SL.Sem
open Cert.Proof.Dispatch (and_one slt_one sge_one sle_one toInt_nat)

attribute [local instance] Cert.Pre_experts_in_range.Gen.facts Cert.Kernel3.Gen.facts

variable {F : FTy → Type} [FloatOps F]

/-- The tables' ranges. -/
structure Ranges (f : S224.Idx → BitVec 32) (g : S1.Idx → BitVec 32) : Prop where
  expert : ∀ n, 0 ≤ (f n).toInt ∧ (f n).toNat < 32
  used : 1 ≤ (g ixO).toInt

theorem ranges_of {x : S57344x2048.Idx → F .f32} {f : S224.Idx → BitVec 32} {g : S1.Idx → BitVec 32} {u v : S32x2048x1024.Idx → F .f32}
    (h : (Cert.Pre_experts_in_range.fn (F := F) x f g u v).1 = (fun _ => 1#1) ∧ (Cert.Pre_experts_in_range.fn (F := F) x f g u v).2 = (fun _ => 1#1)) :
    Ranges f g := by
  obtain ⟨h1, h2⟩ := h
  refine ⟨fun n => ?_, ?_⟩
  · have e : IntOp.andi (IntOp.cmpi .sge (f n) 0#32) (IntOp.cmpi .slt (f n) 32#32) = 1#1 := congrFun h1 n
    obtain ⟨a, b⟩ := and_one.1 e
    have a := sge_one.1 a
    have b := slt_one.1 b
    rw [show (0#32 : BitVec 32).toInt = 0 from by decide] at a
    rw [show (32#32 : BitVec 32).toInt = 32 from by decide, toInt_nat a] at b
    exact ⟨a, by omega⟩
  · have a := sge_one.1 (show IntOp.cmpi .sge (g ixO) 1#32 = 1#1 from congrFun h2 ixO)
    rw [show (1#32 : BitVec 32).toInt = 1 from by decide] at a
    exact a

/-- The tables in memory. -/
abbrev tables (m : (ℓ : Loc nD τ sig) → Buf (Elt F) ℓ) : pre0.Contents (Elt F) := fun k => m (((0 : Dev nD) : Thread nD τ).loc (pre0.ref k))

/-- The block of rows a point is handed: its own, or the last used one. -/
theorem row_word {n : ℕ} (hn : n < 224) {w : BitVec 32} (h1 : 1 ≤ w.toInt) :
    (Scalar.minsi (BitVec.ofNat 32 n) (Scalar.subi w 1#32)).toNat < 224
      ∧ ((n : Int) < w.toInt → (Scalar.minsi (BitVec.ofNat 32 n) (Scalar.subi w 1#32)).toNat = n) := by
  have hw : w.toInt = (w.toNat : Int) := toInt_nat (by omega)
  have hs : (Scalar.subi w 1#32).toNat = w.toNat - 1 := by
    show (w - 1#32).toNat = _
    rw [BitVec.toNat_sub]
    have := w.isLt
    show (2 ^ 32 - 1 + w.toNat) % 2 ^ 32 = _
    omega
  have hlt : 2 * w.toNat < 2 ^ 32 := by
    have h := h1
    have := w.isLt
    rw [BitVec.toInt_eq_toNat_cond] at h
    split at h <;> omega
  have hsi : (Scalar.subi w 1#32).toInt = (w.toNat : Int) - 1 := by
    rw [BitVec.toInt_eq_toNat_cond, hs]; split <;> omega
  have hni : (BitVec.ofNat 32 n).toInt = (n : Int) := by
    rw [BitVec.toInt_eq_toNat_cond, BitVec.toNat_ofNat, Nat.mod_eq_of_lt (by omega), if_pos (by omega)]
  have hnn : (BitVec.ofNat 32 n).toNat = n := by rw [BitVec.toNat_ofNat, Nat.mod_eq_of_lt (by omega)]
  by_cases h : (BitVec.ofNat 32 n).slt (Scalar.subi w 1#32) = true
  · have e : Scalar.minsi (BitVec.ofNat 32 n) (Scalar.subi w 1#32) = BitVec.ofNat 32 n := if_pos h
    rw [e, hnn]; exact ⟨hn, fun _ => rfl⟩
  · have e : Scalar.minsi (BitVec.ofNat 32 n) (Scalar.subi w 1#32) = Scalar.subi w 1#32 := if_neg h
    simp only [BitVec.slt, decide_eq_true_eq] at h
    rw [e, hs]; constructor
    · omega
    · intro h'; omega

/-- The window of the rows reads the number of used blocks. -/
theorem idx0_eq (pf : pre0.Contents (Elt F)) (i : grid0.Coords) :
    cc0_transform_0 inb_S1_S1_0 numel1_S1 pf i = ![(Scalar.minsi (BitVec.ofNat 32 (i 0).val) (Scalar.subi (pf 1 ixO : BitVec 32) 1#32)).toNat, 0] :=
  congrArg (fun w : BitVec 32 => ![(Scalar.minsi (BitVec.ofNat 32 (i 0).val) (Scalar.subi w 1#32)).toNat, 0]) (congrArg (pf 1 : S1.Idx → BitVec 32) (one_idx _))
theorem idx1_eq (pf : pre0.Contents (Elt F)) (i : grid0.Coords) :
    cc0_transform_1 k0_off1_inb numel1_S1 pf i = ![BitVec.toNat (pf 0 (ixT (i 0))), 0, 0] :=
  congrArg (fun w : BitVec 32 => ![w.toNat, 0, 0]) (word_eq (pf 0) _ (k0_off1_inb i) (i 0) (k0_off1_eq i))

theorem ok_of (m : (ℓ : Loc nD τ sig) → Buf (Elt F) ℓ) (h : Ranges (tables m 0) (tables m 1)) : ok0 (tables m) := by
  have he : ∀ i : grid0.Coords, ∀ b, (cc0_transform_1 k0_off1_inb numel1_S1 (tables m) i b + 1) * S1x2048x1024.size b ≤ S32x2048x1024.size b := fun i b => by
    have hl : BitVec.toNat (tables m 0 (ixT (i 0))) < 32 := (h.expert (ixT (i 0))).2
    rw [idx1_eq]
    match b with
    | ⟨0, _⟩ => show (BitVec.toNat (tables m 0 (ixT (i 0))) + 1) * 1 ≤ 32; omega
    | ⟨1, _⟩ => show (0 + 1) * 2048 ≤ 2048; omega
    | ⟨2, _⟩ => show (0 + 1) * 1024 ≤ 1024; omega
  refine ⟨fun i => ⟨fun b => ?_, .inl rfl⟩, fun i => ⟨he i, .inl rfl⟩, fun i => ⟨he i, .inl rfl⟩⟩
  have hl := (row_word (n := (i 0).val) (i 0).isLt h.used).1
  rw [idx0_eq]
  match b with
  | ⟨0, _⟩ => show (BitVec.toNat _ + 1) * 256 ≤ 57344; omega
  | ⟨1, _⟩ => show (0 + 1) * 2048 ≤ 2048; omega

/-- The tables the launch runs at. -/
def adm (m : (ℓ : Loc nD τ sig) → Buf (Elt F) ℓ) (h : Ranges (tables m 0) (tables m 1)) : (pcfg0 (F := F)).Adm := ⟨tables m, ok_of m h⟩

/-- What the launch leaves: its result, its arguments as they were. -/
def Post (m : (ℓ : Loc nD τ sig) → Buf (Elt F) ℓ) (h : Ranges (tables m 0) (tables m 1)) : PUnit × MemSt nD τ sig (Elt F) → Prop := fun r =>
  (∀ c : Dev nD, r.2.mem ((c.tc : Thread nD τ).loc main_v0) = (dats (adm m h) m 0 c).arrAt (3 : Fin 4) (cfgA (adm m h)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

theorem run_post (m : (ℓ : Loc nD τ sig) → Buf (Elt F) ℓ) (h : Ranges (tables m 0) (tables m 1)) (ρ : Dev nD → PrngReg) :
    θ_run (defs (F := F)) (onTc (τ := τ) (main (F := F))) ⟨m, fun _ => 0, ρ⟩ (Post m h) :=
  (θ_run defs _ _).mono (fun r hr => ⟨fun c => ⟨(hr.1 c).1 (3 : Fin 4),
      ((hr.1 c).1 (0 : Fin 4)).trans ((dats (adm m h) m 0 c).arrAt_in (0 : Fin 4) rfl _),
      ((hr.1 c).2 0).trans (by obtain rfl : c = 0 := Subsingleton.elim _ _; rfl),
      ((hr.1 c).2 1).trans (by obtain rfl : c = 0 := Subsingleton.elim _ _; rfl),
      ((hr.1 c).1 (1 : Fin 4)).trans ((dats (adm m h) m 0 c).arrAt_in (1 : Fin 4) rfl _),
      ((hr.1 c).1 (2 : Fin 4)).trans ((dats (adm m h) m 0 c).arrAt_in (2 : Fin 4) rfl _)⟩, hr.2⟩)
    (run_quiescent (adm m h) m ρ (fun c j => by obtain rfl : c = 0 := Subsingleton.elim _ _; rfl))

/-! ## The two programs have one text -/

theorem bodies_same : Cert.Kernel3.defs₀ (F := F) = Cert.Kernel3Ideal.defs₀ := by
  unfold Cert.Kernel3.defs₀ Cert.Kernel3Ideal.defs₀
  refine congrArg Defs.onTc (funext fun l => ?_)
  match l with
  | ⟨0, _⟩ => funext ⟨t, s⟩; rfl
theorem defs_same : Cert.Kernel3.defs (F := F) = Cert.Kernel3Ideal.defs := congrArg (Pipeline.defs Cert.Kernel3Ideal.pcfgs) bodies_same
theorem run_same (m) (ρ) (Q) : θ_run (Cert.Kernel3.defs (F := F)) (onTc (τ := Cert.Kernel3.τ) (Cert.Kernel3.main (F := F))) ⟨m, fun _ => 0, ρ⟩ Q
  = θ_run (Cert.Kernel3Ideal.defs (F := F)) (onTc (τ := Cert.Kernel3Ideal.τ) (Cert.Kernel3Ideal.main (F := F))) ⟨m, fun _ => 0, ρ⟩ Q :=
  congrArg (fun d => θ_run d (onTc (τ := Cert.Kernel3Ideal.τ) (Cert.Kernel3Ideal.main (F := F))) ⟨m, fun _ => 0, ρ⟩ Q) defs_same

end Cert.Proof.MoeUp

end
-- ==== Proof.MoeUpSpec.lean ====
/- The experts' first product at one row and one column. -/
module

public import proofs.«01_k».proof.Proof.MoeUpPoints
public import Idealize.ShloMosaic.Lib.Pointwise

@[expose] public section

noncomputable section

namespace Cert.Proof.MoeUp

open Idealize.ShloMosaic

/-- A row's product with one column, gated by the logistic function of itself, times its product with another. -/
def gated (x u v : Fin 2048 → EReal) : EReal :=
  (∑ k, x k * u k) * Ideal.div 1 (1 + Ideal.exp (0 - ∑ k, x k * u k)) * ∑ k, x k * v k

/-- The expert of the block that row `n` is in, and whether that block is used. -/
def expert (f : (⟨1, ![224]⟩ : Shape).Idx → BitVec 32) (n : Fin 57344) : Fin 32 :=
  Ring.bk 32 (f (ixT ⟨n.val / 256, by omega⟩)).toNat
def used (g : (⟨1, ![1]⟩ : Shape).Idx → BitVec 32) (n : Fin 57344) : Prop := ((n.val / 256 : ℕ) : Int) < (g ixO).toInt

open Classical in
/-- The result array as one function of the arguments. -/
def G (x : (⟨2, ![57344, 2048]⟩ : Shape).Idx → EReal) (f : (⟨1, ![224]⟩ : Shape).Idx → BitVec 32) (g : (⟨1, ![1]⟩ : Shape).Idx → BitVec 32)
    (u v : (⟨3, ![32, 2048, 1024]⟩ : Shape).Idx → EReal) : (⟨2, ![57344, 1024]⟩ : Shape).Idx → EReal :=
  fun i => if used g (i 0) then
    gated (fun k => x (ix2 (i 0) k)) (fun k => u (ix3 (expert f (i 0)) k (i 1))) (fun k => v (ix3 (expert f (i 0)) k (i 1)))
  else 0

end Cert.Proof.MoeUp

end
-- ==== Proof.MoeUpValue.lean ====
/- The experts' first product: what each block of the launch's result holds, and the array it leaves. -/
module

public import proofs.«01_k».proof.Proof.MoeUpPre
public import proofs.«01_k».proof.Proof.MoeUpSpec
public import Idealize.ShloMosaic.Lib.Pipeline.ValueKit

@[expose] public section

set_option maxRecDepth 16384

noncomputable section

namespace Cert.Proof.MoeUp

open Cert.Kernel3Ideal Cert.Kernel3Ideal.Gen
open Idealize.ShloMosaic Idealize.ShloMosaic.TcCoe Idealize.SL.Sem

theorem rnd_apply (w : S1x2048x1024.Idx → Elt Ideal .f32) (k : Fin 2048) (j : Fin 1024) : rnd w (ix2 k j) = w (ix3 0 k j) := by
  pointwise [rnd, k0_pay3]

theorem pay2_apply (y : S256x1024.Idx) : (k0_pay2 (F := Ideal)) y = (0 : EReal) := by
  pointwise [k0_pay2]

theorem pay6_apply (x : S256x2048.Idx → Elt Ideal .f32) (a b : S2048x512.Idx → Elt Ideal .bf16) (j : S256x512.Idx) :
    k0_pay6 x a b j = gated (fun k => x (ix2 (j 0) k)) (fun k => a (ix2 k (j 1))) (fun k => b (ix2 k (j 1))) := by
  pointwise [k0_pay6, k0_pay5, gated]

/-- A block of the result over the rows `x` and the weights `a` and `b`. -/
def block (x : S256x2048.Idx → Elt Ideal .f32) (a b : S2048x1024.Idx → Elt Ideal .bf16) : S256x1024.Idx → Elt Ideal .bf16 :=
  fun y => gated (fun k => x (ix2 (y 0) k)) (fun k => a (ix2 k (y 1))) (fun k => b (ix2 k (y 1)))

/-- One store's payload, over the weights' columns from `off`. -/
theorem half_apply (off : ℕ) (x : S256x2048.Idx → Elt Ideal .f32) (a b : S2048x1024.Idx → Elt Ideal .bf16)
    (hw : ∀ a, (![0, off] : Fin 2 → ℕ) a + S2048x512.size a ≤ S2048x1024.size a)
    (ho : ∀ a, (![0, off] : Fin 2 → ℕ) a + S256x512.size a ≤ S256x1024.size a)
    (j : (Rect.unit (s := S256x1024) ![0, off] S256x512.size ho).shape.Idx) :
    k0_pay6 x (View.ld a (Rect.unit (s := S2048x1024) ![0, off] S2048x512.size hw)) (View.ld b (Rect.unit (s := S2048x1024) ![0, off] S2048x512.size hw)) j
      = block x a b ((Rect.unit (s := S256x1024) ![0, off] S256x512.size ho).emb j) := by
  refine (pay6_apply _ _ _ _).trans ?_
  have h : ∀ (w : S2048x1024.Idx → Elt Ideal .bf16) (k : Fin 2048), View.ld w (Rect.unit (s := S2048x1024) ![0, off] S2048x512.size hw) (ix2 k (j 1))
      = w (ix2 k ((Rect.unit (s := S256x1024) ![0, off] S256x512.size ho).emb j 1)) := fun w k => by
    refine View.ld_unit_apply_of _ _ _ _ _ _ fun a => ?_
    fin_cases a
    · simp
    · simp [Rect.emb_apply]
  unfold block
  refine congr (congrArg₂ gated (funext fun k => ?_) (funext fun k => h a k)) (funext fun k => h b k)
  exact congrArg x (congrArg₂ ix2 (Fin.ext (by simp [Rect.emb_apply])) rfl)

theorem blk_eq (x : S256x2048.Idx → Elt Ideal .f32) (a b : S2048x1024.Idx → Elt Ideal .bf16) : blk x a b = block x a b := by
  funext y
  unfold blk
  refine View.canon_apply_of_pieces (block x a b) _ (fun p hp => ?_) y (View.cover_of_tiledL (pieces x a b) S256x512.size (by sl_kernel_rfl) y)
  unfold pieces at hp
  simp only [List.mem_cons, List.mem_nil_iff, or_false] at hp
  rcases hp with rfl | rfl
  · exact half_apply 512 x a b inb_S2048x1024_S2048x512_0_512 inb_S256x1024_S256x512_0_512
  · exact half_apply 0 x a b inb_S2048x1024_S2048x512_0_0 inb_S256x1024_S256x512_0_0

variable (m : (ℓ : Loc nD τ sig) → Buf (Elt Ideal) ℓ) (h : Ranges (tables m 0) (tables m 1))

theorem lt224 (t : Fin grid0.N) : t.val < 224 := Nat.lt_of_lt_of_eq t.isLt (show grid0.N = 224 from by decide +kernel)

/-- A used point is handed its own block of rows. -/
theorem rows_at (c : Dev nD) (t : Fin grid0.N) (hu : (t.val : Int) < BitVec.toInt (tables m 1 ixO)) (r : Fin 256) (k : Fin 2048) :
    iblk (adm m h) m c (0 : Fin 4) t (ix2 r k)
      = m ((c.tc : Thread nD τ).loc main_arg0) (ix2 ⟨t.val * 256 + r.val, by have := lt224 t; omega⟩ k) := by
  unfold iblk
  show m ((c : Thread nD τ).loc main_arg0) ((((cfgA (adm m h)).win (0 : Fin 4)).blk t).view.emb (ix2 r k)) = _
  refine congrArg (m ((c : Thread nD τ).loc main_arg0)) ?_
  have hi := idx0_eq (tables m) (grid0.coords t)
  have hw := (row_word (n := (grid0.coords t 0).val) (grid0.coords t 0).isLt h.used).2 (by rw [coord_val]; exact hu)
  rw [hw, coord_val] at hi
  funext b
  match b with
  | ⟨0, _⟩ =>
    apply Fin.ext
    show cc0_transform_0 inb_S1_S1_0 numel1_S1 (tables m) (grid0.coords t) 0 * 256 + 1 * r.val = t.val * 256 + r.val
    rw [hi]
    show t.val * 256 + 1 * r.val = _
    omega
  | ⟨1, _⟩ =>
    apply Fin.ext
    show cc0_transform_0 inb_S1_S1_0 numel1_S1 (tables m) (grid0.coords t) 1 * 2048 + 1 * k.val = k.val
    rw [hi]
    show 0 * 2048 + 1 * k.val = k.val
    omega

/-- The result's array as the launch's arguments determine it. -/
abbrev res (c : Dev nD) : Vec Ideal S57344x1024 .bf16 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem idx3_eq (i : grid0.Coords) : cc0_transform_3 i = ![(i 0).val, 0] := by
  have hi : (i 0).val < 224 := (i 0).isLt
  have e : (BitVec.ofNat 32 (i 0).val).toNat = (i 0).val := by rw [BitVec.toNat_ofNat, Nat.mod_eq_of_lt (by omega)]
  exact congrArg (fun n : ℕ => (![n, 0] : Fin 2 → ℕ)) e

theorem emb3 (t : Fin grid0.N) (y : S256x1024.Idx) :
    ((((cfgA (adm m h)).win (3 : Fin 4)).blk t).view.emb y : S57344x1024.Idx)
      = (ix2 ⟨t.val * 256 + (y 0).val, by have := lt224 t; have : (y 0).val < 256 := (y 0).isLt; omega⟩ (y 1) : S57344x1024.Idx) := by
  have hi := idx3_eq (grid0.coords t)
  rw [coord_val] at hi
  funext b
  match b with
  | ⟨0, _⟩ =>
    apply Fin.ext
    show cc0_transform_3 (grid0.coords t) 0 * 256 + 1 * (y 0).val = t.val * 256 + (y 0).val
    rw [hi]
    show t.val * 256 + 1 * (y 0).val = _
    omega
  | ⟨1, _⟩ =>
    apply Fin.ext
    show cc0_transform_3 (grid0.coords t) 1 * 1024 + 1 * (y 1).val = (y 1).val
    rw [hi]
    show 0 * 1024 + 1 * (y 1).val = (y 1).val
    omega

theorem expert_eq (t : Fin grid0.N) (n : Fin 57344) (hn : n.val / 256 = t.val) :
    expert (tables m 0) n = Ring.bk 32 (exp (adm m h) t) := by
  unfold expert
  refine congrArg (fun q => Ring.bk 32 (BitVec.toNat (tables m 0 (ixT q)))) (Fin.ext ?_)
  rw [coord_val]; exact hn

theorem ixW_eq (n : ℕ) (k : Fin 2048) (j : Fin 1024) : ixW n (ix3 0 k j) = ix3 (Ring.bk 32 n) k j := by
  funext b
  match b with
  | ⟨0, _⟩ => rfl
  | ⟨1, _⟩ => rfl
  | ⟨2, _⟩ => rfl

/-- What a point writes back is its block of the result. -/
theorem flushed_eq (c : Dev nD) (t : Fin grid0.N) :
    (dats (adm m h) m 0 c).flushed (3 : Fin 4) t = (((cfgA (adm m h)).win (3 : Fin 4)).blk t).view.read (Elt Ideal) (res m c) := by
  obtain rfl : c = 0 := Subsingleton.elim _ _
  refine Eq.trans (b := outB (adm m h) m 0 t) rfl ?_
  funext y
  show _ = res m 0 ((((cfgA (adm m h)).win (3 : Fin 4)).blk t).view.emb y)
  rw [emb3]
  have hy : (y 0).val < 256 := (y 0).isLt
  have hn : (t.val * 256 + (y 0).val) / 256 = t.val := by omega
  have hu : Used (adm m h) t ↔ (t.val : Int) < BitVec.toInt (tables m 1 ixO) := by
    refine (used_iff _ _).trans ?_
    rw [usedW_eq, coord_val]
    rfl
  have hr : used (tables m 1) ⟨t.val * 256 + (y 0).val, by have := lt224 t; omega⟩ ↔ (t.val : Int) < BitVec.toInt (tables m 1 ixO) := by
    unfold used
    rw [hn]
  unfold outB res G
  by_cases hd : (t.val : Int) < BitVec.toInt (tables m 1 ixO)
  · refine (congrFun ((if_pos (hu.2 hd)).trans (blk_eq _ _ _)) y).trans (Eq.trans ?_ (if_pos (hr.2 hd)).symm)
    unfold block
    refine congr (congrArg₂ gated (funext fun k => rows_at m h 0 t hd (y 0) k) (funext fun k => ?_)) (funext fun k => ?_)
    · refine (rnd_apply _ k (y 1)).trans ((iblk1_at (adm m h) m 0 t (ix3 0 k (y 1))).trans (congrArg (m (((0 : Dev nD) : Thread nD τ).loc main_arg3)) ?_))
      refine (ixW_eq _ k (y 1)).trans (congrArg (fun e => ix3 e k (y 1)) ?_)
      exact (expert_eq m h t _ hn).symm
    · refine (rnd_apply _ k (y 1)).trans ((iblk2_at (adm m h) m 0 t (ix3 0 k (y 1))).trans (congrArg (m (((0 : Dev nD) : Thread nD τ).loc main_arg4)) ?_))
      refine (ixW_eq _ k (y 1)).trans (congrArg (fun e => ix3 e k (y 1)) ?_)
      exact (expert_eq m h t _ hn).symm
  · exact (congrFun (if_neg (fun e => hd (hu.1 e))) y).trans ((pay2_apply y).trans (if_neg (fun e => hd (hr.1 e))).symm)

/-- Every index of the result is in some point's block. -/
theorem covered (i : S57344x1024.Idx) :
    ∃ t : Fin grid0.N, ((cfgA (adm m h)).win (3 : Fin 4)).flush t = true ∧ i ∈ (((cfgA (adm m h)).win (3 : Fin 4)).blk t).view.set := by
  have hi : (i 0).val < 57344 := (i 0).isLt
  refine ⟨⟨(i 0).val / 256, by show _ < grid0.N; rw [show grid0.N = 224 from by decide +kernel]; omega⟩, flush3 (adm m h) _, ?_⟩
  have hm := (((cfgA (adm m h)).win (3 : Fin 4)).blk ⟨(i 0).val / 256, by show _ < grid0.N; rw [show grid0.N = 224 from by decide +kernel]; omega⟩).view.emb_mem_set
    (ix2 ⟨(i 0).val % 256, Nat.mod_lt _ (by decide)⟩ (i 1) : S256x1024.Idx)
  rw [emb3] at hm
  refine cast (congrArg (· ∈ _) ?_) hm
  refine (congrArg₂ ix2 (Fin.ext ?_) rfl).trans (eq_ix2 i).symm
  show (i 0).val / 256 * 256 + (i 0).val % 256 = (i 0).val
  omega

theorem final (c : Dev nD) : (dats (adm m h) m 0 c).arrAt (3 : Fin 4) (cfgA (adm m h)).N = res m c :=
  (dats (adm m h) m 0 c).arrAt_eq_of_cover (3 : Fin 4) (res m c) (fun t _ => flushed_eq m h c t) (covered m h)

end Cert.Proof.MoeUp

end
-- ==== Proof.MoeUpRef.lean ====
/- The experts' first product's reference, read at an index. -/
module

public import proofs.«01_k».proof.Proof.Gen.Reference3Ideal.Run
public import proofs.«01_k».proof.Proof.MoeUpSpec

@[expose] public section

set_option maxRecDepth 16384

noncomputable section

namespace Cert.Proof.MoeUp

open Cert.Reference3Ideal Idealize.ShloMosaic Idealize.ShloMosaic.TcCoe Idealize.SL.Sem
open Cert.Proof.Dispatch (slt_one toInt_nat)

/-- `table[idx]` of a table of matrices: where `idx` holds a matrix's number, the gathered matrix is that one. -/
theorem gather_matrix {α : Type} {nb B C n : Nat} (wf : GatherDims.WF ⟨3, ![nb, B, C]⟩ ⟨2, ![n, 1]⟩ ⟨3, ![n, B, C]⟩ [1, 2] [0] [] [0] [] 1 ![1, B, C])
    (x : (⟨3, ![nb, B, C]⟩ : Shape).Idx → α) (idx : IVec ⟨2, ![n, 1]⟩ 32) (r : Fin n) (k : Fin B) (j : Fin C) (b : Fin nb)
    (hb : (idx (ix2 r (0 : Fin 1))).toInt = (b.val : Int)) :
    Host.gather ({ offsetDims := [1, 2], collapsedSliceDims := [0], operandBatchingDims := [], startIndicesBatchingDims := [], startIndexMap := [0], indexVectorDim := 1, sliceSizes := ![1, B, C], wf := wf } : GatherDims ⟨3, ![nb, B, C]⟩ ⟨2, ![n, 1]⟩ ⟨3, ![n, B, C]⟩) x idx (ix3 r k j) = x (ix3 b k j) := by
  unfold Host.gather
  refine congrArg x (funext fun a => Fin.ext ?_)
  generalize hd : ({ offsetDims := [1, 2], collapsedSliceDims := [0], operandBatchingDims := [], startIndicesBatchingDims := [], startIndexMap := [0], indexVectorDim := 1, sliceSizes := ![1, B, C], wf := wf } : GatherDims ⟨3, ![nb, B, C]⟩ ⟨2, ![n, 1]⟩ ⟨3, ![n, B, C]⟩) = d
  have hbl := b.isLt
  match a with
  | ⟨0, _⟩ =>
    show d.start (ix3 r k j) idx 0 + d.batchCoord (ix3 r k j) 0 + d.offCoord (ix3 r k j) 0 = b.val
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx ({ offsetDims := [1, 2], collapsedSliceDims := [0], operandBatchingDims := [], startIndicesBatchingDims := [], startIndexMap := [0], indexVectorDim := 1, sliceSizes := ![1, B, C], wf := wf } : GatherDims ⟨3, ![nb, B, C]⟩ ⟨2, ![n, 1]⟩ ⟨3, ![n, B, C]⟩) (ix3 r k j) c = ix2 r (0 : Fin 1) := fun c => by
      funext b'; refine Fin.ext ?_
      match b' with
      | ⟨0, _⟩ => rfl
      | ⟨1, _⟩ => exact Nat.lt_one_iff.1 c.isLt
    rw [hsi, hb]
    show min ((b.val : Int)).toNat (nb - 1) = b.val
    omega
  | ⟨1, _⟩ =>
    show d.start (ix3 r k j) idx 1 + d.batchCoord (ix3 r k j) 1 + d.offCoord (ix3 r k j) 1 = k.val
    subst hd
    rw [GatherDims.batchCoord_eq_zero _ _ _ List.not_mem_nil]
    unfold GatherDims.start
    rw [dif_neg (show (1 : Fin 3) ∉ ([0] : List (Fin 3)) from by decide)]
    show 0 + 0 + _ = _
    rw [Nat.zero_add]
    rfl
  | ⟨2, _⟩ =>
    show d.start (ix3 r k j) idx 2 + d.batchCoord (ix3 r k j) 2 + d.offCoord (ix3 r k j) 2 = j.val
    subst hd
    rw [GatherDims.batchCoord_eq_zero _ _ _ List.not_mem_nil]
    unfold GatherDims.start
    rw [dif_neg (show (2 : Fin 3) ∉ ([0] : List (Fin 3)) from by decide)]
    show 0 + 0 + _ = _
    rw [Nat.zero_add]
    rfl

/-- The reference over the gathered weights. -/
def ref (x : FVec Ideal S57344x2048 .f32) (gw uw : FVec Ideal S224x2048x1024 .f32) (g : IVec S1 32) : FVec Ideal S57344x1024 .bf16 :=
  truncf .bf16 (shapeCast S57344x1024 (select (broadcastInDim S224x256x1024 ![0, 1, 2] Facts₀.bcast_S224x1x1_S224x256x1024_0_1_2
    (broadcastInDim S224x1x1 ![0] Facts₀.bcast_S224_S224x1x1_0 (cmpi .slt (iotaInDim S224 32 0) (broadcastInDim S224 ![0] Facts₀.bcast_S1_S224_0 g))))
    (mulf (mulf (Host.dotGeneral dot_S224x256x2048_S224x2048x1024_S224x256x1024_2_1_1_2_0_0 none (shapeCast S224x256x2048 x Facts₀.shapeCasts_S57344x2048_S224x256x2048) gw)
      (Host.divf (broadcastInDim S224x256x1024 ![] Facts₀.bcast_S_S224x256x1024 (constant S_ .f32 0x3F800000#32))
        (addf (broadcastInDim S224x256x1024 ![] Facts₀.bcast_S_S224x256x1024 (constant S_ .f32 0x3F800000#32))
          (Host.exp (Host.negf (Host.dotGeneral dot_S224x256x2048_S224x2048x1024_S224x256x1024_2_1_1_2_0_0 none (shapeCast S224x256x2048 x Facts₀.shapeCasts_S57344x2048_S224x256x2048) gw))))))
      (Host.dotGeneral dot_S224x256x2048_S224x2048x1024_S224x256x1024_2_1_1_2_0_0 none (shapeCast S224x256x2048 x Facts₀.shapeCasts_S57344x2048_S224x256x2048) uw))
    (broadcastInDim S224x256x1024 ![] Facts₀.bcast_S_S224x256x1024 (constant S_ .f32 0x00000000#32))) Facts₀.shapeCasts_S224x256x1024_S57344x1024) Facts₀.bitsLt_bf16_f32

/-- The blocks' experts' numbers, as the reference reads them. -/
def numbers (f : IVec S224 32) : IVec S224x1 32 :=
  broadcastInDim S224x1 ![0] Facts₀.bcast_S224_S224x1_0 (select (cmpi .slt f (broadcastInDim S224 ![] Facts₀.bcast_S_S224 (constantI S_ 32 0#32)))
    (addi f (broadcastInDim S224 ![] Facts₀.bcast_S_S224 (constantI S_ 32 32#32))) f)

theorem numbers_apply (f : IVec S224 32) (n : Fin 224) (h : 0 ≤ (f (ix1 n)).toInt) : numbers f (ix2 n 0) = f (ix1 n) := by
  have e : numbers f (ix2 n 0) = Scalar.select (IntOp.cmpi .slt (f (ix1 n)) 0#32) (IntOp.addi (f (ix1 n)) 32#32) (f (ix1 n)) := by
    pointwise [numbers]
  rw [e]
  refine if_neg fun h' => ?_
  have := slt_one.1 h'
  rw [show (0#32 : BitVec 32).toInt = 0 from by decide] at this
  omega

theorem ref_apply (x : FVec Ideal S57344x2048 .f32) (gw uw : FVec Ideal S224x2048x1024 .f32) (g : IVec S1 32) (n : Fin 57344) (j : Fin 1024) :
    ref x gw uw g (ix2 n j) = Scalar.select (IntOp.cmpi .slt (BitVec.ofNat 32 (n.val / 256)) (g (ix1 0)))
      (gated (fun k => x (ix2 n k)) (fun k => gw (ix3 ⟨n.val / 256, by omega⟩ k j)) (fun k => uw (ix3 ⟨n.val / 256, by omega⟩ k j))) 0 := by
  pointwise [ref, gated]
  rw [zero_sub]

/-- The reference's result at row `n` and column `j`, its experts' numbers in range. -/
theorem ref_value (x : FVec Ideal S57344x2048 .f32) (f : IVec S224 32) (g : IVec S1 32) (u v : FVec Ideal S32x2048x1024 .f32)
    (hf : ∀ n, 0 ≤ (f n).toInt ∧ (f n).toNat < 32) :
    ref x (Host.gather gather_S32x2048x1024_S224x1_S224x2048x1024_12_0_n_n_0_1_120481024 u (numbers f))
      (Host.gather gather_S32x2048x1024_S224x1_S224x2048x1024_12_0_n_n_0_1_120481024 v (numbers f)) g = G x f g u v := by
  funext i
  rw [eq_ix2 i]
  generalize (i 0 : Fin 57344) = n
  generalize (i 1 : Fin 1024) = j
  refine (ref_apply x _ _ g n j).trans ?_
  have hn : n.val / 256 < 224 := by have h : n.val < 57344 := n.isLt; omega
  have hix : (ix1 ⟨n.val / 256, hn⟩ : S224.Idx) = ixT ⟨n.val / 256, hn⟩ := by
    funext b
    match b with
    | ⟨0, _⟩ => rfl
  have hi1 : (ix1 0 : S1.Idx) = ixO := one_idx _
  have hg : ∀ (w : FVec Ideal S32x2048x1024 .f32) (k : Fin 2048),
      Host.gather gather_S32x2048x1024_S224x1_S224x2048x1024_12_0_n_n_0_1_120481024 w (numbers f) (ix3 ⟨n.val / 256, hn⟩ k j) = w (ix3 (expert f n) k j) := fun w k => by
    refine gather_matrix _ w (numbers f) ⟨n.val / 256, hn⟩ k j (expert f n) ?_
    rw [numbers_apply f _ (hf _).1, hix, toInt_nat (hf _).1]
    unfold expert
    rw [Ring.bk_val (hf _).2]
  have hw : (BitVec.ofNat 32 (n.val / 256)).toInt = ((n.val / 256 : ℕ) : Int) := by
    rw [BitVec.toInt_eq_toNat_cond, BitVec.toNat_ofNat, Nat.mod_eq_of_lt (by omega), if_pos (by omega)]
  have hsel : IntOp.cmpi .slt (BitVec.ofNat 32 (n.val / 256)) (g (ix1 0)) = 1#1 ↔ used g n := by
    rw [slt_one, hw, hi1]; rfl
  by_cases hd : used g n
  · refine (if_pos (hsel.2 hd)).trans (Eq.trans ?_ (if_pos hd).symm)
    exact congr (congrArg₂ gated rfl (funext fun k => hg u k)) (funext fun k => hg v k)
  · exact (if_neg (fun e => hd (hsel.1 e))).trans (if_neg hd).symm

/-- The reference's run, at `G` of its arguments. -/
theorem ref_run (m : (ℓ : Loc nD τ sig) → Buf (Elt Ideal) ℓ) (ρ : Dev nD → PrngReg)
    (hf : ∀ (c : Dev nD) n, 0 ≤ (m ((c.tc : Thread nD τ).loc main_arg1) n : BitVec 32).toInt ∧ (m ((c.tc : Thread nD τ).loc main_arg1) n : BitVec 32).toNat < 32) :
    θ_run defs (onTc (τ := τ) (main (F := Ideal))) ⟨m, fun _ => 0, ρ⟩ fun r => ∀ c : Dev nD,
      r.2.mem ((c.tc : Thread nD τ).loc main_v25) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_value _ _ _ _ _ (hf c)), (h c).2⟩) (Cert.Reference3Ideal.Value.run (F := Ideal) m ρ)

end Cert.Proof.MoeUp

end
-- ==== Proof.MoeDownBody.lean ====
/-
  The experts' second call, one grid point: what the body leaves on each of its three ways — a used block whose expert is
  new (the weights are rounded into the scratch first), a used block of the same expert, and an unused block.
-/
module

public import proofs.«01_k».proof.Proof.Gen.Kernel4Ideal.Skeleton
public import proofs.«01_k».proof.Proof.Gen.Kernel4Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.MoeDown

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the scratch the body is handed, whole. -/
abbrev tb0 : Memref sig .tc .smem S224 .i32 := Memref.whole main_arg1
abbrev tb1 : Memref sig .tc .smem S1 .i32 := Memref.whole main_arg2
abbrev sc0 : Memref sig .tc .vmem S1024x2048 .bf16 := Memref.whole cc0_scratch0

/-- The number of used blocks, as the body reads it. -/
abbrev usedW (T1 : S1.Idx → Elt F .i32) : BitVec 32 :=
  (View.readAt (Elt F) (tb1).view (Rect.unit (s := S1) ![0] S1.size inb_S1_S1_0).toLoadRect T1 (Shape.Idx.first (numel1_S1.symm ▸ Nat.one_pos)))

/-- Whether the body takes the block's expert for a new one. -/
abbrev changedW (i : grid0.Coords) (T0 : S224.Idx → Elt F .i32) : BitVec 1 :=
  (Scalar.cmpi .ne (Scalar.extui (Scalar.ori (Scalar.cmpi .eq (BitVec.ofNat 32 (i 0).val) 0#32) (Scalar.cmpi .ne (View.readAt (Elt F) (tb0).view (Rect.unit (s := S224) (k0_off3 i) S1.size (k0_off3_inb i)).toLoadRect T0 (Shape.Idx.first (numel1_S1.symm ▸ Nat.one_pos))) (View.readAt (Elt F) (tb0).view (Rect.unit (s := S224) (k0_off2 i) S1.size (k0_off2_inb i)).toLoadRect T0 (Shape.Idx.first (numel1_S1.symm ▸ Nat.one_pos)))))) 0#32)

variable (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S256x2048 .f32) (harg5 : arg5.IsWhole) (T0 : (S224.Idx → Elt F .i32)) (T1 : (S1.Idx → Elt F .i32))
  (x0 : (S256x1024.Idx → Elt F .bf16)) (x1 : (S1x1024x2048.Idx → Elt F .f32))

set_option backward.proofsInPublic true in
set_option maxHeartbeats 8000000 in
/-- A used block of a new expert: the scratch is written whole, then the block. -/
noncomputable def runA  (k0_h1 : k0_cond1 i (usedW T1) = 1#1) (hc1 : changedW i T0 = 1#1) (k0_h3 : ¬(k0_cond3 i (usedW T1) = 1#1)) :
    Σ' (out0 : List (View.Piece (Elt F) S256x2048 .f32)), { out1 : Buf (Elt F) ((c : Thread nD τ).loc cc0_scratch0) //
      ∀ (xa0 : Buf (Elt F) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ d, owns (c : Thread nD τ) arg5 fullShare d)
          ∗ (sc0.view.loc (c : Thread nD τ) ↦{fullShare} xa0)
          ∗ (iprop((arg3.view.loc (c : Thread nD τ) ↦[arg3.view.set]{fullShare} arg3.view.rep x0)
              ∗ (arg4.view.loc (c : Thread nD τ) ↦[arg4.view.set]{fullShare} arg4.view.rep x1)
              ∗ (tb0.view.loc (c : Thread nD τ) ↦{fullShare.right} T0)
              ∗ (tb1.view.loc (c : Thread nD τ) ↦{fullShare.right} T1)
              ∗ (∃ f, arg5.view.loc (c : Thread nD τ) ↦[arg5.view.set]{fullShare} arg5.view.writes (Elt F) f out0)
              ∗ (sc0.view.loc (c : Thread nD τ) ↦{fullShare} out1)) -∗ K ⟨⟩))
          ⊢ wp frame (wpE (defs₀ (F := F)) Variants.none (c : Thread nD τ) none) Set.univ (cc0_moe_down i tb0 (Memref.isWhole_whole _) tb1 (Memref.isWhole_whole _) arg3 harg3 arg4 harg4 arg5 harg5 sc0 (Memref.isWhole_whole _)) K } :=
  ⟨_, _, fun (xa0 : Buf (Elt F) ((c : Thread nD τ).loc cc0_scratch0)) K => by
    unfold owns
    rw [cc0_moe_down_eq_skeleton]; unfold cc0_moe_down_skel
    iintro ⟨H0, H1, HT0, HT1, ⟨%d2, %f2, -, HO2⟩, HS0, Hk⟩
    have hS0 : sc0.IsWhole := Memref.isWhole_whole _
    have hT0 : tb0.IsWhole := Memref.isWhole_whole _
    have hT1 : tb1.IsWhole := Memref.isWhole_whole _
    sl_exec! (disch := first | (guard_target = k0_cond1 _ _ = _; exact k0_h1) | (exact hc1) | (guard_target = ¬(k0_cond3 _ _ = _); exact k0_h3))
    sl_step
    iapply Hk
    isplitl [H0]; · iexact H0
    isplitl [H1]; · iexact H1
    isplitl [HT0]; · iexact HT0
    isplitl [HT1]; · iexact HT1
    isplitl [HO2]; · iexists _; iexact HO2
    iexact HS0⟩

/-- Its pieces tile the block. -/
theorem coverA  (k0_h1 : k0_cond1 i (usedW T1) = 1#1) (hc1 : changedW i T0 = 1#1) (k0_h3 : ¬(k0_cond3 i (usedW T1) = 1#1)) (y : S256x2048.Idx) :
    ∃ pc ∈ (runA c i arg3 harg3 arg4 harg4 arg5 harg5 T0 T1 x0 x1 k0_h1 hc1 k0_h3).1, y ∈ pc.1.set :=
  View.cover_of_tiledL (runA c i arg3 harg3 arg4 harg4 arg5 harg5 T0 T1 x0 x1 k0_h1 hc1 k0_h3).1 S256x512.size (by sl_kernel_rfl) y

set_option backward.proofsInPublic true in
set_option maxHeartbeats 8000000 in
/-- A used block of the expert before: the scratch is read. -/
noncomputable def runB  (xa0 : Buf (Elt F) ((c : Thread nD τ).loc cc0_scratch0)) (k0_h1 : k0_cond1 i (usedW T1) = 1#1) (hc1 : ¬(changedW i T0 = 1#1)) (k0_h3 : ¬(k0_cond3 i (usedW T1) = 1#1)) :
    Σ' (out0 : List (View.Piece (Elt F) S256x2048 .f32)), { out1 : Buf (Elt F) ((c : Thread nD τ).loc cc0_scratch0) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ d, owns (c : Thread nD τ) arg5 fullShare d)
          ∗ (sc0.view.loc (c : Thread nD τ) ↦{fullShare} xa0)
          ∗ (iprop((arg3.view.loc (c : Thread nD τ) ↦[arg3.view.set]{fullShare} arg3.view.rep x0)
              ∗ (arg4.view.loc (c : Thread nD τ) ↦[arg4.view.set]{fullShare} arg4.view.rep x1)
              ∗ (tb0.view.loc (c : Thread nD τ) ↦{fullShare.right} T0)
              ∗ (tb1.view.loc (c : Thread nD τ) ↦{fullShare.right} T1)
              ∗ (∃ f, arg5.view.loc (c : Thread nD τ) ↦[arg5.view.set]{fullShare} arg5.view.writes (Elt F) f out0)
              ∗ (sc0.view.loc (c : Thread nD τ) ↦{fullShare} out1)) -∗ K ⟨⟩))
          ⊢ wp frame (wpE (defs₀ (F := F)) Variants.none (c : Thread nD τ) none) Set.univ (cc0_moe_down i tb0 (Memref.isWhole_whole _) tb1 (Memref.isWhole_whole _) arg3 harg3 arg4 harg4 arg5 harg5 sc0 (Memref.isWhole_whole _)) K } :=
  ⟨_, _, fun K => by
    unfold owns
    rw [cc0_moe_down_eq_skeleton]; unfold cc0_moe_down_skel
    iintro ⟨H0, H1, HT0, HT1, ⟨%d2, %f2, -, HO2⟩, HS0, Hk⟩
    have hS0 : sc0.IsWhole := Memref.isWhole_whole _
    have hT0 : tb0.IsWhole := Memref.isWhole_whole _
    have hT1 : tb1.IsWhole := Memref.isWhole_whole _
    sl_exec! (disch := first | (guard_target = k0_cond1 _ _ = _; exact k0_h1) | (exact hc1) | (guard_target = ¬(k0_cond3 _ _ = _); exact k0_h3))
    sl_step
    iapply Hk
    isplitl [H0]; · iexact H0
    isplitl [H1]; · iexact H1
    isplitl [HT0]; · iexact HT0
    isplitl [HT1]; · iexact HT1
    isplitl [HO2]; · iexists _; iexact HO2
    iexact HS0⟩

/-- Its pieces tile the block. -/
theorem coverB  (xa0 : Buf (Elt F) ((c : Thread nD τ).loc cc0_scratch0)) (k0_h1 : k0_cond1 i (usedW T1) = 1#1) (hc1 : ¬(changedW i T0 = 1#1)) (k0_h3 : ¬(k0_cond3 i (usedW T1) = 1#1)) (y : S256x2048.Idx) :
    ∃ pc ∈ (runB c i arg3 harg3 arg4 harg4 arg5 harg5 T0 T1 x0 x1 xa0 k0_h1 hc1 k0_h3).1, y ∈ pc.1.set :=
  View.cover_of_tiledL (runB c i arg3 harg3 arg4 harg4 arg5 harg5 T0 T1 x0 x1 xa0 k0_h1 hc1 k0_h3).1 S256x512.size (by sl_kernel_rfl) y

set_option backward.proofsInPublic true in
set_option maxHeartbeats 8000000 in
/-- An unused block: zeros. -/
noncomputable def runC  (xa0 : Buf (Elt F) ((c : Thread nD τ).loc cc0_scratch0)) (k0_h1 : ¬(k0_cond1 i (usedW T1) = 1#1)) (k0_h3 : k0_cond3 i (usedW T1) = 1#1) :
    Σ' (out0 : List (View.Piece (Elt F) S256x2048 .f32)), { out1 : Buf (Elt F) ((c : Thread nD τ).loc cc0_scratch0) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ d, owns (c : Thread nD τ) arg5 fullShare d)
          ∗ (sc0.view.loc (c : Thread nD τ) ↦{fullShare} xa0)
          ∗ (iprop((arg3.view.loc (c : Thread nD τ) ↦[arg3.view.set]{fullShare} arg3.view.rep x0)
              ∗ (arg4.view.loc (c : Thread nD τ) ↦[arg4.view.set]{fullShare} arg4.view.rep x1)
              ∗ (tb0.view.loc (c : Thread nD τ) ↦{fullShare.right} T0)
              ∗ (tb1.view.loc (c : Thread nD τ) ↦{fullShare.right} T1)
              ∗ (∃ f, arg5.view.loc (c : Thread nD τ) ↦[arg5.view.set]{fullShare} arg5.view.writes (Elt F) f out0)
              ∗ (sc0.view.loc (c : Thread nD τ) ↦{fullShare} out1)) -∗ K ⟨⟩))
          ⊢ wp frame (wpE (defs₀ (F := F)) Variants.none (c : Thread nD τ) none) Set.univ (cc0_moe_down i tb0 (Memref.isWhole_whole _) tb1 (Memref.isWhole_whole _) arg3 harg3 arg4 harg4 arg5 harg5 sc0 (Memref.isWhole_whole _)) K } :=
  ⟨_, _, fun K => by
    unfold owns
    rw [cc0_moe_down_eq_skeleton]; unfold cc0_moe_down_skel
    iintro ⟨H0, H1, HT0, HT1, ⟨%d2, %f2, -, HO2⟩, HS0, Hk⟩
    have hS0 : sc0.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = k0_cond3 _ _ = _; exact k0_h3))
    sl_step
    iapply Hk
    isplitl [H0]; · iexact H0
    isplitl [H1]; · iexact H1
    isplitl [HT0]; · iexact HT0
    isplitl [HT1]; · iexact HT1
    isplitl [HO2]; · iexists _; iexact HO2
    iexact HS0⟩

/-- Its piece is the block. -/
theorem coverC  (xa0 : Buf (Elt F) ((c : Thread nD τ).loc cc0_scratch0)) (k0_h1 : ¬(k0_cond1 i (usedW T1) = 1#1)) (k0_h3 : k0_cond3 i (usedW T1) = 1#1) (y : S256x2048.Idx) :
    ∃ pc ∈ (runC c i arg3 harg3 arg4 harg4 arg5 harg5 T0 T1 x0 x1 xa0 k0_h1 k0_h3).1, y ∈ pc.1.set :=
  View.cover_of_tiledL (runC c i arg3 harg3 arg4 harg4 arg5 harg5 T0 T1 x0 x1 xa0 k0_h1 k0_h3).1 S256x2048.size (by sl_kernel_rfl) y

end Cert.Proof.MoeDown

end
-- ==== Proof.MoeDownRuns.lean ====
/-
  What the three ways leave, in terms of the rounded weights: the scratch the weights' rounding, the block the product of
  the rows with them, or zeros.
-/
module

public import proofs.«01_k».proof.Proof.MoeDownBody
public import proofs.«01_k».proof.Proof.MoeUpRuns
public import Idealize.ShloMosaic.Lib.Pipeline.Value

@[expose] public section

set_option maxRecDepth 16384

noncomputable section

namespace Cert.Proof.MoeDown

open Cert.Kernel4Ideal Cert.Kernel4Ideal.Gen
open Idealize.ShloMosaic Idealize.ShloMosaic.TcCoe
open Cert.Proof.MoeUp (z2 z3)

variable {F : FTy → Type} [FloatOps F]

/-- An expert's weights, rounded. -/
def rnd (w : S1x1024x2048.Idx → Elt F .f32) : S1024x2048.Idx → Elt F .bf16 := k0_pay2 w

/-- The block's four quarters of columns, last first. -/
def pieces (x : S256x1024.Idx → Elt F .bf16) (a : S1024x2048.Idx → Elt F .bf16) : List (View.Piece (Elt F) S256x2048 .f32) :=
  [⟨Rect.unit ![0, 1536] S256x512.size inb_S256x2048_S256x512_0_1536, k0_pay3 x (View.ld a (Rect.unit ![0, 1536] S1024x512.size inb_S1024x2048_S1024x512_0_1536))⟩,
   ⟨Rect.unit ![0, 1024] S256x512.size inb_S256x2048_S256x512_0_1024, k0_pay3 x (View.ld a (Rect.unit ![0, 1024] S1024x512.size inb_S1024x2048_S1024x512_0_1024))⟩,
   ⟨Rect.unit ![0, 512] S256x512.size inb_S256x2048_S256x512_0_512, k0_pay3 x (View.ld a (Rect.unit ![0, 512] S1024x512.size inb_S1024x2048_S1024x512_0_512))⟩,
   ⟨Rect.unit ![0, 0] S256x512.size inb_S256x2048_S256x512_0_0, k0_pay3 x (View.ld a (Rect.unit ![0, 0] S1024x512.size inb_S1024x2048_S1024x512_0_0))⟩]

/-- A used block. -/
def blk (x : S256x1024.Idx → Elt F .bf16) (a : S1024x2048.Idx → Elt F .bf16) : S256x2048.Idx → Elt F .f32 := View.canon (pieces x a)

/-- The four stores have one text. -/
theorem pay4_eq (x : S256x1024.Idx → Elt F .bf16) (a : S1024x512.Idx → Elt F .bf16) : k0_pay4 x a = k0_pay3 x a := rfl
theorem pay5_eq (x : S256x1024.Idx → Elt F .bf16) (a : S1024x512.Idx → Elt F .bf16) : k0_pay5 x a = k0_pay3 x a := rfl
theorem pay6_eq (x : S256x1024.Idx → Elt F .bf16) (a : S1024x512.Idx → Elt F .bf16) : k0_pay6 x a = k0_pay3 x a := rfl

/-- A whole scratch, stored whole. -/
theorem whole_store {s : Shape} {e : EltTy} (v : View sig .tc .vmem s e) (f : v.ty.Contents (Elt F)) {off : Fin s.rank → ℕ} (h : off = fun _ => 0)
    (inb : ∀ a, off a + s.size a ≤ s.size a) (w : s.Idx → Elt F e) : v.read (Elt F) (v.writes (Elt F) f [⟨Rect.unit off s.size inb, w⟩]) = w := by
  subst h
  exact View.read_writes_whole v f w

theorem rd0 (v : View sig .tc .vmem S256x1024 .bf16) (x : S256x1024.Idx → Elt F .bf16) :
    View.readAt (Elt F) v (Rect.unit (s := S256x1024) ![0, 0] S256x1024.size inb_S256x1024_S256x1024_0_0).toLoadRect (v.rep x) = x := by
  rw [View.readAt_eq_ld, View.read_rep, View.ld_unit_zero z2]

theorem rd1 (v : View sig .tc .vmem S1x1024x2048 .f32) (x : S1x1024x2048.Idx → Elt F .f32) :
    View.readAt (Elt F) v (Rect.unit (s := S1x1024x2048) ![0, 0, 0] S1x1024x2048.size inb_S1x1024x2048_S1x1024x2048_0_0_0).toLoadRect (v.rep x) = x := by
  rw [View.readAt_eq_ld, View.read_rep, View.ld_unit_zero z3]

variable (c : Dev nD) (i : grid0.Coords) (arg3 : Memref sig .tc .vmem S256x1024 .bf16) (harg3 : arg3.IsWhole) (arg4 : Memref sig .tc .vmem S1x1024x2048 .f32) (harg4 : arg4.IsWhole) (arg5 : Memref sig .tc .vmem S256x2048 .f32) (harg5 : arg5.IsWhole) (T0 : (S224.Idx → Elt F .i32)) (T1 : (S1.Idx → Elt F .i32))
  (x0 : (S256x1024.Idx → Elt F .bf16)) (x1 : (S1x1024x2048.Idx → Elt F .f32))

theorem scr0 (w : S1024x2048.Idx → Elt F .bf16) (f) : (View.whole cc0_scratch0).writes (Elt F) f [⟨Rect.unit (s := S1024x2048) ![0, 0] S1024x2048.size inb_S1024x2048_S1024x2048_0_0, w⟩] = w :=
  by
  have h := whole_store (View.whole cc0_scratch0) f z2 inb_S1024x2048_S1024x2048_0_0 w
  rw [View.read_whole] at h
  exact h

theorem runA_scr0 (h1 h2 h3) : (runA c i arg3 harg3 arg4 harg4 arg5 harg5 T0 T1 x0 x1 h1 h2 h3).2.1 = rnd x1 := by
  unfold runA rnd
  dsimp only
  delta runA.sl.HS0_1
  exact (scr0 _ _).trans (by rw [rd1]; try rfl)

theorem covA0 (r : Rect S1024x2048) : sc0.view.readCov (runA.sl.HS0_1 arg4 x1) r.toLoadRect = View.ld (rnd x1) r := by
  have h : (View.whole cc0_scratch0).writes (Elt F) (View.whole cc0_scratch0).junk (runA.sl.HS0_1 arg4 x1) = rnd x1 := by
    delta runA.sl.HS0_1
    exact (scr0 _ _).trans (by rw [rd1]; rfl)
  exact (View.readAt_eq_ld _ _ _).trans (congrArg (fun f => View.ld f r) ((View.read_whole _ _).trans h))

theorem runA_out (h1 h2 h3) : (runA c i arg3 harg3 arg4 harg4 arg5 harg5 T0 T1 x0 x1 h1 h2 h3).1 = pieces x0 (rnd x1) := by
  unfold runA pieces
  dsimp only
  delta runA.sl.HO2_4 runA.sl.r_3 runA.sl.v20 runA.sl.v24 runA.sl.v28 runA.sl.v32
  rw [rd0, covA0, covA0, covA0, covA0, pay4_eq, pay5_eq, pay6_eq]

theorem runB_out (xa0) (h1 h2 h3) : (runB c i arg3 harg3 arg4 harg4 arg5 harg5 T0 T1 x0 x1 xa0 h1 h2 h3).1 = pieces x0 xa0 := by
  unfold runB pieces
  dsimp only
  delta runB.sl.HO2_4 runB.sl.r_3
  rw [rd0, pay4_eq, pay5_eq, pay6_eq]
  rfl

theorem runC_out (xa0) (h1 h3) : View.canon (runC c i arg3 harg3 arg4 harg4 arg5 harg5 T0 T1 x0 x1 xa0 h1 h3).1 = k0_pay1 := by
  unfold runC
  dsimp only
  delta runC.sl.HO2_1
  exact View.canon_cons_unit_zero z2 _ _ _

end Cert.Proof.MoeDown

end
-- ==== Proof.MoeDownPoints.lean ====
/-
  The points of the experts' second call, for any tables its grid runs at: which blocks are used, when the expert changes,
  and the blocks of the arrays a point is handed.
-/
module

public import proofs.«01_k».proof.Proof.MoeDownRuns
public import proofs.«01_k».proof.Proof.MoeUpPoints

@[expose] public section

set_option maxRecDepth 16384

noncomputable section

namespace Cert.Proof.MoeDown

open Cert.Kernel4Ideal Cert.Kernel4Ideal.Gen
open Idealize.ShloMosaic Idealize.ShloMosaic.TcCoe
open Cert.Proof.Dispatch (slt_one sge_one sle_one toInt_nat)
open Cert.Proof.MoeUp (flag or_one eq_one ne_one ixT ixO one_idx)

variable {F : FTy → Type} [FloatOps F]

/-! ## Words -/

theorem small (i : grid0.Coords) : (BitVec.ofNat 32 (i 0).val).toInt = ((i 0).val : Int) := by
  have hi : (i 0).val < 224 := (i 0).isLt
  rw [BitVec.toInt_eq_toNat_cond, BitVec.toNat_ofNat, Nat.mod_eq_of_lt (by omega), if_pos (by omega)]

/-- A block is used when its number is below the number of used ones. -/
theorem used_iff (i : grid0.Coords) (w : BitVec 32) : k0_cond1 i w = 1#1 ↔ ((i 0).val : Int) < w.toInt := by
  rw [← small i]; exact (flag _).trans slt_one
theorem unused_iff (i : grid0.Coords) (w : BitVec 32) : k0_cond3 i w = 1#1 ↔ w.toInt ≤ ((i 0).val : Int) := by
  rw [← small i]; exact (flag _).trans sge_one

theorem one_way (i : grid0.Coords) (w : BitVec 32) : (!(k0_cond1 i w == 1#1) && !(k0_cond3 i w == 1#1)) = false := by
  by_cases h : k0_cond1 i w = 1#1
  · simp [h]
  · have h' : k0_cond3 i w = 1#1 := (unused_iff i w).2 (by have := mt (used_iff i w).2 h; omega)
    simp [h']

/-! ## The tables' words at a point -/

theorem k0_off2_eq : ∀ i : grid0.Coords, k0_off2 i = ![(i 0).val - 1] := by decide +kernel

theorem usedW_eq (T1 : S1.Idx → Elt F .i32) : usedW T1 = T1 ixO := congrArg T1 (one_idx _)

theorem word_eq (T0 : S224.Idx → Elt F .i32) (off : Fin 1 → ℕ) (inb : ∀ a, off a + S1.size a ≤ S224.size a) (n : Fin 224) (h : off = ![n.val]) :
    View.readAt (Elt F) (tb0).view (Rect.unit (s := S224) off S1.size inb).toLoadRect T0 (Shape.Idx.first (numel1_S1.symm ▸ Nat.one_pos)) = T0 (ixT n) := by
  subst h
  refine congrArg T0 ?_
  funext a
  match a with
  | ⟨0, _⟩ =>
    apply Fin.ext
    have : ((Shape.Idx.first (s := S1) (numel1_S1.symm ▸ Nat.one_pos)) 0).val < 1 := ((Shape.Idx.first (s := S1) (numel1_S1.symm ▸ Nat.one_pos)) 0).isLt
    show n.val + 1 * ((Shape.Idx.first (s := S1) (numel1_S1.symm ▸ Nat.one_pos)) 0).val = n.val
    omega

theorem changed_not (i : grid0.Coords) (T0 : S224.Idx → Elt F .i32) (h : ¬ changedW i T0 = 1#1) :
    (i 0).val ≠ 0 ∧ ∀ n : Fin 224, n.val = (i 0).val - 1 → T0 (ixT (i 0)) = T0 (ixT n) := by
  have hi : (i 0).val < 224 := (i 0).isLt
  have h' : ¬ Scalar.ori _ _ = 1#1 := fun e => h ((flag _).2 e)
  rw [or_one, not_or, eq_one, ne_one, not_not] at h'
  refine ⟨fun h0 => h'.1 (by rw [h0]), fun n hn => ?_⟩
  have h2 := h'.2
  rw [word_eq T0 _ _ (i 0) (k0_off3_eq i), word_eq T0 _ _ n (by rw [k0_off2_eq i, hn])] at h2
  exact h2

/-! ## The arrays' blocks at a point -/

variable (a : (pcfg0 (F := F)).Adm) (m : (ℓ : Loc nD τ sig) → Buf (Elt F) ℓ)

abbrev cfgA : Pipeline.Cfg sig Λ₀ := cfg0 (F := F) a
abbrev T0 : S224.Idx → Elt F .i32 := a.1 0
abbrev T1 : S1.Idx → Elt F .i32 := a.1 1
abbrev crd (t : Fin (cfgA a).N) : grid0.Coords := grid0.coords t

theorem coord_val : ∀ t : Fin grid0.N, (grid0.coords t 0).val = t.val := by decide +kernel

/-- Window `w`'s block at point `t`. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- Row `y` of block `n` of the rows, and of expert `n`'s weights. -/
def ixX (n : ℕ) (y : S256x1024.Idx) : S57344x1024.Idx := fun b => match b with
  | ⟨0, _⟩ => Ring.bk 57344 (256 * n + (y 0).val)
  | ⟨1, _⟩ => y 1
def ixW (n : ℕ) (y : S1x1024x2048.Idx) : S32x1024x2048.Idx := fun b => match b with
  | ⟨0, _⟩ => Ring.bk 32 n
  | ⟨1, _⟩ => y 1
  | ⟨2, _⟩ => y 2

/-- The expert of a point's block, and that there is one. -/
abbrev exp (t : Fin (cfgA a).N) : ℕ := BitVec.toNat (T0 a (ixT (crd a t 0)))

theorem at_word (i : grid0.Coords) (inb) : a.1.at 0 (Rect.unit (s := S224) ![(Scalar.indexCast (BitVec.ofNat 32 (i 0).val)).toNat] S1.size inb) numel1_S1 = T0 a (ixT (i 0)) :=
  word_eq (T0 a) _ _ (i 0) (k0_off1_eq i)

theorem idx1 (i : grid0.Coords) : cc0_transform_1 k0_off1_inb numel1_S1 a.1 i = ![BitVec.toNat (T0 a (ixT (i 0))), 0, 0] := by
  exact congrArg (fun w : BitVec 32 => ![w.toNat, 0, 0]) (at_word a i (k0_off1_inb i))

theorem exp_lt (t : Fin (cfgA a).N) : exp a t < 32 := by
  obtain ⟨h, -⟩ := a.2.2 (crd a t)
  have h0 := h 0
  rw [idx1] at h0
  have h1 : (BitVec.toNat (T0 a (ixT (crd a t 0))) + 1) * 1 ≤ 32 := h0
  show BitVec.toNat (T0 a (ixT (crd a t 0))) < 32
  omega

theorem iblk1_at (c : Dev nD) (t : Fin (cfgA a).N) (y : S1x1024x2048.Idx) :
    iblk a m c (1 : Fin 3) t y = m ((c : Thread nD τ).loc main_arg3) (ixW (exp a t) y) := by
  unfold iblk
  show m ((c : Thread nD τ).loc main_arg3) ((((cfgA a).win (1 : Fin 3)).blk t).view.emb y) = _
  refine congrArg (m ((c : Thread nD τ).loc main_arg3)) ?_
  have he := exp_lt a t
  have hi := idx1 a (crd a t)
  have hy : (y 0).val < 1 := (y 0).isLt
  funext b
  match b with
  | ⟨0, _⟩ =>
    apply Fin.ext
    show cc0_transform_1 k0_off1_inb numel1_S1 a.1 (crd a t) 0 * 1 + 1 * (y 0).val = (Ring.bk 32 (exp a t)).val
    rw [hi, Ring.bk_val he]
    show exp a t * 1 + 1 * (y 0).val = exp a t
    omega
  | ⟨1, _⟩ =>
    apply Fin.ext
    show cc0_transform_1 k0_off1_inb numel1_S1 a.1 (crd a t) 1 * 1024 + 1 * (y 1).val = (y 1).val
    rw [hi]
    show 0 * 1024 + 1 * (y 1).val = (y 1).val
    omega
  | ⟨2, _⟩ =>
    apply Fin.ext
    show cc0_transform_1 k0_off1_inb numel1_S1 a.1 (crd a t) 2 * 2048 + 1 * (y 2).val = (y 2).val
    rw [hi]
    show 0 * 2048 + 1 * (y 2).val = (y 2).val
    omega

/-- Two points of one expert are handed the same weights. -/
theorem iblk1_same (c : Dev nD) (t t' : Fin (cfgA a).N) (h : T0 a (ixT (crd a t 0)) = T0 a (ixT (crd a t' 0))) :
    (iblk a m c (1 : Fin 3) t : S1x1024x2048.Idx → Elt F .f32) = iblk a m c (1 : Fin 3) t' :=
  funext fun y => (iblk1_at a m c t y).trans ((congrArg (fun w : BitVec 32 => m ((c : Thread nD τ).loc main_arg3) (ixW w.toNat y)) h).trans (iblk1_at a m c t' y).symm)

theorem idle2 (t : Fin (cfgA a).N) : (cfgA a).idle (2 : Fin 3) ((cfgA a).grid.coords t) = false := one_way _ _

theorem index_step : ∀ t : Fin grid0.N, t.val + 1 = grid0.N ∨ ∃ h : t.val + 1 < grid0.N, cc0_transform_2 (grid0.coords ⟨t.val + 1, h⟩) 0 ≠ cc0_transform_2 (grid0.coords t) 0 := by
  decide +kernel
theorem flush2 (t : Fin (cfgA a).N) : ((cfgA a).win (2 : Fin 3)).flush t = true := by
  rw [Pipeline.Window.flush_eq_flushF]
  unfold Pipeline.Window.flushF
  have h := index_step t
  rw [Bool.and_eq_true]
  refine ⟨rfl, ?_⟩
  rw [Bool.or_eq_true, decide_eq_true_eq, decide_eq_true_eq]
  rcases h with h | ⟨h, h'⟩
  · exact .inl h
  · exact .inr ⟨h, (0 : Fin 2), h'⟩

end Cert.Proof.MoeDown

end
-- ==== Proof.MoeDownLaunch.lean ====
/-
  The experts' second call: the grid's points in order, and the launch, for any float values and any tables.
-/
module

public import proofs.«01_k».proof.Proof.MoeDownPoints

@[expose] public section

set_option maxRecDepth 16384
set_option Elab.async false

noncomputable section

namespace Cert.Proof.MoeDown

open Cert.Kernel4Ideal Cert.Kernel4Ideal.Gen
open Cert.Proof.MoeUp (ixT)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra. -/
abbrev EP : Emb (UR sig nD τ) 𝕄 := emb₁

variable (a : (pcfg0 (F := F)).Adm) (m : (ℓ : Loc nD τ sig) → Buf (Elt F) ℓ) (ρ : Dev nD → PrngReg)

/-! ## The points' staging buffers -/

abbrev ms0 (t : Fin (cfgA a).N) : Memref sig .tc .vmem S256x1024 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x1024x2048 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S256x2048 .f32 := spec0_2.stage ((cfgA a).slots t (2 : Fin 3))
abbrev hs2 (t : Fin (cfgA a).N) : (ms2 a t).IsWhole := hstage0_2 (((cfgA a).slots t (2 : Fin 3)).cast nbuf0_2)

/-! ## What is kept between points -/

/-- Point `t`'s block is used. -/
abbrev Used (t : Fin (cfgA a).N) : Prop := k0_cond1 (crd a t) (usedW (T1 a)) = 1#1

/-- A point's expert's weights, rounded. -/
def rw1 (c : Dev nD) (t : Fin (cfgA a).N) : S1024x2048.Idx → Elt F .bf16 := rnd (iblk a m c (1 : Fin 3) t)

open Classical in
/-- The block of the result at a point. -/
def outB (c : Dev nD) (t : Fin (cfgA a).N) : S256x2048.Idx → Elt F .f32 :=
  if Used a t then blk (iblk a m c (0 : Fin 3) t) (rw1 a m c t) else k0_pay1

/-- Before position `n`: after a used point the scratch holds its expert's weights, rounded. -/
def Phi (c : Dev nD) (n : ℕ) : sProp 𝕄 :=
  iprop((∃ v, ⌜∀ s : Fin (cfgA a).N, s.val + 1 = n → Used a s → v = rw1 a m c s⌝ ∗ (sc0.view.loc (c : Thread nD τ) ↦{fullShare} v))
    ∗ (tb0.view.loc (c : Thread nD τ) ↦{fullShare.right} T0 a) ∗ (tb1.view.loc (c : Thread nD τ) ↦{fullShare.right} T1 a))

/-- The proof data of the one pipeline. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => outB a m c t
  Φ t := Phi a m c t.val
  q _ := fullShare
  owed _ := 0

theorem after0 (c : Dev nD) (t : Fin (cfgA a).N) : (dats a m 0 c).after (0 : Fin 3) t = iblk a m c (0 : Fin 3) t := rfl
theorem after1 (c : Dev nD) (t : Fin (cfgA a).N) : (dats a m 0 c).after (1 : Fin 3) t = iblk a m c (1 : Fin 3) t := rfl
theorem after2 (c : Dev nD) (t : Fin (cfgA a).N) : (dats a m 0 c).after (2 : Fin 3) t = outB a m c t := rfl

theorem before0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after1]; unfold Dat.blockOf iblk; rfl) t d).trans
    (by unfold Dat.fetched Dat.blockOf iblk; rfl)

/-- A used point of the expert before: the point before is used, of the same weights. -/
theorem before_same (c : Dev nD) (t : Fin (cfgA a).N) (hu : Used a t) (hc : ¬ changedW (crd a t) (T0 a) = 1#1) :
    ∃ s : Fin (cfgA a).N, s.val + 1 = t.val ∧ Used a s ∧ rw1 a m c s = rw1 a m c t := by
  obtain ⟨h0, hn⟩ := changed_not (crd a t) (T0 a) hc
  have ht := coord_val t
  have hlt : t.val - 1 < (cfgA a).N := lt_of_le_of_lt (Nat.sub_le _ _) t.isLt
  have hs := coord_val ⟨t.val - 1, hlt⟩
  have hs' : (grid0.coords ⟨t.val - 1, hlt⟩ 0).val = t.val - 1 := hs
  have hs1 : (crd a ⟨t.val - 1, hlt⟩ 0).val = (crd a t 0).val - 1 := by
    show (grid0.coords ⟨t.val - 1, hlt⟩ 0).val = (grid0.coords t 0).val - 1
    omega
  have h00 : (grid0.coords t 0).val ≠ 0 := h0
  have e : T0 a (ixT (crd a ⟨t.val - 1, hlt⟩ 0)) = T0 a (ixT (crd a t 0)) := (hn (crd a ⟨t.val - 1, hlt⟩ 0) hs1).symm
  refine ⟨⟨t.val - 1, hlt⟩, by show t.val - 1 + 1 = t.val; omega, (used_iff _ _).2 ?_, congrArg rnd (iblk1_same a m c _ t e)⟩
  have hu' := (used_iff (crd a t) _).1 hu
  have : (((crd a ⟨t.val - 1, hlt⟩ 0).val : ℕ) : Int) ≤ ((crd a t 0).val : Int) := by rw [hs1]; omega
  omega

/-! ## The body at a point -/

/-- The body at point `t` on its staging buffers. -/
abbrev bodyAt (t : Fin (cfgA a).N) : Prog (TpuEff nD τ sig (Elt F) Λ₀ .tc) PUnit :=
  cc0_moe_down (crd a t) (Memref.whole main_arg1) (Memref.isWhole_whole _) (Memref.whole main_arg2) (Memref.isWhole_whole _) (ms0 a t) (hs0 a t) (ms1 a t) (hs1 a t) (ms2 a t) (hs2 a t) (Memref.whole cc0_scratch0) (Memref.isWhole_whole _)

set_option maxHeartbeats 4000000 in
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 3) t d))
        ∗ (∃ d, owns (c : Thread nD τ) (ms1 a t) fullShare ((dats a m 0 c).before (1 : Fin 3) t d))
        ∗ (∃ d, owns (c : Thread nD τ) (ms2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle2 a t]
  simp only [before0, before1, after0, after1, after2]
  rewrite [show (dats a m 0 c).Φ t.succ = Phi a m c (t.val + 1) from rfl, show (dats a m 0 c).Φ t.castSucc = Phi a m c t.val from rfl,
    show (dats a m 0 c).owesAt () t.succ = (dats a m 0 c).owesAt () t.castSucc from rfl]
  unfold Phi
  by_cases k0_h1 : Used a t
  · have k0_h3 : ¬ (k0_cond3 (crd a t) (usedW (T1 a)) = 1#1) := fun h => by
      have h1 := (used_iff _ _).1 k0_h1
      have h3 := (unused_iff _ _).1 h
      omega
    by_cases hc1 : changedW (crd a t) (T0 a) = 1#1
    · iintro ⟨⟨⟨%a0, %ha0, HS0⟩, HT0, HT1⟩, Ho, ⟨%d0, H0⟩, ⟨%d1, H1⟩, ⟨%d2, H2⟩⟩
      iapply ((runA c (crd a t) (ms0 a t) (hs0 a t) (ms1 a t) (hs1 a t) (ms2 a t) (hs2 a t) (T0 a) (T1 a) (iblk a m c (0 : Fin 3) t) (iblk a m c (1 : Fin 3) t) k0_h1 hc1 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro s hs hu
            obtain rfl : s = t := Fin.ext (by omega)
            exact runA_scr0 _ _ _ _ _ _ _ _ _ _ _ _ _ _ _
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (View.read_writes_eq_canon _ _ _ (coverA c _ _ _ _ _ _ _ _ _ _ _ _ _ _)).trans ?_
        rw [runA_out]
        unfold outB
        rw [if_pos k0_h1]
        rfl
    · obtain ⟨s, hs, hus, e1⟩ := before_same a m c t k0_h1 hc1
      iintro ⟨⟨⟨%a0, %ha0, HS0⟩, HT0, HT1⟩, Ho, ⟨%d0, H0⟩, ⟨%d1, H1⟩, ⟨%d2, H2⟩⟩
      have g0 : a0 = rw1 a m c t := (ha0 s hs hus).trans e1
      iapply ((runB c (crd a t) (ms0 a t) (hs0 a t) (ms1 a t) (hs1 a t) (ms2 a t) (hs2 a t) (T0 a) (T1 a) (iblk a m c (0 : Fin 3) t) (iblk a m c (1 : Fin 3) t) a0 k0_h1 hc1 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro s' hs' hu
            obtain rfl : s' = t := Fin.ext (by omega)
            exact g0
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (View.read_writes_eq_canon _ _ _ (coverB c _ _ _ _ _ _ _ _ _ _ _ _ _ _ _)).trans ?_
        rw [runB_out, g0]
        unfold outB
        rw [if_pos k0_h1]
        rfl
  · have k0_h3 : k0_cond3 (crd a t) (usedW (T1 a)) = 1#1 := (unused_iff _ _).2 (by
      have h1 := mt (used_iff (crd a t) (usedW (T1 a))).2 k0_h1
      omega)
    iintro ⟨⟨⟨%a0, %ha0, HS0⟩, HT0, HT1⟩, Ho, ⟨%d0, H0⟩, ⟨%d1, H1⟩, ⟨%d2, H2⟩⟩
    iapply ((runC c (crd a t) (ms0 a t) (hs0 a t) (ms1 a t) (hs1 a t) (ms2 a t) (hs2 a t) (T0 a) (T1 a) (iblk a m c (0 : Fin 3) t) (iblk a m c (1 : Fin 3) t) a0 k0_h1 k0_h3).2.2 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e2, H2⟩, HS0⟩
    isplitl [HS0 HT0 HT1]
    · isplitl [HS0]
      · iexists _; isplitr; swap
        · iexact HS0
        · ipureintro; intro s hs hu
          obtain rfl : s = t := Fin.ext (by omega)
          exact absurd hu k0_h1
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro
      refine (View.read_writes_eq_canon _ _ _ (coverC c _ _ _ _ _ _ _ _ _ _ _ _ _ _)).trans ?_
      rw [runC_out]
      unfold outB
      rw [if_neg k0_h1]

theorem body_obligation (c : Dev nD) : BodyObligation (dats a m 0 c) (defs₀ (F := F)) Variants.none () Set.univ := fun t => by
  rw [bigSep_W0]
  exact sound_body a m c t

/-! ## The launch -/

abbrev pcs : Fin 1 → Pipeline.Cfg sig Λ₀ := Pipeline.pin (pcfgs (F := F)) fun _ => a

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%a0, HS0⟩⟩
  isplitl [HS0]
  · iexists a0; isplitr; swap
    · iexact HS0
    · ipureintro; intro s h; omega
  isplitl [HT0]
  · iexact HT0
  iexact HT1

theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (cfgA a).N from rfl]
  unfold Phi
  iintro ⟨⟨%a0, -, HS0⟩, -, -⟩
  isplitr; · iempintro
  iexists a0; iexact HS0

/-- Every array ends at what the points make of it, every table as it was. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
theorem run_quiescent (hp : ∀ (c : Dev nD) (j : Fin 2), m ((c : Thread nD τ).loc (pre0.ref j)) = a.1 j) :
    θ_run (defs (F := F)) (onTc (τ := τ) (main (F := F))) ⟨m, fun _ => 0, ρ⟩ (fun r => QC a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Proof.MoeDown

end
-- ==== Proof.MoeDownPre.lean ====
/-
  The second call's tables as the precondition leaves them: every block's expert is one of the thirty-two, and some block is
  used. The launch's side condition on the tables follows, and both frames.
-/
module

public import proofs.«01_k».proof.Proof.MoeDownLaunch
public import proofs.«01_k».proof.Proof.MoeUpPre
public import proofs.«01_k».proof.Proof.Gen.Pre_blocks_in_range
public import proofs.«01_k».proof.Proof.Gen.Kernel4

@[expose] public section

set_option maxRecDepth 400000

noncomputable section

namespace Cert.Proof.MoeDown

open Cert.Kernel4Ideal Cert.Kernel4Ideal.Gen
open Idealize.ShloMosaic Idealize.ShloMosaic.TcCoe Idealize.SL.Sem
open Cert.Proof.Dispatch (and_one slt_one sge_one sle_one toInt_nat)
open Cert.Proof.MoeUp (Ranges row_word ixT ixO one_idx)

attribute [local instance] Cert.Pre_blocks_in_range.Gen.facts Cert.Kernel4.Gen.facts

variable {F : FTy → Type} [FloatOps F]

theorem ranges_of {x : S57344x1024.Idx → F .bf16} {f : S224.Idx → BitVec 32} {g : S1.Idx → BitVec 32} {u : S32x1024x2048.Idx → F .f32}
    (h : (Cert.Pre_blocks_in_range.fn (F := F) x f g u).1 = (fun _ => 1#1) ∧ (Cert.Pre_blocks_in_range.fn (F := F) x f g u).2 = (fun _ => 1#1)) :
    Ranges f g := by
  obtain ⟨h1, h2⟩ := h
  refine ⟨fun n => ?_, ?_⟩
  · have e : IntOp.andi (IntOp.cmpi .sge (f n) 0#32) (IntOp.cmpi .slt (f n) 32#32) = 1#1 := congrFun h1 n
    obtain ⟨a, b⟩ := and_one.1 e
    have a := sge_one.1 a
    have b := slt_one.1 b
    rw [show (0#32 : BitVec 32).toInt = 0 from by decide] at a
    rw [show (32#32 : BitVec 32).toInt = 32 from by decide, toInt_nat a] at b
    exact ⟨a, by omega⟩
  · have a := sge_one.1 (show IntOp.cmpi .sge (g ixO) 1#32 = 1#1 from congrFun h2 ixO)
    rw [show (1#32 : BitVec 32).toInt = 1 from by decide] at a
    exact a

/-- The tables in memory. -/
abbrev tables (m : (ℓ : Loc nD τ sig) → Buf (Elt F) ℓ) : pre0.Contents (Elt F) := fun k => m (((0 : Dev nD) : Thread nD τ).loc (pre0.ref k))

/-- The window of the rows reads the number of used blocks. -/
theorem idx0_eq (pf : pre0.Contents (Elt F)) (i : grid0.Coords) :
    cc0_transform_0 inb_S1_S1_0 numel1_S1 pf i = ![(Scalar.minsi (BitVec.ofNat 32 (i 0).val) (Scalar.subi (pf 1 ixO : BitVec 32) 1#32)).toNat, 0] :=
  congrArg (fun w : BitVec 32 => ![(Scalar.minsi (BitVec.ofNat 32 (i 0).val) (Scalar.subi w 1#32)).toNat, 0]) (congrArg (pf 1 : S1.Idx → BitVec 32) (one_idx _))
theorem idx1_eq (pf : pre0.Contents (Elt F)) (i : grid0.Coords) :
    cc0_transform_1 k0_off1_inb numel1_S1 pf i = ![BitVec.toNat (pf 0 (ixT (i 0))), 0, 0] :=
  congrArg (fun w : BitVec 32 => ![w.toNat, 0, 0]) (word_eq (pf 0) _ (k0_off1_inb i) (i 0) (k0_off1_eq i))

theorem ok_of (m : (ℓ : Loc nD τ sig) → Buf (Elt F) ℓ) (h : Ranges (tables m 0) (tables m 1)) : ok0 (tables m) := by
  have he : ∀ i : grid0.Coords, ∀ b, (cc0_transform_1 k0_off1_inb numel1_S1 (tables m) i b + 1) * S1x1024x2048.size b ≤ S32x1024x2048.size b := fun i b => by
    have hl : BitVec.toNat (tables m 0 (ixT (i 0))) < 32 := (h.expert (ixT (i 0))).2
    rw [idx1_eq]
    match b with
    | ⟨0, _⟩ => show (BitVec.toNat (tables m 0 (ixT (i 0))) + 1) * 1 ≤ 32; omega
    | ⟨1, _⟩ => show (0 + 1) * 1024 ≤ 1024; omega
    | ⟨2, _⟩ => show (0 + 1) * 2048 ≤ 2048; omega
  refine ⟨fun i => ⟨fun b => ?_, .inr (Affine.block_words_dvd (by decide) (by decide))⟩, fun i => ⟨he i, .inl rfl⟩⟩
  have hl := (row_word (n := (i 0).val) (i 0).isLt h.used).1
  rw [idx0_eq]
  match b with
  | ⟨0, _⟩ => show (BitVec.toNat _ + 1) * 256 ≤ 57344; omega
  | ⟨1, _⟩ => show (0 + 1) * 1024 ≤ 1024; omega

/-- The tables the launch runs at. -/
def adm (m : (ℓ : Loc nD τ sig) → Buf (Elt F) ℓ) (h : Ranges (tables m 0) (tables m 1)) : (pcfg0 (F := F)).Adm := ⟨tables m, ok_of m h⟩

/-- What the launch leaves: its result, its arguments as they were. -/
def Post (m : (ℓ : Loc nD τ sig) → Buf (Elt F) ℓ) (h : Ranges (tables m 0) (tables m 1)) : PUnit × MemSt nD τ sig (Elt F) → Prop := fun r =>
  (∀ c : Dev nD, r.2.mem ((c.tc : Thread nD τ).loc main_v0) = (dats (adm m h) m 0 c).arrAt (2 : Fin 3) (cfgA (adm m h)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

theorem run_post (m : (ℓ : Loc nD τ sig) → Buf (Elt F) ℓ) (h : Ranges (tables m 0) (tables m 1)) (ρ : Dev nD → PrngReg) :
    θ_run (defs (F := F)) (onTc (τ := τ) (main (F := F))) ⟨m, fun _ => 0, ρ⟩ (Post m h) :=
  (θ_run defs _ _).mono (fun r hr => ⟨fun c => ⟨(hr.1 c).1 (2 : Fin 3),
      ((hr.1 c).1 (0 : Fin 3)).trans ((dats (adm m h) m 0 c).arrAt_in (0 : Fin 3) rfl _),
      ((hr.1 c).2 0).trans (by obtain rfl : c = 0 := Subsingleton.elim _ _; rfl),
      ((hr.1 c).2 1).trans (by obtain rfl : c = 0 := Subsingleton.elim _ _; rfl),
      ((hr.1 c).1 (1 : Fin 3)).trans ((dats (adm m h) m 0 c).arrAt_in (1 : Fin 3) rfl _)⟩, hr.2⟩)
    (run_quiescent (adm m h) m ρ (fun c j => by obtain rfl : c = 0 := Subsingleton.elim _ _; rfl))

/-! ## The two programs have one text -/

theorem bodies_same : Cert.Kernel4.defs₀ (F := F) = Cert.Kernel4Ideal.defs₀ := by
  unfold Cert.Kernel4.defs₀ Cert.Kernel4Ideal.defs₀
  refine congrArg Defs.onTc (funext fun l => ?_)
  match l with
  | ⟨0, _⟩ => funext ⟨t, s⟩; rfl
theorem defs_same : Cert.Kernel4.defs (F := F) = Cert.Kernel4Ideal.defs := congrArg (Pipeline.defs Cert.Kernel4Ideal.pcfgs) bodies_same
theorem run_same (m) (ρ) (Q) : θ_run (Cert.Kernel4.defs (F := F)) (onTc (τ := Cert.Kernel4.τ) (Cert.Kernel4.main (F := F))) ⟨m, fun _ => 0, ρ⟩ Q
  = θ_run (Cert.Kernel4Ideal.defs (F := F)) (onTc (τ := Cert.Kernel4Ideal.τ) (Cert.Kernel4Ideal.main (F := F))) ⟨m, fun _ => 0, ρ⟩ Q :=
  congrArg (fun d => θ_run d (onTc (τ := Cert.Kernel4Ideal.τ) (Cert.Kernel4Ideal.main (F := F))) ⟨m, fun _ => 0, ρ⟩ Q) defs_same

end Cert.Proof.MoeDown

end
-- ==== Proof.MoeDownSpec.lean ====
/- The experts' second product at one row and one column. -/
module

public import proofs.«01_k».proof.Proof.MoeUpSpec

@[expose] public section

noncomputable section

namespace Cert.Proof.MoeDown

open Idealize.ShloMosaic
open Cert.Proof.MoeUp (expert used)

open Classical in
/-- The result array as one function of the arguments. -/
def G (x : (⟨2, ![57344, 1024]⟩ : Shape).Idx → EReal) (f : (⟨1, ![224]⟩ : Shape).Idx → BitVec 32) (g : (⟨1, ![1]⟩ : Shape).Idx → BitVec 32)
    (u : (⟨3, ![32, 1024, 2048]⟩ : Shape).Idx → EReal) : (⟨2, ![57344, 2048]⟩ : Shape).Idx → EReal :=
  fun i => if used g (i 0) then ∑ k : Fin 1024, x (ix2 (i 0) k) * u (ix3 (expert f (i 0)) k (i 1)) else 0

end Cert.Proof.MoeDown

end
-- ==== Proof.MoeDownValue.lean ====
/- The experts' second product: what each block of the launch's result holds, and the array it leaves. -/
module

public import proofs.«01_k».proof.Proof.MoeDownPre
public import proofs.«01_k».proof.Proof.MoeDownSpec
public import Idealize.ShloMosaic.Lib.Pipeline.ValueKit

@[expose] public section

set_option maxRecDepth 16384

noncomputable section

namespace Cert.Proof.MoeDown

open Cert.Kernel4Ideal Cert.Kernel4Ideal.Gen
open Idealize.ShloMosaic Idealize.ShloMosaic.TcCoe Idealize.SL.Sem
open Cert.Proof.MoeUp (Ranges row_word ixT ixO expert used)

theorem rnd_apply (w : S1x1024x2048.Idx → Elt Ideal .f32) (k : Fin 1024) (j : Fin 2048) : rnd w (ix2 k j) = w (ix3 0 k j) := by
  pointwise [rnd, k0_pay2]

theorem pay1_apply (y : S256x2048.Idx) : (k0_pay1 (F := Ideal)) y = (0 : EReal) := by
  pointwise [k0_pay1]

/-- A row's product with a column. -/
def dot (x u : Fin 1024 → EReal) : EReal := ∑ k, x k * u k

theorem pay3_apply (x : S256x1024.Idx → Elt Ideal .bf16) (a : S1024x512.Idx → Elt Ideal .bf16) (j : S256x512.Idx) :
    k0_pay3 x a j = dot (fun k => x (ix2 (j 0) k)) (fun k => a (ix2 k (j 1))) := by
  pointwise [k0_pay3, dot]

/-- A block of the result over the rows `x` and the weights `a`. -/
def block (x : S256x1024.Idx → Elt Ideal .bf16) (a : S1024x2048.Idx → Elt Ideal .bf16) : S256x2048.Idx → Elt Ideal .f32 :=
  fun y => dot (fun k => x (ix2 (y 0) k)) (fun k => a (ix2 k (y 1)))

/-- One store's payload, over the weights' columns from `off`. -/
theorem part_apply (off : ℕ) (x : S256x1024.Idx → Elt Ideal .bf16) (a : S1024x2048.Idx → Elt Ideal .bf16)
    (hw : ∀ a, (![0, off] : Fin 2 → ℕ) a + S1024x512.size a ≤ S1024x2048.size a)
    (ho : ∀ a, (![0, off] : Fin 2 → ℕ) a + S256x512.size a ≤ S256x2048.size a)
    (j : (Rect.unit (s := S256x2048) ![0, off] S256x512.size ho).shape.Idx) :
    k0_pay3 x (View.ld a (Rect.unit (s := S1024x2048) ![0, off] S1024x512.size hw)) j
      = block x a ((Rect.unit (s := S256x2048) ![0, off] S256x512.size ho).emb j) := by
  refine (pay3_apply _ _ _).trans ?_
  have h : ∀ (w : S1024x2048.Idx → Elt Ideal .bf16) (k : Fin 1024), View.ld w (Rect.unit (s := S1024x2048) ![0, off] S1024x512.size hw) (ix2 k (j 1))
      = w (ix2 k ((Rect.unit (s := S256x2048) ![0, off] S256x512.size ho).emb j 1)) := fun w k => by
    refine View.ld_unit_apply_of _ _ _ _ _ _ fun a => ?_
    fin_cases a
    · simp
    · simp [Rect.emb_apply]
  unfold block
  refine congrArg₂ dot (funext fun k => ?_) (funext fun k => h a k)
  exact congrArg x (congrArg₂ ix2 (Fin.ext (by simp [Rect.emb_apply])) rfl)

theorem blk_eq (x : S256x1024.Idx → Elt Ideal .bf16) (a : S1024x2048.Idx → Elt Ideal .bf16) : blk x a = block x a := by
  funext y
  unfold blk
  refine View.canon_apply_of_pieces (block x a) _ (fun p hp => ?_) y (View.cover_of_tiledL (pieces x a) S256x512.size (by sl_kernel_rfl) y)
  unfold pieces at hp
  simp only [List.mem_cons, List.mem_nil_iff, or_false] at hp
  rcases hp with rfl | rfl | rfl | rfl
  · exact part_apply 1536 x a inb_S1024x2048_S1024x512_0_1536 inb_S256x2048_S256x512_0_1536
  · exact part_apply 1024 x a inb_S1024x2048_S1024x512_0_1024 inb_S256x2048_S256x512_0_1024
  · exact part_apply 512 x a inb_S1024x2048_S1024x512_0_512 inb_S256x2048_S256x512_0_512
  · exact part_apply 0 x a inb_S1024x2048_S1024x512_0_0 inb_S256x2048_S256x512_0_0

variable (m : (ℓ : Loc nD τ sig) → Buf (Elt Ideal) ℓ) (h : Ranges (tables m 0) (tables m 1))

theorem lt224 (t : Fin grid0.N) : t.val < 224 := Nat.lt_of_lt_of_eq t.isLt (show grid0.N = 224 from by decide +kernel)

/-- A used point is handed its own block of rows. -/
theorem rows_at (c : Dev nD) (t : Fin grid0.N) (hu : (t.val : Int) < BitVec.toInt (tables m 1 ixO)) (r : Fin 256) (k : Fin 1024) :
    iblk (adm m h) m c (0 : Fin 3) t (ix2 r k)
      = m ((c.tc : Thread nD τ).loc main_arg0) (ix2 ⟨t.val * 256 + r.val, by have := lt224 t; omega⟩ k) := by
  unfold iblk
  show m ((c : Thread nD τ).loc main_arg0) ((((cfgA (adm m h)).win (0 : Fin 3)).blk t).view.emb (ix2 r k)) = _
  refine congrArg (m ((c : Thread nD τ).loc main_arg0)) ?_
  have hi := idx0_eq (tables m) (grid0.coords t)
  have hw := (row_word (n := (grid0.coords t 0).val) (grid0.coords t 0).isLt h.used).2 (by rw [coord_val]; exact hu)
  rw [hw, coord_val] at hi
  funext b
  match b with
  | ⟨0, _⟩ =>
    apply Fin.ext
    show cc0_transform_0 inb_S1_S1_0 numel1_S1 (tables m) (grid0.coords t) 0 * 256 + 1 * r.val = t.val * 256 + r.val
    rw [hi]
    show t.val * 256 + 1 * r.val = _
    omega
  | ⟨1, _⟩ =>
    apply Fin.ext
    show cc0_transform_0 inb_S1_S1_0 numel1_S1 (tables m) (grid0.coords t) 1 * 1024 + 1 * k.val = k.val
    rw [hi]
    show 0 * 1024 + 1 * k.val = k.val
    omega

/-- The result's array as the launch's arguments determine it. -/
abbrev res (c : Dev nD) : Vec Ideal S57344x2048 .f32 :=
  G (m ((c.tc : Thread nD τ).loc main_arg0)) (m ((c.tc : Thread nD τ).loc main_arg1)) (m ((c.tc : Thread nD τ).loc main_arg2))
    (m ((c.tc : Thread nD τ).loc main_arg3))

theorem idx2_eq (i : grid0.Coords) : cc0_transform_2 i = ![(i 0).val, 0] := by
  have hi : (i 0).val < 224 := (i 0).isLt
  have e : (BitVec.ofNat 32 (i 0).val).toNat = (i 0).val := by rw [BitVec.toNat_ofNat, Nat.mod_eq_of_lt (by omega)]
  exact congrArg (fun n : ℕ => (![n, 0] : Fin 2 → ℕ)) e

theorem emb2 (t : Fin grid0.N) (y : S256x2048.Idx) :
    ((((cfgA (adm m h)).win (2 : Fin 3)).blk t).view.emb y : S57344x2048.Idx)
      = (ix2 ⟨t.val * 256 + (y 0).val, by have := lt224 t; have : (y 0).val < 256 := (y 0).isLt; omega⟩ (y 1) : S57344x2048.Idx) := by
  have hi := idx2_eq (grid0.coords t)
  rw [coord_val] at hi
  funext b
  match b with
  | ⟨0, _⟩ =>
    apply Fin.ext
    show cc0_transform_2 (grid0.coords t) 0 * 256 + 1 * (y 0).val = t.val * 256 + (y 0).val
    rw [hi]
    show t.val * 256 + 1 * (y 0).val = _
    omega
  | ⟨1, _⟩ =>
    apply Fin.ext
    show cc0_transform_2 (grid0.coords t) 1 * 2048 + 1 * (y 1).val = (y 1).val
    rw [hi]
    show 0 * 2048 + 1 * (y 1).val = (y 1).val
    omega

theorem expert_eq (t : Fin grid0.N) (n : Fin 57344) (hn : n.val / 256 = t.val) :
    expert (tables m 0) n = Ring.bk 32 (exp (adm m h) t) := by
  unfold expert
  refine congrArg (fun q => Ring.bk 32 (BitVec.toNat (tables m 0 (ixT q)))) (Fin.ext ?_)
  rw [coord_val]; exact hn

theorem ixW_eq (n : ℕ) (k : Fin 1024) (j : Fin 2048) : ixW n (ix3 0 k j) = ix3 (Ring.bk 32 n) k j := by
  funext b
  match b with
  | ⟨0, _⟩ => rfl
  | ⟨1, _⟩ => rfl
  | ⟨2, _⟩ => rfl

/-- What a point writes back is its block of the result. -/
theorem flushed_eq (c : Dev nD) (t : Fin grid0.N) :
    (dats (adm m h) m 0 c).flushed (2 : Fin 3) t = (((cfgA (adm m h)).win (2 : Fin 3)).blk t).view.read (Elt Ideal) (res m c) := by
  obtain rfl : c = 0 := Subsingleton.elim _ _
  refine Eq.trans (b := outB (adm m h) m 0 t) rfl ?_
  funext y
  show _ = res m 0 ((((cfgA (adm m h)).win (2 : Fin 3)).blk t).view.emb y)
  rw [emb2]
  have hy : (y 0).val < 256 := (y 0).isLt
  have hn : (t.val * 256 + (y 0).val) / 256 = t.val := by omega
  have hu : Used (adm m h) t ↔ (t.val : Int) < BitVec.toInt (tables m 1 ixO) := by
    refine (used_iff _ _).trans ?_
    rw [usedW_eq, coord_val]
    rfl
  have hr : used (tables m 1) ⟨t.val * 256 + (y 0).val, by have := lt224 t; omega⟩ ↔ (t.val : Int) < BitVec.toInt (tables m 1 ixO) := by
    unfold used
    rw [hn]
  unfold outB res G
  by_cases hd : (t.val : Int) < BitVec.toInt (tables m 1 ixO)
  · refine (congrFun ((if_pos (hu.2 hd)).trans (blk_eq _ _)) y).trans (Eq.trans ?_ (if_pos (hr.2 hd)).symm)
    unfold block
    refine congrArg₂ dot (funext fun k => rows_at m h 0 t hd (y 0) k) (funext fun k => ?_)
    refine (rnd_apply _ k (y 1)).trans ((iblk1_at (adm m h) m 0 t (ix3 0 k (y 1))).trans (congrArg (m (((0 : Dev nD) : Thread nD τ).loc main_arg3)) ?_))
    refine (ixW_eq _ k (y 1)).trans (congrArg (fun e => ix3 e k (y 1)) ?_)
    exact (expert_eq m h t _ hn).symm
  · exact (congrFun (if_neg (fun e => hd (hu.1 e))) y).trans ((pay1_apply y).trans (if_neg (fun e => hd (hr.1 e))).symm)

/-- Every index of the result is in some point's block. -/
theorem covered (i : S57344x2048.Idx) :
    ∃ t : Fin grid0.N, ((cfgA (adm m h)).win (2 : Fin 3)).flush t = true ∧ i ∈ (((cfgA (adm m h)).win (2 : Fin 3)).blk t).view.set := by
  have hi : (i 0).val < 57344 := (i 0).isLt
  refine ⟨⟨(i 0).val / 256, by show _ < grid0.N; rw [show grid0.N = 224 from by decide +kernel]; omega⟩, flush2 (adm m h) _, ?_⟩
  have hm := (((cfgA (adm m h)).win (2 : Fin 3)).blk ⟨(i 0).val / 256, by show _ < grid0.N; rw [show grid0.N = 224 from by decide +kernel]; omega⟩).view.emb_mem_set
    (ix2 ⟨(i 0).val % 256, Nat.mod_lt _ (by decide)⟩ (i 1) : S256x2048.Idx)
  rw [emb2] at hm
  refine cast (congrArg (· ∈ _) ?_) hm
  refine (congrArg₂ ix2 (Fin.ext ?_) rfl).trans (eq_ix2 i).symm
  show (i 0).val / 256 * 256 + (i 0).val % 256 = (i 0).val
  omega

theorem final (c : Dev nD) : (dats (adm m h) m 0 c).arrAt (2 : Fin 3) (cfgA (adm m h)).N = res m c :=
  (dats (adm m h) m 0 c).arrAt_eq_of_cover (2 : Fin 3) (res m c) (fun t _ => flushed_eq m h c t) (covered m h)

end Cert.Proof.MoeDown

end
-- ==== Proof.MoeDownRef.lean ====
/- The experts' second product's reference, read at an index. -/
module

public import proofs.«01_k».proof.Proof.Gen.Reference4Ideal.Run
public import proofs.«01_k».proof.Proof.MoeDownSpec
public import proofs.«01_k».proof.Proof.MoeUpRef

@[expose] public section

set_option maxRecDepth 16384

noncomputable section

namespace Cert.Proof.MoeDown

open Cert.Reference4Ideal Idealize.ShloMosaic Idealize.ShloMosaic.TcCoe Idealize.SL.Sem
open Cert.Proof.Dispatch (slt_one toInt_nat)
open Cert.Proof.MoeUp (ixT ixO one_idx expert used gather_matrix)

/-- The reference over the gathered weights. -/
def ref (x : FVec Ideal S57344x1024 .bf16) (gw : FVec Ideal S224x1024x2048 .f32) (g : IVec S1 32) : FVec Ideal S57344x2048 .f32 :=
  shapeCast S57344x2048 (select (broadcastInDim S224x256x2048 ![0, 1, 2] Facts₀.bcast_S224x1x1_S224x256x2048_0_1_2
    (broadcastInDim S224x1x1 ![0] Facts₀.bcast_S224_S224x1x1_0 (cmpi .slt (iotaInDim S224 32 0) (broadcastInDim S224 ![0] Facts₀.bcast_S1_S224_0 g))))
    (Host.dotGeneral dot_S224x256x1024_S224x1024x2048_S224x256x2048_2_1_1_2_0_0 none
      (extf .f32 (shapeCast S224x256x1024 x Facts₀.shapeCasts_S57344x1024_S224x256x1024) Facts₀.bitsLt_bf16_f32) gw)
    (broadcastInDim S224x256x2048 ![] Facts₀.bcast_S_S224x256x2048 (constant S_ .f32 0x00000000#32))) Facts₀.shapeCasts_S224x256x2048_S57344x2048

/-- The blocks' experts' numbers, as the reference reads them. -/
def numbers (f : IVec S224 32) : IVec S224x1 32 :=
  broadcastInDim S224x1 ![0] Facts₀.bcast_S224_S224x1_0 (select (cmpi .slt f (broadcastInDim S224 ![] Facts₀.bcast_S_S224 (constantI S_ 32 0#32)))
    (addi f (broadcastInDim S224 ![] Facts₀.bcast_S_S224 (constantI S_ 32 32#32))) f)

theorem numbers_apply (f : IVec S224 32) (n : Fin 224) (h : 0 ≤ (f (ix1 n)).toInt) : numbers f (ix2 n 0) = f (ix1 n) := by
  have e : numbers f (ix2 n 0) = Scalar.select (IntOp.cmpi .slt (f (ix1 n)) 0#32) (IntOp.addi (f (ix1 n)) 32#32) (f (ix1 n)) := by
    pointwise [numbers]
  rw [e]
  refine if_neg fun h' => ?_
  have := slt_one.1 h'
  rw [show (0#32 : BitVec 32).toInt = 0 from by decide] at this
  omega

theorem ref_apply (x : FVec Ideal S57344x1024 .bf16) (gw : FVec Ideal S224x1024x2048 .f32) (g : IVec S1 32) (n : Fin 57344) (j : Fin 2048) :
    ref x gw g (ix2 n j) = Scalar.select (IntOp.cmpi .slt (BitVec.ofNat 32 (n.val / 256)) (g (ix1 0)))
      (∑ k : Fin 1024, x (ix2 n k) * gw (ix3 ⟨n.val / 256, by omega⟩ k j)) 0 := by
  pointwise [ref]

/-- The reference's result at row `n` and column `j`, its experts' numbers in range. -/
theorem ref_value (x : FVec Ideal S57344x1024 .bf16) (f : IVec S224 32) (g : IVec S1 32) (u : FVec Ideal S32x1024x2048 .f32)
    (hf : ∀ n, 0 ≤ (f n).toInt ∧ (f n).toNat < 32) :
    ref x (Host.gather gather_S32x1024x2048_S224x1_S224x1024x2048_12_0_n_n_0_1_110242048 u (numbers f)) g = G x f g u := by
  funext i
  rw [eq_ix2 i]
  generalize (i 0 : Fin 57344) = n
  generalize (i 1 : Fin 2048) = j
  refine (ref_apply x _ g n j).trans ?_
  have hn : n.val / 256 < 224 := by have h : n.val < 57344 := n.isLt; omega
  have hix : (ix1 ⟨n.val / 256, hn⟩ : S224.Idx) = ixT ⟨n.val / 256, hn⟩ := by
    funext b
    match b with
    | ⟨0, _⟩ => rfl
  have hi1 : (ix1 0 : S1.Idx) = ixO := one_idx _
  have hg : ∀ (w : FVec Ideal S32x1024x2048 .f32) (k : Fin 1024),
      Host.gather gather_S32x1024x2048_S224x1_S224x1024x2048_12_0_n_n_0_1_110242048 w (numbers f) (ix3 ⟨n.val / 256, hn⟩ k j) = w (ix3 (expert f n) k j) := fun w k => by
    refine gather_matrix _ w (numbers f) ⟨n.val / 256, hn⟩ k j (expert f n) ?_
    rw [numbers_apply f _ (hf _).1, hix, toInt_nat (hf _).1]
    unfold expert
    rw [Ring.bk_val (hf _).2]
  have hw : (BitVec.ofNat 32 (n.val / 256)).toInt = ((n.val / 256 : ℕ) : Int) := by
    rw [BitVec.toInt_eq_toNat_cond, BitVec.toNat_ofNat, Nat.mod_eq_of_lt (by omega), if_pos (by omega)]
  have hsel : IntOp.cmpi .slt (BitVec.ofNat 32 (n.val / 256)) (g (ix1 0)) = 1#1 ↔ used g n := by
    rw [slt_one, hw, hi1]; rfl
  by_cases hd : used g n
  · refine (if_pos (hsel.2 hd)).trans (Eq.trans ?_ (if_pos hd).symm)
    exact Finset.sum_congr rfl fun k _ => congrArg (x (ix2 n k) * ·) (hg u k)
  · exact (if_neg (fun e => hd (hsel.1 e))).trans (if_neg hd).symm

/-- The reference's run, at `G` of its arguments. -/
theorem ref_run (m : (ℓ : Loc nD τ sig) → Buf (Elt Ideal) ℓ) (ρ : Dev nD → PrngReg)
    (hf : ∀ (c : Dev nD) n, 0 ≤ (m ((c.tc : Thread nD τ).loc main_arg1) n : BitVec 32).toInt ∧ (m ((c.tc : Thread nD τ).loc main_arg1) n : BitVec 32).toNat < 32) :
    θ_run defs (onTc (τ := τ) (main (F := Ideal))) ⟨m, fun _ => 0, ρ⟩ fun r => ∀ c : Dev nD,
      r.2.mem ((c.tc : Thread nD τ).loc main_v15) = G (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_value _ _ _ _ (hf c)), (h c).2⟩) (Cert.Reference4Ideal.Value.run (F := Ideal) m ρ)

end Cert.Proof.MoeDown

end
-- ==== Proof.OutProjSpec.lean ====
/- The output projection at one token and one column. -/
module

public import proofs.«01_k».proof.Proof.InProjSpec

@[expose] public section

noncomputable section

namespace Cert.Proof.OutProj

open Idealize.ShloMosaic
open Cert.Proof.InProj (normed tok)

/-- Column `k` of the first attention's half, and of the second's. -/
def lo (k : Fin 1024) : Fin 2048 := ⟨k.val, by omega⟩
def hi (k : Fin 1024) : Fin 2048 := ⟨1024 + k.val, by omega⟩

/-- Element `k` of a head group's row divided by its root mean square. -/
def unit (row : Fin 1024 → EReal) (k : Fin 1024) : EReal :=
  row k * Ideal.rsqrt (Ideal.div (∑ k', row k' * row k') (Ideal.ofBits .f32 0x44800000#32) + Ideal.ofBits .f32 0x358637BD#32)

/-- One head group's normalised and scaled row times its half of a column of the weights. -/
def half (row g w : Fin 1024 → EReal) : EReal := ∑ k, unit row k * g k * w k

/-- The token's own element plus its two head groups' projections. -/
def mix (x : EReal) (a b : Fin 1024 → EReal) (g w : Fin 2048 → EReal) : EReal :=
  x + (half a (fun k => g (lo k)) (fun k => w (lo k)) + half b (fun k => g (hi k)) (fun k => w (hi k)))

/-- The two results as functions of the arguments: the tokens after the mixing, and their rows normalised for the experts. -/
def G1 (xp : (⟨2, ![16384, 2048]⟩ : Shape).Idx → EReal) (xs : (⟨2, ![8192, 2048]⟩ : Shape).Idx → EReal)
    (a b : (⟨2, ![24576, 1024]⟩ : Shape).Idx → EReal) (g : (⟨1, ![2048]⟩ : Shape).Idx → EReal)
    (w : (⟨2, ![2048, 2048]⟩ : Shape).Idx → EReal) : (⟨2, ![24576, 2048]⟩ : Shape).Idx → EReal :=
  fun i => mix (tok xp xs (i 0) (i 1)) (fun k => a (ix2 (i 0) k)) (fun k => b (ix2 (i 0) k)) (fun k => g (ix1 k))
    (fun k => w (ix2 k (i 1)))

def G2 (x : (⟨2, ![24576, 2048]⟩ : Shape).Idx → EReal) (g : (⟨1, ![2048]⟩ : Shape).Idx → EReal) :
    (⟨2, ![24576, 2048]⟩ : Shape).Idx → EReal :=
  fun i => normed (fun k => x (ix2 (i 0) k)) (fun k => g (ix1 k)) (i 1)

end Cert.Proof.OutProj

end
-- ==== Proof.OutProjBody.lean ====
/- The output projection's body: what a point leaves in its blocks of the two results. -/
module

public import proofs.«01_k».proof.Proof.Gen.Kernel5Ideal.Value
public import proofs.«01_k».proof.Proof.OutProjSpec
public import Idealize.ShloMosaic.Lib.Pipeline.ValueKit

@[expose] public section

set_option maxRecDepth 400000

noncomputable section

namespace Cert.Proof.OutProj

open Cert.Kernel5Ideal Cert.Kernel5Ideal.Gen Idealize.ShloMosaic Idealize.ShloMosaic.TcCoe Idealize.SL.Sem
open Cert.Proof.InProj (normed tok)

/-- A point's block of the mixed tokens, and its block of their normalised rows. -/
def block (x : Vec Ideal S512x2048 .f32) (a b : Vec Ideal S512x1024 .f32) (g : Vec Ideal S1x2048 .f32)
    (w : Vec Ideal S2048x2048 .bf16) : Vec Ideal S512x2048 .f32 :=
  fun j => mix (x j) (fun k => a (ix2 (j 0) k)) (fun k => b (ix2 (j 0) k)) (fun k => g (ix2 0 k)) (fun k => w (ix2 k (j 1)))

def scaled (x : Vec Ideal S512x2048 .f32) (g : Vec Ideal S1x2048 .f32) : Vec Ideal S512x2048 .f32 :=
  fun j => normed (fun k => x (ix2 (j 0) k)) (fun k => g (ix2 0 k)) (j 1)

theorem hz : (![0, 0] : Fin 2 → Nat) = fun _ => 0 := funext fun a => by fin_cases a <;> rfl

/-- Two blocks are equal when they agree at every row and column. -/
theorem ext2 {f f' : Vec Ideal S512x2048 .f32} (h : ∀ (r : Fin 512) (j : Fin 2048), f (ix2 r j) = f' (ix2 r j)) : f = f' :=
  funext fun i => (congrArg f (ValueIdx.eq_ix2 i)).trans ((h (i 0) (i 1)).trans (congrArg f' (ValueIdx.eq_ix2 i).symm))

theorem pay7_apply (a : Vec Ideal S512x1024 .f32) (g : Vec Ideal S1x1024 .f32) (b : Vec Ideal S512x1024 .f32) (g' : Vec Ideal S1x1024 .f32)
    (w w' : Vec Ideal S1024x2048 .bf16) (r : Fin 512) (j : Fin 2048) :
    k0_pay7 a g b g' w w' (ix2 r j)
      = half (fun k => a (ix2 r k)) (fun k => g (ix2 0 k)) (fun k => w (ix2 k j))
        + half (fun k => b (ix2 r k)) (fun k => g' (ix2 0 k)) (fun k => w' (ix2 k j)) := by
  pointwise [k0_pay7, half, unit]

theorem pay1_apply (y x : Vec Ideal S512x2048 .f32) (i : S512x2048.Idx) : k0_pay1 y x i = x i + y i := rfl

theorem pay2_apply (y x : Vec Ideal S512x2048 .f32) (g : Vec Ideal S1x2048 .f32) (r : Fin 512) (j : Fin 2048) :
    k0_pay2 y x g (ix2 r j) = normed (fun k => k0_pay1 y x (ix2 r k)) (fun k => g (ix2 0 k)) j := by
  unfold k0_pay2
  generalize k0_pay1 y x = z
  pointwise [normed]

theorem ld_g (g : Vec Ideal S1x2048 .f32) (k : Fin 1024) :
    View.ld g (Rect.unit (s := S1x2048) ![0, 0] S1x1024.size inb_S1x2048_S1x1024_0_0) (ix2 0 k) = g (ix2 0 (lo k)) :=
  View.ld_unit_apply_of _ _ _ _ _ _ fun a => by fin_cases a <;> simp [lo]

theorem ld_g' (g : Vec Ideal S1x2048 .f32) (k : Fin 1024) :
    View.ld g (Rect.unit (s := S1x2048) ![0, 1024] S1x1024.size inb_S1x2048_S1x1024_0_1024) (ix2 0 k) = g (ix2 0 (hi k)) :=
  View.ld_unit_apply_of _ _ _ _ _ _ fun a => by fin_cases a <;> simp [hi]

theorem ld_w (w : Vec Ideal S2048x2048 .bf16) (k : Fin 1024) (j : Fin 2048) :
    View.ld w (Rect.unit (s := S2048x2048) ![0, 0] S1024x2048.size inb_S2048x2048_S1024x2048_0_0) (ix2 k j) = w (ix2 (lo k) j) :=
  View.ld_unit_apply_of _ _ _ _ _ _ fun a => by fin_cases a <;> simp [lo]

theorem ld_w' (w : Vec Ideal S2048x2048 .bf16) (k : Fin 1024) (j : Fin 2048) :
    View.ld w (Rect.unit (s := S2048x2048) ![1024, 0] S1024x2048.size inb_S2048x2048_S1024x2048_1024_0) (ix2 k j) = w (ix2 (hi k) j) :=
  View.ld_unit_apply_of _ _ _ _ _ _ fun a => by fin_cases a <;> simp [hi]

/-- The first store's payload, over the loads of the two head groups' rows, the scale's halves and the weights' halves. -/
theorem mixed (x : Vec Ideal S512x2048 .f32) (a b : Vec Ideal S512x1024 .f32) (g : Vec Ideal S1x2048 .f32)
    (w : Vec Ideal S2048x2048 .bf16) :
    k0_pay1 (k0_pay7 a (View.ld g (Rect.unit (s := S1x2048) ![0, 0] S1x1024.size inb_S1x2048_S1x1024_0_0)) b
      (View.ld g (Rect.unit (s := S1x2048) ![0, 1024] S1x1024.size inb_S1x2048_S1x1024_0_1024))
      (View.ld w (Rect.unit (s := S2048x2048) ![0, 0] S1024x2048.size inb_S2048x2048_S1024x2048_0_0))
      (View.ld w (Rect.unit (s := S2048x2048) ![1024, 0] S1024x2048.size inb_S2048x2048_S1024x2048_1024_0))) x
      = block x a b g w := by
  refine ext2 fun r j => ?_
  rw [pay1_apply, pay7_apply]
  exact congrArg₂ (· + ·) rfl (congrArg₂ (· + ·)
    (congr (congrArg (half _) (funext fun k => ld_g g k)) (funext fun k => ld_w w k j))
    (congr (congrArg (half _) (funext fun k => ld_g' g k)) (funext fun k => ld_w' w k j)))

/-- The second store's payload. -/
theorem normed_block (y x z : Vec Ideal S512x2048 .f32) (g : Vec Ideal S1x2048 .f32) (h : k0_pay1 y x = z) :
    k0_pay2 y x g = scaled z g := by
  refine ext2 fun r j => ?_
  rw [pay2_apply, h]
  rfl

theorem rd {S : Shape} {e : EltTy} (a : Memref sig .tc .vmem S e) (h : a.IsWhole) (x : Vec Ideal S e) (r : Rect S) :
    View.readAt (Elt Ideal) a.view (Rect.toLoadRect r) (h.unread x) = View.ld x r := by
  rw [View.readAt_eq_ld, h.read_unread]

theorem emb_id (j : (Rect.unit (s := S512x2048) ![0, 0] S512x2048.size inb_S512x2048_S512x2048_0_0).shape.Idx) :
    (Rect.unit (s := S512x2048) ![0, 0] S512x2048.size inb_S512x2048_S512x2048_0_0).emb j = j := by
  funext a
  apply Fin.ext
  fin_cases a <;> simp [Rect.emb_apply]

section

variable (c : Dev nD) (i : grid0.Coords) (a1 : Memref sig .tc .vmem S512x2048 .f32) (h1 : a1.IsWhole)
    (a2 : Memref sig .tc .vmem S512x2048 .f32) (h2 : a2.IsWhole) (a3 : Memref sig .tc .vmem S512x1024 .f32) (h3 : a3.IsWhole)
    (a4 : Memref sig .tc .vmem S512x1024 .f32) (h4 : a4.IsWhole) (a5 : Memref sig .tc .vmem S1x2048 .f32) (h5 : a5.IsWhole)
    (a6 : Memref sig .tc .vmem S2048x2048 .bf16) (h6 : a6.IsWhole) (a7 : Memref sig .tc .vmem S1x2048 .f32) (h7 : a7.IsWhole)
    (a8 : Memref sig .tc .vmem S40x2048 .f32) (h8 : a8.IsWhole) (a9 : Memref sig .tc .vmem S512x2048 .f32) (h9 : a9.IsWhole)
    (a10 : Memref sig .tc .vmem S512x2048 .f32) (h10 : a10.IsWhole) (a11 : Memref sig .tc .vmem S40x512 .f32) (h11 : a11.IsWhole)
    (x0 x1 : Vec Ideal S512x2048 .f32) (x2 x3 : Vec Ideal S512x1024 .f32) (x4 : Vec Ideal S1x2048 .f32)
    (x5 : Vec Ideal S2048x2048 .bf16) (x6 : Vec Ideal S1x2048 .f32) (x7 : Vec Ideal S40x2048 .f32)

/-- The first payload as a run loads its parts, the tokens' rows from `a`. -/
theorem loaded (a : Memref sig .tc .vmem S512x2048 .f32) (h : a.IsWhole) (x : Vec Ideal S512x2048 .f32) :
    k0_pay1 (k0_pay7
      (View.readAt (Elt Ideal) a3.view (Rect.unit (s := S512x1024) ![0, 0] S512x1024.size inb_S512x1024_S512x1024_0_0).toLoadRect (h3.unread x2))
      (View.readAt (Elt Ideal) a5.view (Rect.unit (s := S1x2048) ![0, 0] S1x1024.size inb_S1x2048_S1x1024_0_0).toLoadRect (h5.unread x4))
      (View.readAt (Elt Ideal) a4.view (Rect.unit (s := S512x1024) ![0, 0] S512x1024.size inb_S512x1024_S512x1024_0_0).toLoadRect (h4.unread x3))
      (View.readAt (Elt Ideal) a5.view (Rect.unit (s := S1x2048) ![0, 1024] S1x1024.size inb_S1x2048_S1x1024_0_1024).toLoadRect (h5.unread x4))
      (View.readAt (Elt Ideal) a6.view (Rect.unit (s := S2048x2048) ![0, 0] S1024x2048.size inb_S2048x2048_S1024x2048_0_0).toLoadRect (h6.unread x5))
      (View.readAt (Elt Ideal) a6.view (Rect.unit (s := S2048x2048) ![1024, 0] S1024x2048.size inb_S2048x2048_S1024x2048_1024_0).toLoadRect (h6.unread x5)))
      (View.readAt (Elt Ideal) a.view (Rect.unit (s := S512x2048) ![0, 0] S512x2048.size inb_S512x2048_S512x2048_0_0).toLoadRect (h.unread x))
      = block x x2 x3 x4 x5 := by
  simp only [rd]
  rw [View.ld_unit_zero hz, View.ld_unit_zero hz, View.ld_unit_zero hz]
  exact mixed x x2 x3 x4 x5

theorem scale_eq : View.readAt (Elt Ideal) a7.view (Rect.unit (s := S1x2048) ![0, 0] S1x2048.size inb_S1x2048_S1x2048_0_0).toLoadRect (h7.unread x6) = x6 := by
  rw [rd, View.ld_unit_zero hz]

/-- What a point of the first 32 leaves in its block of the mixed tokens. -/
theorem out_A8 (hc0 : cond0_0 i) (hc1 : ¬cond0_1 i) :
    out0_A_8 c i a1 h1 a2 h2 a3 h3 a4 h4 a5 h5 a6 h6 a7 h7 a8 h8 a9 h9 a10 h10 a11 h11 hc0 hc1 x0 x1 x2 x3 x4 x5 x6 x7
      = block x0 x2 x3 x4 x5 := by
  funext y
  have hcov := cover0_A_8 (F := Ideal) c i a1 h1 a2 h2 a3 h3 a4 h4 a5 h5 a6 h6 a7 h7 a8 h8 a9 h9 a10 h10 a11 h11 hc0 hc1 x0 x1 x2 x3 x4 x5 x6 x7
  unfold out0_A_8
  rw [View.read_writes_eq_canon _ _ _ hcov]
  refine View.canon_apply_of_pieces (block x0 x2 x3 x4 x5) _ (fun p hp => ?_) y (hcov y)
  unfold kernelRun0_A at hp
  simp only [List.mem_cons, List.mem_nil_iff, or_false] at hp
  subst hp
  exact fun j => (congrFun (loaded a3 h3 a4 h4 a5 h5 a6 h6 x2 x3 x4 x5 a1 h1 x0) j).trans (congrArg _ (emb_id j).symm)

/-- … and in its block of their normalised rows. -/
theorem out_A9 (hc0 : cond0_0 i) (hc1 : ¬cond0_1 i) :
    out0_A_9 c i a1 h1 a2 h2 a3 h3 a4 h4 a5 h5 a6 h6 a7 h7 a8 h8 a9 h9 a10 h10 a11 h11 hc0 hc1 x0 x1 x2 x3 x4 x5 x6 x7
      = scaled (block x0 x2 x3 x4 x5) x6 := by
  funext y
  have hcov := cover0_A_9 (F := Ideal) c i a1 h1 a2 h2 a3 h3 a4 h4 a5 h5 a6 h6 a7 h7 a8 h8 a9 h9 a10 h10 a11 h11 hc0 hc1 x0 x1 x2 x3 x4 x5 x6 x7
  unfold out0_A_9
  rw [View.read_writes_eq_canon _ _ _ hcov]
  refine View.canon_apply_of_pieces (scaled (block x0 x2 x3 x4 x5) x6) _ (fun p hp => ?_) y (hcov y)
  unfold kernelRun0_A at hp
  simp only [List.mem_cons, List.mem_nil_iff, or_false] at hp
  subst hp
  exact fun j => (congrFun ((normed_block _ _ _ _ (loaded a3 h3 a4 h4 a5 h5 a6 h6 x2 x3 x4 x5 a1 h1 x0)).trans
    (congrArg _ (scale_eq a7 h7 x6))) j).trans (congrArg _ (emb_id j).symm)

/-- What a point of the last 16 leaves in its block of the mixed tokens. -/
theorem out_B8 (hc0 : ¬cond0_0 i) (hc1 : cond0_1 i) :
    out0_B_8 c i a1 h1 a2 h2 a3 h3 a4 h4 a5 h5 a6 h6 a7 h7 a8 h8 a9 h9 a10 h10 a11 h11 hc0 hc1 x0 x1 x2 x3 x4 x5 x6 x7
      = block x1 x2 x3 x4 x5 := by
  funext y
  have hcov := cover0_B_8 (F := Ideal) c i a1 h1 a2 h2 a3 h3 a4 h4 a5 h5 a6 h6 a7 h7 a8 h8 a9 h9 a10 h10 a11 h11 hc0 hc1 x0 x1 x2 x3 x4 x5 x6 x7
  unfold out0_B_8
  rw [View.read_writes_eq_canon _ _ _ hcov]
  refine View.canon_apply_of_pieces (block x1 x2 x3 x4 x5) _ (fun p hp => ?_) y (hcov y)
  unfold kernelRun0_B at hp
  simp only [List.mem_cons, List.mem_nil_iff, or_false] at hp
  subst hp
  exact fun j => (congrFun (loaded a3 h3 a4 h4 a5 h5 a6 h6 x2 x3 x4 x5 a2 h2 x1) j).trans (congrArg _ (emb_id j).symm)

/-- … and in its block of their normalised rows. -/
theorem out_B9 (hc0 : ¬cond0_0 i) (hc1 : cond0_1 i) :
    out0_B_9 c i a1 h1 a2 h2 a3 h3 a4 h4 a5 h5 a6 h6 a7 h7 a8 h8 a9 h9 a10 h10 a11 h11 hc0 hc1 x0 x1 x2 x3 x4 x5 x6 x7
      = scaled (block x1 x2 x3 x4 x5) x6 := by
  funext y
  have hcov := cover0_B_9 (F := Ideal) c i a1 h1 a2 h2 a3 h3 a4 h4 a5 h5 a6 h6 a7 h7 a8 h8 a9 h9 a10 h10 a11 h11 hc0 hc1 x0 x1 x2 x3 x4 x5 x6 x7
  unfold out0_B_9
  rw [View.read_writes_eq_canon _ _ _ hcov]
  refine View.canon_apply_of_pieces (scaled (block x1 x2 x3 x4 x5) x6) _ (fun p hp => ?_) y (hcov y)
  unfold kernelRun0_B at hp
  simp only [List.mem_cons, List.mem_nil_iff, or_false] at hp
  subst hp
  exact fun j => (congrFun ((normed_block _ _ _ _ (loaded a3 h3 a4 h4 a5 h5 a6 h6 x2 x3 x4 x5 a2 h2 x1)).trans
    (congrArg _ (scale_eq a7 h7 x6))) j).trans (congrArg _ (emb_id j).symm)

end

end Cert.Proof.OutProj

end
-- ==== Proof.OutProjKernel.lean ====
/- The output projection's launch: its blocks, and the two arrays it leaves. -/
module

public import proofs.«01_k».proof.Proof.OutProjBody

@[expose] public section

set_option maxRecDepth 400000

noncomputable section

namespace Cert.Proof.OutProj

open Cert.Kernel5Ideal Cert.Kernel5Ideal.Gen Cert.Kernel5Ideal.Value Idealize.ShloMosaic Idealize.ShloMosaic.TcCoe Idealize.SL.Sem
open Idealize.ShloMosaic.StableHlo
open Cert.Proof.InProj (normed tok)

variable (m : (ℓ : Loc nD τ sig) → Buf (Elt Ideal) ℓ)

/-- The mixing scale's row, the weights and the experts' scale, as the launch finds them. -/
theorem V_mix (c : Dev nD) (k : Fin 2048) : V m c main_v5 (ix2 0 k) = m ((c.tc : Thread nD τ).loc main_arg4) (ix1 k) := by
  have e : V m c main_v5 = shapeCast S1x2048 (m ((c.tc : Thread nD τ).loc main_arg4)) shapeCasts_S2048_S1x2048 := by
    unfold V
    after_results <;> rfl
  rw [e]
  pointwise

theorem V_ffn (c : Dev nD) (k : Fin 2048) : V m c main_v6 (ix2 0 k) = m ((c.tc : Thread nD τ).loc main_arg6) (ix1 k) := by
  have e : V m c main_v6 = shapeCast S1x2048 (m ((c.tc : Thread nD τ).loc main_arg6)) shapeCasts_S2048_S1x2048 := by
    unfold V
    after_results <;> rfl
  rw [e]
  pointwise

theorem V_weights (c : Dev nD) (k j : Fin 2048) : V m c main_v4 (ix2 k j) = m ((c.tc : Thread nD τ).loc main_arg5) (ix2 k j) := by
  have e : V m c main_v4 = truncf (F := Ideal) .bf16 (m ((c.tc : Thread nD τ).loc main_arg5)) bitsLt_bf16_f32 := by
    unfold V
    after_results <;> rfl
  rw [e]
  pointwise

/-- Where each window's block sits at a point. -/
theorem idx0 : ∀ t : Fin cfg0.N, win0_0.index t (0 : Fin 2) = min t.val 31 ∧ win0_0.index t (1 : Fin 2) = 0 :=
  (by decide +kernel : ∀ t : Fin grid0.N, _)
theorem idx1 : ∀ t : Fin cfg0.N, win0_1.index t (0 : Fin 2) = t.val - 32 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

theorem lt48 (t : Fin cfg0.N) : t.val < 48 := Nat.lt_of_lt_of_eq t.isLt (show grid0.N = 48 from N_0)

/-- Token `n` of the prompt, in the block that holds it. -/
theorem blk0 (c : Dev nD) (t : Fin cfg0.N) (ht : t.val < 32) (r : Fin 512) (k : Fin 2048) :
    iblk m c 0 t (ix2 r k) = m ((c.tc : Thread nD τ).loc main_arg0) (ix2 ⟨t.val * 512 + r.val, by omega⟩ k) := by
  obtain ⟨e0, e1⟩ := idx0 t
  refine (congrArg (V m c main_arg0) (?_ : ((cfg0.win 0).blk t).view.emb (ix2 r k) = ix2 ⟨t.val * 512 + r.val, by omega⟩ k)).trans
    (congrFun (V_main_arg0 m c) _)
  funext a; apply Fin.ext
  match a with
  | ⟨0, _⟩ => show win0_0.index t (0 : Fin 2) * 512 + 1 * r.val = t.val * 512 + r.val; omega
  | ⟨1, _⟩ => show win0_0.index t (1 : Fin 2) * 2048 + 1 * k.val = k.val; omega

/-- A sample's token, in the block that holds it. -/
theorem blk1 (c : Dev nD) (t : Fin cfg0.N) (ht : 32 ≤ t.val) (r : Fin 512) (k : Fin 2048) :
    iblk m c 1 t (ix2 r k) = m ((c.tc : Thread nD τ).loc main_arg1)
      (ix2 ⟨t.val * 512 + r.val - 16384, by have := lt48 t; omega⟩ k) := by
  obtain ⟨e0, e1⟩ := idx1 t
  refine (congrArg (V m c main_arg1) (?_ : ((cfg0.win 1).blk t).view.emb (ix2 r k) = ix2 _ k)).trans
    (congrFun (V_main_arg1 m c) _)
  funext a; apply Fin.ext
  match a with
  | ⟨0, _⟩ => show win0_1.index t (0 : Fin 2) * 512 + 1 * r.val = t.val * 512 + r.val - 16384; omega
  | ⟨1, _⟩ => show win0_1.index t (1 : Fin 2) * 2048 + 1 * k.val = k.val; omega

/-- A token's row of each head group, in the block that holds it. -/
theorem blk2 (c : Dev nD) (t : Fin cfg0.N) (r : Fin 512) (k : Fin 1024) :
    iblk m c 2 t (ix2 r k) = m ((c.tc : Thread nD τ).loc main_arg2) (ix2 ⟨t.val * 512 + r.val, by have := lt48 t; omega⟩ k) := by
  obtain ⟨e0, e1⟩ := idx2 t
  refine (congrArg (V m c main_arg2) (?_ : ((cfg0.win 2).blk t).view.emb (ix2 r k) = ix2 _ k)).trans
    (congrFun (V_main_arg2 m c) _)
  funext a; apply Fin.ext
  match a with
  | ⟨0, _⟩ => show win0_2.index t (0 : Fin 2) * 512 + 1 * r.val = t.val * 512 + r.val; omega
  | ⟨1, _⟩ => show win0_2.index t (1 : Fin 2) * 1024 + 1 * k.val = k.val; omega

theorem blk3 (c : Dev nD) (t : Fin cfg0.N) (r : Fin 512) (k : Fin 1024) :
    iblk m c 3 t (ix2 r k) = m ((c.tc : Thread nD τ).loc main_arg3) (ix2 ⟨t.val * 512 + r.val, by have := lt48 t; omega⟩ k) := by
  obtain ⟨e0, e1⟩ := idx3 t
  refine (congrArg (V m c main_arg3) (?_ : ((cfg0.win 3).blk t).view.emb (ix2 r k) = ix2 _ k)).trans
    (congrFun (V_main_arg3 m c) _)
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

/-- The blocks of the two scales and of the weights are the whole of them. -/
theorem blk4 (c : Dev nD) (t : Fin cfg0.N) (k : Fin 2048) :
    iblk m c 4 t (ix2 0 k) = m ((c.tc : Thread nD τ).loc main_arg4) (ix1 k) := by
  obtain ⟨e0, e1⟩ := idx4 t
  refine (congrArg (V m c main_v5) (?_ : ((cfg0.win 4).blk t).view.emb (ix2 0 k) = ix2 0 k)).trans (V_mix m c k)
  funext a; apply Fin.ext
  match a with
  | ⟨0, _⟩ => show win0_4.index t (0 : Fin 2) * 1 + 1 * 0 = 0; omega
  | ⟨1, _⟩ => show win0_4.index t (1 : Fin 2) * 2048 + 1 * k.val = k.val; omega

theorem blk5 (c : Dev nD) (t : Fin cfg0.N) (k j : Fin 2048) :
    iblk m c 5 t (ix2 k j) = m ((c.tc : Thread nD τ).loc main_arg5) (ix2 k j) := by
  obtain ⟨e0, e1⟩ := idx5 t
  refine (congrArg (V m c main_v4) (?_ : ((cfg0.win 5).blk t).view.emb (ix2 k j) = ix2 k j)).trans (V_weights m c k j)
  funext a; apply Fin.ext
  match a with
  | ⟨0, _⟩ => show win0_5.index t (0 : Fin 2) * 2048 + 1 * k.val = k.val; omega
  | ⟨1, _⟩ => show win0_5.index t (1 : Fin 2) * 2048 + 1 * j.val = j.val; omega

theorem blk6 (c : Dev nD) (t : Fin cfg0.N) (k : Fin 2048) :
    iblk m c 6 t (ix2 0 k) = m ((c.tc : Thread nD τ).loc main_arg6) (ix1 k) := by
  obtain ⟨e0, e1⟩ := idx6 t
  refine (congrArg (V m c main_v6) (?_ : ((cfg0.win 6).blk t).view.emb (ix2 0 k) = ix2 0 k)).trans (V_ffn m c k)
  funext a; apply Fin.ext
  match a with
  | ⟨0, _⟩ => show win0_6.index t (0 : Fin 2) * 1 + 1 * 0 = 0; omega
  | ⟨1, _⟩ => show win0_6.index t (1 : Fin 2) * 2048 + 1 * k.val = k.val; omega

/-- The two results' arrays as the launch's arguments determine them. -/
abbrev res1 (c : Dev nD) : Vec Ideal S24576x2048 .f32 :=
  G1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

abbrev res2 (c : Dev nD) : Vec Ideal S24576x2048 .f32 := G2 (res1 m c) (m ((c.tc : Thread nD τ).loc main_arg6))

/-- Row `r` of point `t`'s blocks is this token. -/
def row (t : Fin cfg0.N) (r : Fin 512) : Fin 24576 := ⟨t.val * 512 + r.val, by have := lt48 t; omega⟩

theorem emb8 (t : Fin cfg0.N) (y : S512x2048.Idx) :
    (((cfg0.win 8).blk t).view.emb y : S24576x2048.Idx) = (ix2 (row t (y 0)) (y 1) : S24576x2048.Idx) := by
  obtain ⟨e0, e1⟩ := idx8 t
  refine funext fun (a : Fin 2) => Fin.ext ?_
  match a with
  | ⟨0, _⟩ => show win0_8.index t (0 : Fin 2) * 512 + 1 * (y 0).val = t.val * 512 + (y 0).val; omega
  | ⟨1, _⟩ => show win0_8.index t (1 : Fin 2) * 2048 + 1 * (y 1).val = (y 1).val; omega

theorem emb9 (t : Fin cfg0.N) (y : S512x2048.Idx) :
    (((cfg0.win 9).blk t).view.emb y : S24576x2048.Idx) = (ix2 (row t (y 0)) (y 1) : S24576x2048.Idx) := by
  obtain ⟨e0, e1⟩ := idx9 t
  refine funext fun (a : Fin 2) => Fin.ext ?_
  match a with
  | ⟨0, _⟩ => show win0_9.index t (0 : Fin 2) * 512 + 1 * (y 0).val = t.val * 512 + (y 0).val; omega
  | ⟨1, _⟩ => show win0_9.index t (1 : Fin 2) * 2048 + 1 * (y 1).val = (y 1).val; omega

/-- A block of the mixed tokens, the prompt's or the samples', is the result's. -/
theorem mixed_A (c : Dev nD) (t : Fin cfg0.N) (h : t.val < 32) (r : Fin 512) (j : Fin 2048) :
    block (iblk m c 0 t) (iblk m c 2 t) (iblk m c 3 t) (iblk m c 4 t) (iblk m c 5 t) (ix2 r j) = res1 m c (ix2 (row t r) j) := by
  show mix (iblk m c 0 t (ix2 r j)) (fun k => iblk m c 2 t (ix2 r k)) (fun k => iblk m c 3 t (ix2 r k)) (fun k => iblk m c 4 t (ix2 0 k))
    (fun k => iblk m c 5 t (ix2 k j)) = _
  simp only [blk2, blk3, blk4, blk5]
  rw [blk0 m c t h]
  refine congr (congr (congr (congr (congrArg mix ?_) rfl) rfl) rfl) rfl
  show _ = tok _ _ (row t r) j
  unfold tok
  rw [dif_pos (show (row t r).val < 16384 by show t.val * 512 + r.val < 16384; omega)]
  rfl

theorem mixed_B (c : Dev nD) (t : Fin cfg0.N) (h : 32 ≤ t.val) (r : Fin 512) (j : Fin 2048) :
    block (iblk m c 1 t) (iblk m c 2 t) (iblk m c 3 t) (iblk m c 4 t) (iblk m c 5 t) (ix2 r j) = res1 m c (ix2 (row t r) j) := by
  show mix (iblk m c 1 t (ix2 r j)) (fun k => iblk m c 2 t (ix2 r k)) (fun k => iblk m c 3 t (ix2 r k)) (fun k => iblk m c 4 t (ix2 0 k))
    (fun k => iblk m c 5 t (ix2 k j)) = _
  simp only [blk2, blk3, blk4, blk5]
  rw [blk1 m c t h]
  refine congr (congr (congr (congr (congrArg mix ?_) rfl) rfl) rfl) rfl
  show _ = tok _ _ (row t r) j
  unfold tok
  rw [dif_neg (show ¬ (row t r).val < 16384 by show ¬ t.val * 512 + r.val < 16384; omega)]
  rfl

/-- The normalised rows of a block that holds the result's tokens. -/
theorem scaled_of (c : Dev nD) (t : Fin cfg0.N) (B : Vec Ideal S512x2048 .f32)
    (hB : ∀ (r : Fin 512) (j : Fin 2048), B (ix2 r j) = res1 m c (ix2 (row t r) j)) (r : Fin 512) (j : Fin 2048) :
    scaled B (iblk m c 6 t) (ix2 r j) = res2 m c (ix2 (row t r) j) := by
  show normed (fun k => B (ix2 r k)) (fun k => iblk m c 6 t (ix2 0 k)) j = _
  simp only [blk6, hB]
  rfl

/-- What a point writes back is its block of each result. -/
theorem flushed_8 (c : Dev nD) (t : Fin cfg0.N) :
    (dats m 0 c).flushed 8 t = ((cfg0.win 8).blk t).view.read (Elt Ideal) (res1 m c) := by
  funext y
  show _ = res1 m c (((cfg0.win 8).blk t).view.emb y)
  rw [emb8]
  by_cases h : t.val < 32
  · rw [flushed8_A m c t h (by omega), out_A8]
    exact (congrArg (block (iblk m c 0 t) (iblk m c 2 t) (iblk m c 3 t) (iblk m c 4 t) (iblk m c 5 t)) (ValueIdx.eq_ix2 y)).trans
      (mixed_A m c t h (y 0) (y 1))
  · rw [flushed8_B m c t h (by omega), out_B8]
    exact (congrArg (block (iblk m c 1 t) (iblk m c 2 t) (iblk m c 3 t) (iblk m c 4 t) (iblk m c 5 t)) (ValueIdx.eq_ix2 y)).trans
      (mixed_B m c t (by omega) (y 0) (y 1))

theorem flushed_9 (c : Dev nD) (t : Fin cfg0.N) :
    (dats m 0 c).flushed 9 t = ((cfg0.win 9).blk t).view.read (Elt Ideal) (res2 m c) := by
  funext y
  show _ = res2 m c (((cfg0.win 9).blk t).view.emb y)
  rw [emb9]
  by_cases h : t.val < 32
  · rw [flushed9_A m c t h (by omega), out_A9]
    exact (congrArg (scaled _ (iblk m c 6 t)) (ValueIdx.eq_ix2 y)).trans (scaled_of m c t _ (mixed_A m c t h) (y 0) (y 1))
  · rw [flushed9_B m c t h (by omega), out_B9]
    exact (congrArg (scaled _ (iblk m c 6 t)) (ValueIdx.eq_ix2 y)).trans (scaled_of m c t _ (mixed_B m c t (by omega)) (y 0) (y 1))

/-- Every index of a result is in some point's block. -/
theorem covered8 (i : S24576x2048.Idx) :
    ∃ t : Fin cfg0.N, (cfg0.win 8).flush t = true ∧ i ∈ ((cfg0.win 8).blk t).view.set := by
  have hi : (i 0).val < 24576 := (i 0).isLt
  refine ⟨⟨(i 0).val / 512, by show _ < grid0.N; rw [N_0]; omega⟩, flush0_8 _, ?_⟩
  have h := ((cfg0.win 8).blk ⟨(i 0).val / 512, by show _ < grid0.N; rw [N_0]; omega⟩).view.emb_mem_set
    (ix2 ⟨(i 0).val % 512, Nat.mod_lt _ (by decide)⟩ (i 1) : S512x2048.Idx)
  rw [emb8] at h
  refine cast (congrArg (· ∈ _) ?_) h
  refine (congrArg₂ ix2 (Fin.ext ?_) rfl).trans (eq_ix2 i).symm
  show (i 0).val / 512 * 512 + (i 0).val % 512 = (i 0).val
  omega

theorem covered9 (i : S24576x2048.Idx) :
    ∃ t : Fin cfg0.N, (cfg0.win 9).flush t = true ∧ i ∈ ((cfg0.win 9).blk t).view.set := by
  have hi : (i 0).val < 24576 := (i 0).isLt
  refine ⟨⟨(i 0).val / 512, by show _ < grid0.N; rw [N_0]; omega⟩, flush0_9 _, ?_⟩
  have h := ((cfg0.win 9).blk ⟨(i 0).val / 512, by show _ < grid0.N; rw [N_0]; omega⟩).view.emb_mem_set
    (ix2 ⟨(i 0).val % 512, Nat.mod_lt _ (by decide)⟩ (i 1) : S512x2048.Idx)
  rw [emb9] at h
  refine cast (congrArg (· ∈ _) ?_) h
  refine (congrArg₂ ix2 (Fin.ext ?_) rfl).trans (eq_ix2 i).symm
  show (i 0).val / 512 * 512 + (i 0).val % 512 = (i 0).val
  omega

theorem final8 (c : Dev nD) : (dats m 0 c).arrAt 8 cfg0.N = res1 m c :=
  (dats m 0 c).arrAt_eq_of_cover 8 (res1 m c) (fun t _ => flushed_8 m c t) covered8

theorem final9 (c : Dev nD) : (dats m 0 c).arrAt 9 cfg0.N = res2 m c :=
  (dats m 0 c).arrAt_eq_of_cover 9 (res2 m c) (fun t _ => flushed_9 m c t) covered9

/-- The projection's run: the two results' arrays end at `res1` and `res2`, the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v7_0) = res1 m c
      ∧ r.2.mem ((c.tc : Thread nD τ).loc main_v7_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (final8 m c), (h c).2.1.trans (final9 m c), (h c).2.2.2⟩) (run_blocks m ρ)

end Cert.Proof.OutProj

end
-- ==== Proof.OutProjRef.lean ====
/- The output projection's reference, read at an index. -/
module

public import proofs.«01_k».proof.Proof.Gen.Reference5Ideal.Run
public import proofs.«01_k».proof.Proof.OutProjSpec

@[expose] public section

set_option maxRecDepth 400000

noncomputable section

namespace Cert.Proof.OutProj

open Cert.Reference5Ideal Cert.Reference5Ideal.Gen Idealize.ShloMosaic Idealize.ShloMosaic.TcCoe Idealize.SL.Sem

variable (m : (ℓ : Loc nD τ sig) → Buf (Elt Ideal) ℓ)

/-- The reference's mixed tokens, as its run leaves them. -/
def refMixed (c : Dev nD) : Vec Ideal S24576x2048 .f32 :=
  addf (F := Ideal) (concatenate S24576x2048 0 [⟨S16384x2048, (m ((c.tc : Thread nD τ).loc main_arg0))⟩, ⟨S8192x2048, (m ((c.tc : Thread nD τ).loc main_arg1))⟩] concatenates_S16384x2048_S8192x2048_S24576x2048_d0) (Host.dotGeneral (φ₁ := .f32) (φ₂ := .f32) dot_S24576x2048_S2048x2048_S24576x2048_1_0_0_1_n_n none (mulf (concatenate S24576x2048 1 [⟨S24576x1024, (mulf (m ((c.tc : Thread nD τ).loc main_arg2)) (broadcastInDim S24576x1024 ![0, 1] bcast_S24576x1_S24576x1024_0_1 (Host.rsqrt (addf (Host.divf (broadcastInDim S24576x1 ![0] bcast_S24576_S24576x1_0 (Host.reduceAdd (mulf (m ((c.tc : Thread nD τ).loc main_arg2)) (m ((c.tc : Thread nD τ).loc main_arg2))) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32))))))⟩, ⟨S24576x1024, (mulf (m ((c.tc : Thread nD τ).loc main_arg3)) (broadcastInDim S24576x1024 ![0, 1] bcast_S24576x1_S24576x1024_0_1 (Host.rsqrt (addf (Host.divf (broadcastInDim S24576x1 ![0] bcast_S24576_S24576x1_0 (Host.reduceAdd (mulf (m ((c.tc : Thread nD τ).loc main_arg3)) (m ((c.tc : Thread nD τ).loc main_arg3))) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32))))))⟩] concatenates_S24576x1024_S24576x1024_S24576x2048_d1) (broadcastInDim S24576x2048 ![0, 1] bcast_S1x2048_S24576x2048_0_1 (broadcastInDim S1x2048 ![1] bcast_S2048_S1x2048_1 (m ((c.tc : Thread nD τ).loc main_arg4))))) (m ((c.tc : Thread nD τ).loc main_arg5)))

/-- The reference's normalised rows, of an array of tokens. -/
def refNormed (X : Vec Ideal S24576x2048 .f32) (g : Vec Ideal S2048 .f32) : Vec Ideal S24576x2048 .f32 :=
  mulf (F := Ideal) (mulf (X) (broadcastInDim S24576x2048 ![0, 1] bcast_S24576x1_S24576x2048_0_1 (Host.rsqrt (addf (Host.divf (broadcastInDim S24576x1 ![0] bcast_S24576_S24576x1_0 (Host.reduceAdd (mulf (X) (X)) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))

theorem refMixed_apply (c : Dev nD) (n : Fin 24576) (j : Fin 2048) :
    refMixed m c (ix2 n j) = (G1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 n j) : EReal) := by
  pointwise [refMixed]
  unfold G1 mix half unit Cert.Proof.InProj.tok
  rfl

theorem refNormed_apply (X : Vec Ideal S24576x2048 .f32) (g : Vec Ideal S2048 .f32) (n : Fin 24576) (j : Fin 2048) :
    refNormed X g (ix2 n j) = (G2 X g (ix2 n j) : EReal) := by
  pointwise [refNormed]
  unfold G2 Cert.Proof.InProj.normed
  rfl

/-- The reference's first result. -/
abbrev ref1 (c : Dev nD) : Vec Ideal S24576x2048 .f32 :=
  G1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem refMixed_eq (c : Dev nD) : refMixed m c = ref1 m c :=
  funext fun i => (congrArg (refMixed m c) (ValueIdx.eq_ix2 i)).trans
    ((refMixed_apply m c (i 0) (i 1)).trans (congrArg (ref1 m c) (ValueIdx.eq_ix2 i).symm))

theorem refNormed_eq (X : Vec Ideal S24576x2048 .f32) (g : Vec Ideal S2048 .f32) : refNormed X g = G2 X g :=
  funext fun i => (congrArg (refNormed X g) (ValueIdx.eq_ix2 i)).trans
    ((refNormed_apply X g (i 0) (i 1)).trans (congrArg (G2 X g) (ValueIdx.eq_ix2 i).symm))

theorem res_normed (c : Dev nD) :
    Cert.Reference5Ideal.Value.res_main_v39 m c = refNormed (refMixed m c) (m ((c.tc : Thread nD τ).loc main_arg6)) := by
  unfold Cert.Reference5Ideal.Value.res_main_v39 refNormed refMixed
  rfl

/-- The reference's run, its two results as functions of the arguments. -/
theorem ref_run (ρ : Dev nD → PrngReg) : θ_run (defs (F := Ideal)) (onTc (τ := τ) (main (F := Ideal))) ⟨m, fun _ => 0, ρ⟩ fun r => ∀ c : Dev nD,
      r.2.mem ((c.tc : Thread nD τ).loc main_v26) = ref1 m c
      ∧ r.2.mem ((c.tc : Thread nD τ).loc main_v39) = G2 (ref1 m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (refMixed_eq m c), (h c).2.1.trans ((res_normed m c).trans
      ((refNormed_eq _ _).trans (congrArg (fun X => G2 X _) (refMixed_eq m c)))), (h c).2.2⟩)
    (Cert.Reference5Ideal.Value.run (F := Ideal) m ρ)

end Cert.Proof.OutProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_slots_partitioned
public import proofs.«01_k».proof.Proof.Pre
public import proofs.«01_k».proof.Proof.Same
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal.Run
public import proofs.«01_k».proof.Proof.Gen.Pre_experts_in_range
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Pre_blocks_in_range
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.InProjKernel
public import proofs.«01_k».proof.Proof.InProjRef
public import proofs.«01_k».proof.Proof.MoeUpValue
public import proofs.«01_k».proof.Proof.MoeUpRef
public import proofs.«01_k».proof.Proof.MoeDownValue
public import proofs.«01_k».proof.Proof.MoeDownRef
public import proofs.«01_k».proof.Proof.OutProjKernel
public import proofs.«01_k».proof.Proof.OutProjRef
public import Idealize.ShloMosaic.Adequacy
public import Idealize.ShloMosaic.Init

@[expose] public section

set_option maxRecDepth 400000

noncomputable section

namespace Cert.Proof

open Idealize.ShloMosaic Idealize.SL.Sem Idealize.ShloMosaic.TcCoe
open Cert.Proof.Dispatch

/-! ## The dispatch -/

/-- The dispatch's frame at the bit-exact instance: its one run, read at the arguments and the counters. -/
theorem frame_kernel : Cert.quiescent_Kernel := fun m ρ hp =>
  (run_same m ρ _).mpr ((θ_run Cert.KernelIdeal.defs _ _).mono (fun _ h => ⟨fun c => (h.1 c).2, h.2⟩)
    (run_main (F := Bits) (m := m) ρ (tables_of (F := Bits) (hp 0))))

theorem frame_kernelIdeal : Cert.quiescent_KernelIdeal := fun m ρ hp =>
  (θ_run Cert.KernelIdeal.defs _ _).mono (fun _ h => ⟨fun c => (h.1 c).2, h.2⟩)
    (run_main (F := Ideal) (m := m) ρ (tables_of (F := Ideal) (hp 0)))

/-- The references are host programs without a semaphore: their runs, read at the arguments. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_slots_partitioned := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's result from the kernel's arguments is the dispatched array. -/
theorem ref_value {F : FTy → Type} [FloatOps F]
    (m : (ℓ : Loc Cert.KernelIdeal.nD Cert.KernelIdeal.τ Cert.KernelIdeal.sig) → Buf (Elt F) ℓ)
    (ht : Tables (T1 m) (T2 m) (T3 m) (T4 m)) {h2 : Cert.ReferenceIdeal.S24576x2048.Idx → Elt F .f32} {f1 f2 : Cert.ReferenceIdeal.S24576.Idx → BitVec 32}
    (e0 : h2 = H2 m) (e1 : f1 = T1 m) (e2 : f2 = T2 m) : refOut h2 f1 f2 = GG m := by
  subst e0 e1 e2
  exact ref_eq ht (H2 m)

theorem algebraic_dispatch : Cert.algebraic_KernelIdeal_ReferenceIdeal := fun m ρ m' ρ' hp hm =>
  ⟨fun _ => GG m,
    (θ_run Cert.KernelIdeal.defs _ _).mono (fun _ h => h.1) (run_main (F := Ideal) (m := m) ρ (tables_of (F := Ideal) (hp 0))),
    (θ_run Cert.ReferenceIdeal.defs _ _).mono
      (fun r h c => by
        obtain rfl : c = 0 := Subsingleton.elim _ _
        exact ⟨(h 0).1.trans (ref_value m (tables_of (F := Ideal) (hp 0)) (hm 0).1 (hm 0).2.1 (hm 0).2.2.1), (h 0).2⟩)
      (Cert.ReferenceIdeal.Value.run (F := Ideal) m' ρ')⟩

theorem bitexact_dispatch : Cert.bitexact_Kernel_Reference := fun m ρ m' ρ' hp hm =>
  ⟨fun _ => GG (F := Bits) m,
    (run_same m ρ _).mpr ((θ_run Cert.KernelIdeal.defs _ _).mono (fun _ h => h.1)
      (run_main (F := Bits) (m := m) ρ (tables_of (F := Bits) (hp 0)))),
    (θ_run Cert.Reference.defs _ _).mono
      (fun r h c => by
        obtain rfl : c = 0 := Subsingleton.elim _ _
        exact ⟨(h 0).1.trans (ref_value (F := Bits) m (tables_of (F := Bits) (hp 0)) (hm 0).1 (hm 0).2.1 (hm 0).2.2.1), (h 0).2⟩)
      (Cert.Reference.Value.run (F := Bits) m' ρ')⟩

/-! ## The input projection -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's projection is the array the kernel leaves. -/
theorem ref_in_proj (m : (ℓ : Loc Cert.Reference2Ideal.nD Cert.Reference2Ideal.τ Cert.Reference2Ideal.sig) → Buf (Elt Ideal) ℓ)
    (c : Dev Cert.Reference2Ideal.nD) : Cert.Reference2Ideal.Value.res_main_v22 m c
      = InProj.G (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2))
          (m ((c.tc : Thread Cert.Reference2Ideal.nD Cert.Reference2Ideal.τ).loc Cert.Reference2Ideal.main_arg3)) := by
  refine funext fun i => ?_
  exact (congrArg (Cert.Reference2Ideal.Value.res_main_v22 m c) (ValueIdx.eq_ix2 i)).trans (InProj.ref_apply m c (i 0) (i 1))

theorem algebraic_in_proj : Cert.algebraic_Kernel2Ideal_Reference2Ideal := fun m ρ m' ρ' _ hm =>
  ⟨fun c => InProj.res m c, InProj.run m ρ,
    (θ_run Cert.Reference2Ideal.defs _ _).mono
      (fun r h c => ⟨(h c).1.trans ((ref_in_proj m' c).trans (by
          unfold InProj.res
          rw [(hm c).1, (hm c).2.1, (hm c).2.2.1, (hm c).2.2.2])), (h c).2⟩)
      (Cert.Reference2Ideal.Value.run (F := Ideal) m' ρ')⟩

/-! ## The experts' first product -/

theorem frame_kernel3 : Cert.quiescent_Kernel3 := fun m ρ hp =>
  (MoeUp.run_same m ρ _).mpr ((θ_run Cert.Kernel3Ideal.defs _ _).mono (fun _ h => ⟨fun c => (h.1 c).2, h.2⟩)
    (MoeUp.run_post (F := Bits) m (MoeUp.ranges_of (F := Bits) (hp 0)) ρ))

theorem frame_kernel3Ideal : Cert.quiescent_Kernel3Ideal := fun m ρ hp =>
  (θ_run Cert.Kernel3Ideal.defs _ _).mono (fun _ h => ⟨fun c => (h.1 c).2, h.2⟩)
    (MoeUp.run_post (F := Ideal) m (MoeUp.ranges_of (F := Ideal) (hp 0)) ρ)

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference3Ideal_pre : Cert.quiescent_Reference3Ideal_pre_experts_in_range := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_experts : Cert.algebraic_Kernel3Ideal_Reference3Ideal := fun m ρ m' ρ' hp hm =>
  have hr := MoeUp.ranges_of (F := Ideal) (hp 0)
  ⟨fun c => MoeUp.res m c,
    (θ_run Cert.Kernel3Ideal.defs _ _).mono (fun _ h c => ⟨(h.1 c).1.trans (MoeUp.final m hr c), (h.1 c).2⟩)
      (MoeUp.run_post (F := Ideal) m hr ρ),
    (θ_run Cert.Reference3Ideal.defs _ _).mono
      (fun r h c => ⟨(h c).1.trans (by
          unfold MoeUp.res
          rw [(hm c).1, (hm c).2.1, (hm c).2.2.1, (hm c).2.2.2.1, (hm c).2.2.2.2]), (h c).2⟩)
      (MoeUp.ref_run m' ρ' (fun c n => by
        obtain rfl : c = 0 := Subsingleton.elim _ _
        rw [(hm 0).2.1]
        exact hr.expert n))⟩

/-! ## The experts' second product -/

theorem frame_kernel4 : Cert.quiescent_Kernel4 := fun m ρ hp =>
  (MoeDown.run_same m ρ _).mpr ((θ_run Cert.Kernel4Ideal.defs _ _).mono (fun _ h => ⟨fun c => (h.1 c).2, h.2⟩)
    (MoeDown.run_post (F := Bits) m (MoeDown.ranges_of (F := Bits) (hp 0)) ρ))

theorem frame_kernel4Ideal : Cert.quiescent_Kernel4Ideal := fun m ρ hp =>
  (θ_run Cert.Kernel4Ideal.defs _ _).mono (fun _ h => ⟨fun c => (h.1 c).2, h.2⟩)
    (MoeDown.run_post (F := Ideal) m (MoeDown.ranges_of (F := Ideal) (hp 0)) ρ)

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference4Ideal_pre : Cert.quiescent_Reference4Ideal_pre_blocks_in_range := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_down : Cert.algebraic_Kernel4Ideal_Reference4Ideal := fun m ρ m' ρ' hp hm =>
  have hr := MoeDown.ranges_of (F := Ideal) (hp 0)
  ⟨fun c => MoeDown.res m c,
    (θ_run Cert.Kernel4Ideal.defs _ _).mono (fun _ h c => ⟨(h.1 c).1.trans (MoeDown.final m hr c), (h.1 c).2⟩)
      (MoeDown.run_post (F := Ideal) m hr ρ),
    (θ_run Cert.Reference4Ideal.defs _ _).mono
      (fun r h c => ⟨(h c).1.trans (by
          unfold MoeDown.res
          rw [(hm c).1, (hm c).2.1, (hm c).2.2.1, (hm c).2.2.2]), (h c).2⟩)
      (MoeDown.ref_run m' ρ' (fun c n => by
        obtain rfl : c = 0 := Subsingleton.elim _ _
        rw [(hm 0).2.1]
        exact hr.expert n))⟩

/-! ## The output projection -/

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic_out_proj : Cert.algebraic_Kernel5Ideal_Reference5Ideal := fun m ρ m' ρ' _ hm =>
  have e : ∀ c, OutProj.ref1 m' c = OutProj.res1 m c := fun c => by
    unfold OutProj.ref1 OutProj.res1
    rw [(hm c).1, (hm c).2.1, (hm c).2.2.1, (hm c).2.2.2.1, (hm c).2.2.2.2.1, (hm c).2.2.2.2.2.1]
  ⟨fun c => OutProj.res1 m c, fun c => OutProj.res2 m c, OutProj.run m ρ,
    (θ_run Cert.Reference5Ideal.defs _ _).mono
      (fun r h c => ⟨(h c).1.trans (e c),
        (h c).2.1.trans (congrArg₂ OutProj.G2 (e c) (hm c).2.2.2.2.2.2.1), (h c).2.2⟩)
      (OutProj.ref_run m' ρ')⟩

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_slots_partitioned.Gen.facts, Cert.Pre_experts_in_range.Gen.facts, Cert.Pre_blocks_in_range.Gen.facts,
    frame_kernel, frame_kernelIdeal, frame_referenceIdeal, frame_referenceIdeal_pre, frame_reference, frame_kernel2, frame_kernel2Ideal,
    frame_reference2Ideal, frame_kernel3, frame_kernel3Ideal, frame_reference3Ideal, frame_reference3Ideal_pre, frame_kernel4, frame_kernel4Ideal,
    frame_reference4Ideal, frame_reference4Ideal_pre, frame_kernel5, frame_kernel5Ideal, frame_reference5Ideal, trivial,
    algebraic_dispatch, bitexact_dispatch, trivial, algebraic_in_proj, trivial, algebraic_experts, trivial,
    algebraic_down, trivial, algebraic_out_proj⟩

end Cert.Proof

end
